-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptReferenceIdeal (m : (ℓ : Loc Cert.PromptReferenceIdeal.nD Cert.PromptReferenceIdeal.τ Cert.PromptReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4))
      ∧ r.2.sem = fun _ => 0)

def quiescent_PromptReferenceIdeal [hPromptReferenceIdeal : Cert.PromptReferenceIdeal.Facts] : Prop :=
  ∀ (m : (ℓ : Loc Cert.PromptReferenceIdeal.nD Cert.PromptReferenceIdeal.τ Cert.PromptReferenceIdeal.sig) → Buf (Elt Ideal) ℓ) (g : Dev Cert.PromptReferenceIdeal.nD → PrngReg), Pre_PromptReferenceIdeal m →
    θ_run (Cert.PromptReferenceIdeal.defs (F := Ideal)) (onTc (τ := Cert.PromptReferenceIdeal.τ) (Cert.PromptReferenceIdeal.main (F := Ideal))) ⟨m, fun _ => 0, g⟩ (fun r => (∀ c : Dev Cert.PromptReferenceIdeal.nD,
      r.2.mem ((c.tc : Thread Cert.PromptReferenceIdeal.nD Cert.PromptReferenceIdeal.τ).loc Cert.PromptReferenceIdeal.main_arg0) = m ((c.tc : Thread Cert.PromptReferenceIdeal.nD Cert.PromptReferenceIdeal.τ).loc Cert.PromptReferenceIdeal.main_arg0)
      ∧ r.2.mem ((c.tc : Thread Cert.PromptReferenceIdeal.nD Cert.PromptReferenceIdeal.τ).loc Cert.PromptReferenceIdeal.main_arg1) = m ((c.tc : Thread Cert.PromptReferenceIdeal.nD Cert.PromptReferenceIdeal.τ).loc Cert.PromptReferenceIdeal.main_arg1)
      ∧ r.2.mem ((c.tc : Thread Cert.PromptReferenceIdeal.nD Cert.PromptReferenceIdeal.τ).loc Cert.PromptReferenceIdeal.main_arg2) = m ((c.tc : Thread Cert.PromptReferenceIdeal.nD Cert.PromptReferenceIdeal.τ).loc Cert.PromptReferenceIdeal.main_arg2)
      ∧ r.2.mem ((c.tc : Thread Cert.PromptReferenceIdeal.nD Cert.PromptReferenceIdeal.τ).loc Cert.PromptReferenceIdeal.main_arg3) = m ((c.tc : Thread Cert.PromptReferenceIdeal.nD Cert.PromptReferenceIdeal.τ).loc Cert.PromptReferenceIdeal.main_arg3)
      ∧ r.2.mem ((c.tc : Thread Cert.PromptReferenceIdeal.nD Cert.PromptReferenceIdeal.τ).loc Cert.PromptReferenceIdeal.main_arg4) = m ((c.tc : Thread Cert.PromptReferenceIdeal.nD Cert.PromptReferenceIdeal.τ).loc Cert.PromptReferenceIdeal.main_arg4))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v42_1)) (v2 : (c : Dev Cert.KernelIdeal.nD) → Buf (Elt Ideal) ((c.tc : Thread Cert.KernelIdeal.nD Cert.KernelIdeal.τ).loc Cert.KernelIdeal.main_v42_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_v42_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_v136) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v35) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)) →
    ∃ (v0 : (c : Dev Cert.MixIdeal.nD) → Buf (Elt Ideal) ((c.tc : Thread Cert.MixIdeal.nD Cert.MixIdeal.τ).loc Cert.MixIdeal.main_v11)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v11) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v70) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10))

def preserves_Prompt_PromptIdeal : Prop :=
  True

def algebraic_PromptIdeal_PromptReferenceIdeal [hPromptIdeal : Cert.PromptIdeal.Facts] [hPromptReferenceIdeal : Cert.PromptReferenceIdeal.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptReferenceIdeal.nD Cert.PromptReferenceIdeal.τ Cert.PromptReferenceIdeal.sig) → Buf (Elt Ideal) ℓ) (g' : Dev Cert.PromptReferenceIdeal.nD → PrngReg), Pre_PromptIdeal m →
    (∀ c : Dev Cert.PromptIdeal.nD,
      m' ((c.tc : Thread Cert.PromptReferenceIdeal.nD Cert.PromptReferenceIdeal.τ).loc Cert.PromptReferenceIdeal.main_arg0) = m ((c.tc : Thread Cert.PromptIdeal.nD Cert.PromptIdeal.τ).loc Cert.PromptIdeal.main_arg0)
      ∧ m' ((c.tc : Thread Cert.PromptReferenceIdeal.nD Cert.PromptReferenceIdeal.τ).loc Cert.PromptReferenceIdeal.main_arg1) = m ((c.tc : Thread Cert.PromptIdeal.nD Cert.PromptIdeal.τ).loc Cert.PromptIdeal.main_arg1)
      ∧ m' ((c.tc : Thread Cert.PromptReferenceIdeal.nD Cert.PromptReferenceIdeal.τ).loc Cert.PromptReferenceIdeal.main_arg2) = m ((c.tc : Thread Cert.PromptIdeal.nD Cert.PromptIdeal.τ).loc Cert.PromptIdeal.main_arg2)
      ∧ m' ((c.tc : Thread Cert.PromptReferenceIdeal.nD Cert.PromptReferenceIdeal.τ).loc Cert.PromptReferenceIdeal.main_arg3) = m ((c.tc : Thread Cert.PromptIdeal.nD Cert.PromptIdeal.τ).loc Cert.PromptIdeal.main_arg3)
      ∧ m' ((c.tc : Thread Cert.PromptReferenceIdeal.nD Cert.PromptReferenceIdeal.τ).loc Cert.PromptReferenceIdeal.main_arg4) = m ((c.tc : Thread Cert.PromptIdeal.nD Cert.PromptIdeal.τ).loc Cert.PromptIdeal.main_arg4)) →
    ∃ (v0 : (c : Dev Cert.PromptIdeal.nD) → Buf (Elt Ideal) ((c.tc : Thread Cert.PromptIdeal.nD Cert.PromptIdeal.τ).loc Cert.PromptIdeal.main_v5)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v5) = v0 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
          ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4))
      ∧ θ_run (Cert.PromptReferenceIdeal.defs (F := Ideal)) (onTc (τ := Cert.PromptReferenceIdeal.τ) (Cert.PromptReferenceIdeal.main (F := Ideal))) ⟨m', fun _ => 0, g'⟩ (fun r => ∀ c : Dev Cert.PromptReferenceIdeal.nD,
          r.2.mem ((c.tc : Thread Cert.PromptReferenceIdeal.nD Cert.PromptReferenceIdeal.τ).loc Cert.PromptReferenceIdeal.main_v35) = v0 c
          ∧ r.2.mem ((c.tc : Thread Cert.PromptReferenceIdeal.nD Cert.PromptReferenceIdeal.τ).loc Cert.PromptReferenceIdeal.main_arg0) = m' ((c.tc : Thread Cert.PromptReferenceIdeal.nD Cert.PromptReferenceIdeal.τ).loc Cert.PromptReferenceIdeal.main_arg0)
          ∧ r.2.mem ((c.tc : Thread Cert.PromptReferenceIdeal.nD Cert.PromptReferenceIdeal.τ).loc Cert.PromptReferenceIdeal.main_arg1) = m' ((c.tc : Thread Cert.PromptReferenceIdeal.nD Cert.PromptReferenceIdeal.τ).loc Cert.PromptReferenceIdeal.main_arg1)
          ∧ r.2.mem ((c.tc : Thread Cert.PromptReferenceIdeal.nD Cert.PromptReferenceIdeal.τ).loc Cert.PromptReferenceIdeal.main_arg2) = m' ((c.tc : Thread Cert.PromptReferenceIdeal.nD Cert.PromptReferenceIdeal.τ).loc Cert.PromptReferenceIdeal.main_arg2)
          ∧ r.2.mem ((c.tc : Thread Cert.PromptReferenceIdeal.nD Cert.PromptReferenceIdeal.τ).loc Cert.PromptReferenceIdeal.main_arg3) = m' ((c.tc : Thread Cert.PromptReferenceIdeal.nD Cert.PromptReferenceIdeal.τ).loc Cert.PromptReferenceIdeal.main_arg3)
          ∧ r.2.mem ((c.tc : Thread Cert.PromptReferenceIdeal.nD Cert.PromptReferenceIdeal.τ).loc Cert.PromptReferenceIdeal.main_arg4) = m' ((c.tc : Thread Cert.PromptReferenceIdeal.nD Cert.PromptReferenceIdeal.τ).loc Cert.PromptReferenceIdeal.main_arg4))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMix : Cert.Mix.Facts) (hMixIdeal : Cert.MixIdeal.Facts) (hMixReferenceIdeal : Cert.MixReferenceIdeal.Facts) (hPrompt : Cert.Prompt.Facts) (hPromptIdeal : Cert.PromptIdeal.Facts) (hPromptReferenceIdeal : Cert.PromptReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Mix (hMix := hMix)
    ∧ quiescent_MixIdeal (hMixIdeal := hMixIdeal)
    ∧ quiescent_MixReferenceIdeal (hMixReferenceIdeal := hMixReferenceIdeal)
    ∧ quiescent_Prompt (hPrompt := hPrompt)
    ∧ quiescent_PromptIdeal (hPromptIdeal := hPromptIdeal)
    ∧ quiescent_PromptReferenceIdeal (hPromptReferenceIdeal := hPromptReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Mix_MixIdeal
    ∧ algebraic_MixIdeal_MixReferenceIdeal (hMixIdeal := hMixIdeal) (hMixReferenceIdeal := hMixReferenceIdeal)
    ∧ preserves_Prompt_PromptIdeal
    ∧ algebraic_PromptIdeal_PromptReferenceIdeal (hPromptIdeal := hPromptIdeal) (hPromptReferenceIdeal := hPromptReferenceIdeal)
-- ==== Pre_finite.lean ====
abbrev S8x4096x2048 : Shape := ⟨3, ![8, 4096, 2048]⟩
abbrev S2048 : Shape := ⟨1, ![2048]⟩
abbrev S2048x8512 : Shape := ⟨2, ![2048, 8512]⟩
abbrev S768 : Shape := ⟨1, ![768]⟩
abbrev S512 : Shape := ⟨1, ![512]⟩
abbrev S768x3072 : Shape := ⟨2, ![768, 3072]⟩
abbrev S512x4096 : Shape := ⟨2, ![512, 4096]⟩
abbrev S_ : Shape := ⟨0, ![]⟩

class Facts : Prop where
  bcast_S_S8x4096x2048 : S_.BroadcastsInDim S8x4096x2048 (![] : Fin 0 → Fin S8x4096x2048.rank)
  bcast_S_S2048 : S_.BroadcastsInDim S2048 (![] : Fin 0 → Fin S2048.rank)
  bcast_S_S2048x8512 : S_.BroadcastsInDim S2048x8512 (![] : Fin 0 → Fin S2048x8512.rank)
  bcast_S_S768 : S_.BroadcastsInDim S768 (![] : Fin 0 → Fin S768.rank)
  bcast_S_S512 : S_.BroadcastsInDim S512 (![] : Fin 0 → Fin S512.rank)
  bcast_S_S768x3072 : S_.BroadcastsInDim S768x3072 (![] : Fin 0 → Fin S768x3072.rank)
  bcast_S_S512x4096 : S_.BroadcastsInDim S512x4096 (![] : Fin 0 → Fin S512x4096.rank)

variable [Facts]

def fn_part1 {F : FTy → Type} [FloatOps F] (main_arg6 : FVec F S512x4096 .f32) (main_v2 : IVec S8x4096x2048 1) (main_v5 : IVec S2048 1) (main_v8 : IVec S2048x8512 1) (main_v11 : IVec S768 1) (main_v14 : IVec S512 1) (main_v17 : IVec S768x3072 1) : IVec S8x4096x2048 1 × IVec S2048 1 × IVec S2048x8512 1 × IVec S768 1 × IVec S512 1 × IVec S768x3072 1 × IVec S512x4096 1 :=
  let main_v18 : FVec F S512x4096 .f32 := Host.absf main_arg6
  let main_cst_5 : FVec F S_ .f32 := constant S_ .f32 0x7F800000#32
  let main_v19 : FVec F S512x4096 .f32 := broadcastInDim S512x4096 ![] bcast_S_S512x4096 main_cst_5
  let main_v20 : IVec S512x4096 1 := cmpf .olt main_v18 main_v19
  (main_v2, main_v5, main_v8, main_v11, main_v14, main_v17, main_v20)

def fn {F : FTy → Type} [FloatOps F] (main_arg0 : FVec F S8x4096x2048 .f32) (main_arg1 : FVec F S2048 .f32) (main_arg2 : FVec F S2048x8512 .f32) (main_arg3 : FVec F S768 .f32) (main_arg4 : FVec F S512 .f32) (main_arg5 : FVec F S768x3072 .f32) (main_arg6 : FVec F S512x4096 .f32) : IVec S8x4096x2048 1 × IVec S2048 1 × IVec S2048x8512 1 × IVec S768 1 × IVec S512 1 × IVec S768x3072 1 × IVec S512x4096 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S2048x8512 .f32 := Host.absf main_arg2
  let main_cst_1 : FVec F S_ .f32 := constant S_ .f32 0x7F800000#32
  let main_v7 : FVec F S2048x8512 .f32 := broadcastInDim S2048x8512 ![] bcast_S_S2048x8512 main_cst_1
  let main_v8 : IVec S2048x8512 1 := cmpf .olt main_v6 main_v7
  let main_v9 : FVec F S768 .f32 := Host.absf main_arg3
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_v12 : FVec F S512 .f32 := Host.absf main_arg4
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  let main_v15 : FVec F S768x3072 .f32 := Host.absf main_arg5
  let main_cst_4 : FVec F S_ .f32 := constant S_ .f32 0x7F800000#32
  let main_v16 : FVec F S768x3072 .f32 := broadcastInDim S768x3072 ![] bcast_S_S768x3072 main_cst_4
  let main_v17 : IVec S768x3072 1 := cmpf .olt main_v15 main_v16
  fn_part1 (F := F) main_arg6 main_v2 main_v5 main_v8 main_v11 main_v14 main_v17
-- ==== Kernel.lean ====
abbrev S8x4096x2048 : Shape := ⟨3, ![8, 4096, 2048]⟩
abbrev S2048 : Shape := ⟨1, ![2048]⟩
abbrev S2048x8512 : Shape := ⟨2, ![2048, 8512]⟩
abbrev S768 : Shape := ⟨1, ![768]⟩
abbrev S512 : Shape := ⟨1, ![512]⟩
abbrev S768x3072 : Shape := ⟨2, ![768, 3072]⟩
abbrev S512x4096 : Shape := ⟨2, ![512, 4096]⟩
abbrev S2048x1344 : Shape := ⟨2, ![2048, 1344]⟩
abbrev S_ : Shape := ⟨0, ![]⟩
abbrev S2048x64 : Shape := ⟨2, ![2048, 64]⟩
abbrev S2048x1408 : Shape := ⟨2, ![2048, 1408]⟩
abbrev S512x16x256 : Shape := ⟨3, ![512, 16, 256]⟩
abbrev S2048x3072 : Shape := ⟨2, ![2048, 3072]⟩
abbrev S3072x768 : Shape := ⟨2, ![3072, 768]⟩
abbrev S512x16x128 : Shape := ⟨3, ![512, 16, 128]⟩
abbrev S512x2048 : Shape := ⟨2, ![512, 2048]⟩
abbrev S2048x512 : Shape := ⟨2, ![2048, 512]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S32x4096 : Shape := ⟨2, ![32, 4096]⟩
abbrev S32768x2048 : Shape := ⟨2, ![32768, 2048]⟩
abbrev S1x2048 : Shape := ⟨2, ![1, 2048]⟩
abbrev S32768x1408 : Shape := ⟨2, ![32768, 1408]⟩
abbrev S32768x1024 : Shape := ⟨2, ![32768, 1024]⟩
abbrev S512x1408 : Shape := ⟨2, ![512, 1408]⟩
abbrev S512x1024 : Shape := ⟨2, ![512, 1024]⟩
abbrev S512x1 : Shape := ⟨2, ![512, 1]⟩
abbrev S2048x1024 : Shape := ⟨2, ![2048, 1024]⟩
abbrev S1x768 : Shape := ⟨2, ![1, 768]⟩
abbrev S1x512 : Shape := ⟨2, ![1, 512]⟩
abbrev S8x16x192x4096 : Shape := ⟨4, ![8, 16, 192, 4096]⟩
abbrev S8x16x4096x192 : Shape := ⟨4, ![8, 16, 4096, 192]⟩
abbrev S8x8x16x144x512 : Shape := ⟨5, ![8, 8, 16, 144, 512]⟩
abbrev S512x128 : Shape := ⟨2, ![512, 128]⟩
abbrev S32x512 : Shape := ⟨2, ![32, 512]⟩
abbrev S1x16x192x512 : Shape := ⟨4, ![1, 16, 192, 512]⟩
abbrev S1x16x512x192 : Shape := ⟨4, ![1, 16, 512, 192]⟩
abbrev S1x1x16x144x512 : Shape := ⟨5, ![1, 1, 16, 144, 512]⟩
abbrev S512x768 : Shape := ⟨2, ![512, 768]⟩
abbrev S512x512 : Shape := ⟨2, ![512, 512]⟩
abbrev S1x1x512x128 : Shape := ⟨4, ![1, 1, 512, 128]⟩
abbrev S512x64 : Shape := ⟨2, ![512, 64]⟩
abbrev S1x1x512x64 : Shape := ⟨4, ![1, 1, 512, 64]⟩
abbrev S16x128x512 : Shape := ⟨3, ![16, 128, 512]⟩
abbrev S1x1x16x128x512 : Shape := ⟨5, ![1, 1, 16, 128, 512]⟩
abbrev S16x16x512 : Shape := ⟨3, ![16, 16, 512]⟩
abbrev S1x1x16x16x512 : Shape := ⟨5, ![1, 1, 16, 16, 512]⟩
abbrev S3072x512 : Shape := ⟨2, ![3072, 512]⟩
abbrev S16x192x512 : Shape := ⟨3, ![16, 192, 512]⟩
abbrev S16x32x512 : Shape := ⟨3, ![16, 32, 512]⟩
abbrev S1x32x512 : Shape := ⟨3, ![1, 32, 512]⟩
abbrev S1x16x128x512 : Shape := ⟨4, ![1, 16, 128, 512]⟩
abbrev S1x16x32x512 : Shape := ⟨4, ![1, 16, 32, 512]⟩
abbrev S8x16x8x512x192 : Shape := ⟨5, ![8, 16, 8, 512, 192]⟩
abbrev S8x16x1x4096 : Shape := ⟨4, ![8, 16, 1, 4096]⟩
abbrev S1x1x192x4096 : Shape := ⟨4, ![1, 1, 192, 4096]⟩
abbrev S1x1x8x512x192 : Shape := ⟨5, ![1, 1, 8, 512, 192]⟩
abbrev S1x8x1x144x512 : Shape := ⟨5, ![1, 8, 1, 144, 512]⟩
abbrev S1x4096x128 : Shape := ⟨3, ![1, 4096, 128]⟩
abbrev S1x1x1x4096 : Shape := ⟨4, ![1, 1, 1, 4096]⟩
abbrev S4x144x1024 : Shape := ⟨3, ![4, 144, 1024]⟩
abbrev S1x1x192x1024 : Shape := ⟨4, ![1, 1, 192, 1024]⟩
abbrev S192x1024 : Shape := ⟨2, ![192, 1024]⟩
abbrev S1x1x1x512x192 : Shape := ⟨5, ![1, 1, 1, 512, 192]⟩
abbrev S512x192 : Shape := ⟨2, ![512, 192]⟩
abbrev S1024 : Shape := ⟨1, ![1024]⟩
abbrev S1x1024 : Shape := ⟨2, ![1, 1024]⟩
abbrev S144x1024 : Shape := ⟨2, ![144, 1024]⟩
abbrev S1x144x1024 : Shape := ⟨3, ![1, 144, 1024]⟩
abbrev S1x1x1x144x512 : Shape := ⟨5, ![1, 1, 1, 144, 512]⟩
abbrev S144x512 : Shape := ⟨2, ![144, 512]⟩
abbrev S1x1x1x1024 : Shape := ⟨4, ![1, 1, 1, 1024]⟩
abbrev S128x1024 : Shape := ⟨2, ![128, 1024]⟩
abbrev S1024x128 : Shape := ⟨2, ![1024, 128]⟩
abbrev S1x1024x128 : Shape := ⟨3, ![1, 1024, 128]⟩

abbrev nBuf : Space → Nat
  | .hbm => 66
  | .vmem => 45
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x8512, .f32⟩
  | .hbm, ⟨3, _⟩ => ⟨S768, .f32⟩
  | .hbm, ⟨4, _⟩ => ⟨S512, .f32⟩
  | .hbm, ⟨5, _⟩ => ⟨S768x3072, .f32⟩
  | .hbm, ⟨6, _⟩ => ⟨S512x4096, .f32⟩
  | .hbm, ⟨7, _⟩ => ⟨S2048x1344, .f32⟩
  | .hbm, ⟨8, _⟩ => ⟨S_, .f32⟩
  | .hbm, ⟨9, _⟩ => ⟨S2048x64, .f32⟩
  | .hbm, ⟨10, _⟩ => ⟨S2048x1408, .f32⟩
  | .hbm, ⟨11, _⟩ => ⟨S2048x1408, .bf16⟩
  | .hbm, ⟨12, _⟩ => ⟨S512x16x256, .f32⟩
  | .hbm, ⟨13, _⟩ => ⟨S2048x3072, .f32⟩
  | .hbm, ⟨14, _⟩ => ⟨S2048x3072, .bf16⟩
  | .hbm, ⟨15, _⟩ => ⟨S3072x768, .f32⟩
  | .hbm, ⟨16, _⟩ => ⟨S3072x768, .bf16⟩
  | .hbm, ⟨17, _⟩ => ⟨S512x16x128, .f32⟩
  | .hbm, ⟨18, _⟩ => ⟨S512x2048, .f32⟩
  | .hbm, ⟨19, _⟩ => ⟨S512x2048, .bf16⟩
  | .hbm, ⟨20, _⟩ => ⟨S512x16x128, .f32⟩
  | .hbm, ⟨21, _⟩ => ⟨S512x2048, .f32⟩
  | .hbm, ⟨22, _⟩ => ⟨S2048x512, .f32⟩
  | .hbm, ⟨23, _⟩ => ⟨S2048x512, .bf16⟩
  | .hbm, ⟨24, _⟩ => ⟨S4096, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S4096x1, .f32⟩
  | .hbm, ⟨40, _⟩ => ⟨S1x32, .f32⟩
  | .hbm, ⟨41, _⟩ => ⟨S4096x32, .f32⟩
  | .hbm, ⟨42, _⟩ => ⟨S4096x32, .f32⟩
  | .hbm, ⟨43, _⟩ => ⟨S4096x32, .f32⟩
  | .hbm, ⟨44, _⟩ => ⟨S4096x32, .f32⟩
  | .hbm, ⟨45, _⟩ => ⟨S4096x32, .f32⟩
  | .hbm, ⟨46, _⟩ => ⟨S_, .f32⟩
  | .hbm, ⟨47, _⟩ => ⟨S4096x64, .f32⟩
  | .hbm, ⟨48, _⟩ => ⟨S4096x128, .f32⟩
  | .hbm, ⟨49, _⟩ => ⟨S4096x32, .f32⟩
  | .hbm, ⟨50, _⟩ => ⟨S4096x128, .f32⟩
  | .hbm, ⟨51, _⟩ => ⟨S32x4096, .f32⟩
  | .hbm, ⟨52, _⟩ => ⟨S32x4096, .f32⟩
  | .hbm, ⟨53, _⟩ => ⟨S32768x2048, .f32⟩
  | .hbm, ⟨54, _⟩ => ⟨S1x2048, .f32⟩
  | .hbm, ⟨55, _⟩ => ⟨S32768x1408, .f32⟩
  | .hbm, ⟨56, _⟩ => ⟨S32768x1024, .bf16⟩
  | .hbm, ⟨57, _⟩ => ⟨S32768x1024, .bf16⟩
  | .hbm, ⟨58, _⟩ => ⟨S1x768, .f32⟩
  | .hbm, ⟨59, _⟩ => ⟨S1x512, .f32⟩
  | .hbm, ⟨60, _⟩ => ⟨S8x16x192x4096, .bf16⟩
  | .hbm, ⟨61, _⟩ => ⟨S8x16x4096x192, .bf16⟩
  | .hbm, ⟨62, _⟩ => ⟨S8x8x16x144x512, .bf16⟩
  | .hbm, ⟨63, _⟩ => ⟨S8x16x8x512x192, .bf16⟩
  | .hbm, ⟨64, _⟩ => ⟨S8x4096x2048, .bf16⟩
  | .hbm, ⟨65, _⟩ => ⟨S8x16x1x4096, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1408, .bf16⟩
  | .local _ .vmem, ⟨4, _⟩ => ⟨S2048x3072, .bf16⟩
  | .local _ .vmem, ⟨5, _⟩ => ⟨S512x1408, .f32⟩
  | .local _ .vmem, ⟨6, _⟩ => ⟨S512x1408, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1408, .f32⟩
  | .local _ .vmem, ⟨12, _⟩ => ⟨S512x1408, .f32⟩
  | .local _ .vmem, ⟨13, _⟩ => ⟨S1x768, .f32⟩
  | .local _ .vmem, ⟨14, _⟩ => ⟨S1x512, .f32⟩
  | .local _ .vmem, ⟨15, _⟩ => ⟨S3072x768, .bf16⟩
  | .local _ .vmem, ⟨16, _⟩ => ⟨S512x2048, .bf16⟩
  | .local _ .vmem, ⟨17, _⟩ => ⟨S2048x512, .bf16⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S32x512, .f32⟩
  | .local _ .vmem, ⟨23, _⟩ => ⟨S32x512, .f32⟩
  | .local _ .vmem, ⟨24, _⟩ => ⟨S32x512, .f32⟩
  | .local _ .vmem, ⟨25, _⟩ => ⟨S32x512, .f32⟩
  | .local _ .vmem, ⟨26, _⟩ => ⟨S1x16x192x512, .bf16⟩
  | .local _ .vmem, ⟨27, _⟩ => ⟨S1x16x192x512, .bf16⟩
  | .local _ .vmem, ⟨28, _⟩ => ⟨S1x16x512x192, .bf16⟩
  | .local _ .vmem, ⟨29, _⟩ => ⟨S1x16x512x192, .bf16⟩
  | .local _ .vmem, ⟨30, _⟩ => ⟨S1x1x16x144x512, .bf16⟩
  | .local _ .vmem, ⟨31, _⟩ => ⟨S1x1x16x144x512, .bf16⟩
  | .local _ .vmem, ⟨32, _⟩ => ⟨S1x1x192x4096, .bf16⟩
  | .local _ .vmem, ⟨33, _⟩ => ⟨S1x1x192x4096, .bf16⟩
  | .local _ .vmem, ⟨34, _⟩ => ⟨S1x1x8x512x192, .bf16⟩
  | .local _ .vmem, ⟨35, _⟩ => ⟨S1x1x8x512x192, .bf16⟩
  | .local _ .vmem, ⟨36, _⟩ => ⟨S1x8x1x144x512, .bf16⟩
  | .local _ .vmem, ⟨37, _⟩ => ⟨S1x8x1x144x512, .bf16⟩
  | .local _ .vmem, ⟨38, _⟩ => ⟨S1x4096x128, .bf16⟩
  | .local _ .vmem, ⟨39, _⟩ => ⟨S1x4096x128, .bf16⟩
  | .local _ .vmem, ⟨40, _⟩ => ⟨S1x1x1x4096, .f32⟩
  | .local _ .vmem, ⟨41, _⟩ => ⟨S1x1x1x4096, .f32⟩
  | .local _ .vmem, ⟨42, _⟩ => ⟨S512x1024, .bf16⟩
  | .local _ .vmem, ⟨43, _⟩ => ⟨S512x1024, .bf16⟩
  | .local _ .vmem, ⟨44, _⟩ => ⟨S4x144x1024, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42_0 : Ref sig .tc := ⟨.hbm, 55, rfl⟩
abbrev main_v42_1 : Ref sig .tc := ⟨.hbm, 56, rfl⟩
abbrev main_v42_2 : Ref sig .tc := ⟨.hbm, 57, rfl⟩
abbrev main_v43 : Ref sig .tc := ⟨.hbm, 58, rfl⟩
abbrev main_v44 : Ref sig .tc := ⟨.hbm, 59, rfl⟩
abbrev main_v45_0 : Ref sig .tc := ⟨.hbm, 60, rfl⟩
abbrev main_v45_1 : Ref sig .tc := ⟨.hbm, 61, rfl⟩
abbrev main_v45_2 : Ref sig .tc := ⟨.hbm, 62, rfl⟩
abbrev main_v46 : Ref sig .tc := ⟨.hbm, 63, rfl⟩
abbrev main_v47_0 : Ref sig .tc := ⟨.hbm, 64, rfl⟩
abbrev main_v47_1 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc1_stg10_1 : Ref sig .tc := ⟨.vmem, 27, rfl⟩
abbrev cc1_stg11_0 : Ref sig .tc := ⟨.vmem, 28, rfl⟩
abbrev cc1_stg11_1 : Ref sig .tc := ⟨.vmem, 29, rfl⟩
abbrev cc1_stg12_0 : Ref sig .tc := ⟨.vmem, 30, rfl⟩
abbrev cc1_stg12_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_scratch0 : Ref sig .tc := ⟨.vmem, 42, rfl⟩
abbrev cc2_scratch1 : Ref sig .tc := ⟨.vmem, 43, rfl⟩
abbrev cc2_scratch2 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem9_1 : DmaSem sig := 25
abbrev cc1_sem10_0 : DmaSem sig := 26
abbrev cc1_sem10_1 : DmaSem sig := 27
abbrev cc1_sem11_0 : DmaSem sig := 28
abbrev cc1_sem11_1 : DmaSem sig := 29
abbrev cc1_sem12_0 : DmaSem sig := 30
abbrev cc1_sem12_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_10 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc1_transform_11 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_12 (i : grid1.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![arg0.toNat, v16.toNat, c0_i32_11.toNat, c0_i32_12.toNat, v26.toNat]

abbrev stage1_0 : Fin 2 → Memref sig .tc .vmem S512x1408 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S3072x768 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S512x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S2048x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S512x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S32x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![false, true]

abbrev stage1_9 : Fin 2 → Memref sig .tc .vmem S32x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![false, true]

abbrev stage1_10 : Fin 2 → Memref sig .tc .vmem S1x16x192x512 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x16x512x192 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x1x16x144x512 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev grid2 : Pipeline.Grid := ⟨3, ![8, 16, 1], ![false, false, false]⟩

def cc2_transform_0 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc2_transform_1 (i : grid2.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc2_transform_2 (i : grid2.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc2_transform_4 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage2_0 : Fin 2 → Memref sig .tc .vmem S1x1x192x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x1x8x512x192 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 2 → Memref sig .tc .vmem S1x8x1x144x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1x4096x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

abbrev stage2_4 : Fin 2 → Memref sig .tc .vmem S1x1x1x4096 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, true]
-- ==== KernelIdeal.lean ====
variable {F : FTy → Type} [FloatOps F] [Named F]
def κ : String → Option EReal := fun
  | "scale_log2e" => some (((Real.sqrt 192)⁻¹ * (Real.log 2)⁻¹ : ℝ) : EReal)
  | _ => none
-- ==== ReferenceIdeal.lean ====
abbrev S8x4096x2048 : Shape := ⟨3, ![8, 4096, 2048]⟩
abbrev S2048 : Shape := ⟨1, ![2048]⟩
abbrev S2048x8512 : Shape := ⟨2, ![2048, 8512]⟩
abbrev S768 : Shape := ⟨1, ![768]⟩
abbrev S512 : Shape := ⟨1, ![512]⟩
abbrev S768x3072 : Shape := ⟨2, ![768, 3072]⟩
abbrev S512x4096 : Shape := ⟨2, ![512, 4096]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x8512 : Shape := ⟨3, ![8, 4096, 8512]⟩
abbrev S8x4096x768 : Shape := ⟨3, ![8, 4096, 768]⟩
abbrev S8x4096x512 : Shape := ⟨3, ![8, 4096, 512]⟩
abbrev S8x4096x64 : Shape := ⟨3, ![8, 4096, 64]⟩
abbrev S8x4096x1024 : Shape := ⟨3, ![8, 4096, 1024]⟩
abbrev S1x1x768 : Shape := ⟨3, ![1, 1, 768]⟩
abbrev S8x4096x3072 : Shape := ⟨3, ![8, 4096, 3072]⟩
abbrev S8x4096x16x192 : Shape := ⟨4, ![8, 4096, 16, 192]⟩
abbrev S8x4096x16x128 : Shape := ⟨4, ![8, 4096, 16, 128]⟩
abbrev S8x4096x16x64 : Shape := ⟨4, ![8, 4096, 16, 64]⟩
abbrev S1x1x512 : Shape := ⟨3, ![1, 1, 512]⟩
abbrev S8x4096x4096 : Shape := ⟨3, ![8, 4096, 4096]⟩
abbrev S8x4096x16x256 : Shape := ⟨4, ![8, 4096, 16, 256]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S8x4096x16x32 : Shape := ⟨4, ![8, 4096, 16, 32]⟩
abbrev S1x4096x1x32 : Shape := ⟨4, ![1, 4096, 1, 32]⟩
abbrev S8x4096x32 : Shape := ⟨3, ![8, 4096, 32]⟩
abbrev S1x4096x32 : Shape := ⟨3, ![1, 4096, 32]⟩
abbrev S8x16x4096x4096 : Shape := ⟨4, ![8, 16, 4096, 4096]⟩
abbrev S8x4096x4096x16 : Shape := ⟨4, ![8, 4096, 4096, 16]⟩
abbrev S8x16x4096 : Shape := ⟨3, ![8, 16, 4096]⟩
abbrev S8x16x4096x1 : Shape := ⟨4, ![8, 16, 4096, 1]⟩
abbrev S8x16x128x4096 : Shape := ⟨4, ![8, 16, 128, 4096]⟩
abbrev S32768x1024 : Shape := ⟨2, ![32768, 1024]⟩

abbrev nBuf : Space → Nat
  | .hbm => 162
  | .vmem => 0
  | .smem => 0
  | _ => 0

abbrev hbmTy0_0 (i : Nat) : BufTy := match i % 128 with
  | 0 => ⟨S8x4096x2048, .f32⟩
  | 1 => ⟨S2048, .f32⟩
  | 2 => ⟨S2048x8512, .f32⟩
  | 3 => ⟨S768, .f32⟩
  | 4 => ⟨S512, .f32⟩
  | 5 => ⟨S768x3072, .f32⟩
  | 6 => ⟨S512x4096, .f32⟩
  | 7 => ⟨S8x4096x2048, .f32⟩
  | 8 => ⟨S_, .f32⟩
  | 9 => ⟨S8x4096, .f32⟩
  | 10 => ⟨S8x4096x1, .f32⟩
  | 11 => ⟨S_, .f32⟩
  | 12 => ⟨S8x4096x1, .f32⟩
  | 13 => ⟨S8x4096x1, .f32⟩
  | 14 => ⟨S_, .f32⟩
  | 15 => ⟨S8x4096x1, .f32⟩
  | 16 => ⟨S8x4096x1, .f32⟩
  | 17 => ⟨S8x4096x1, .f32⟩
  | 18 => ⟨S8x4096x2048, .f32⟩
  | 19 => ⟨S8x4096x2048, .f32⟩
  | 20 => ⟨S1x1x2048, .f32⟩
  | 21 => ⟨S8x4096x2048, .f32⟩
  | 22 => ⟨S8x4096x2048, .f32⟩
  | 23 => ⟨S8x4096x8512, .f32⟩
  | 24 => ⟨S8x4096x768, .f32⟩
  | 25 => ⟨S8x4096x512, .f32⟩
  | 26 => ⟨S8x4096x64, .f32⟩
  | 27 => ⟨S8x4096x1024, .f32⟩
  | 28 => ⟨S8x4096x1024, .f32⟩
  | 29 => ⟨S8x4096x1024, .f32⟩
  | 30 => ⟨S8x4096x768, .f32⟩
  | 31 => ⟨S_, .f32⟩
  | 32 => ⟨S8x4096, .f32⟩
  | 33 => ⟨S8x4096x1, .f32⟩
  | 34 => ⟨S_, .f32⟩
  | 35 => ⟨S8x4096x1, .f32⟩
  | 36 => ⟨S8x4096x1, .f32⟩
  | 37 => ⟨S_, .f32⟩
  | 38 => ⟨S8x4096x1, .f32⟩
  | 39 => ⟨S8x4096x1, .f32⟩
  | 40 => ⟨S8x4096x1, .f32⟩
  | 41 => ⟨S8x4096x768, .f32⟩
  | 42 => ⟨S8x4096x768, .f32⟩
  | 43 => ⟨S1x1x768, .f32⟩
  | 44 => ⟨S8x4096x768, .f32⟩
  | 45 => ⟨S8x4096x768, .f32⟩
  | 46 => ⟨S8x4096x3072, .f32⟩
  | 47 => ⟨S8x4096x16x192, .f32⟩
  | 48 => ⟨S8x4096x16x128, .f32⟩
  | 49 => ⟨S8x4096x16x64, .f32⟩
  | 50 => ⟨S8x4096x512, .f32⟩
  | 51 => ⟨S_, .f32⟩
  | 52 => ⟨S8x4096, .f32⟩
  | 53 => ⟨S8x4096x1, .f32⟩
  | 54 => ⟨S_, .f32⟩
  | 55 => ⟨S8x4096x1, .f32⟩
  | 56 => ⟨S8x4096x1, .f32⟩
  | 57 => ⟨S_, .f32⟩
  | 58 => ⟨S8x4096x1, .f32⟩
  | 59 => ⟨S8x4096x1, .f32⟩
  | 60 => ⟨S8x4096x1, .f32⟩
  | 61 => ⟨S8x4096x512, .f32⟩
  | 62 => ⟨S8x4096x512, .f32⟩
  | 63 => ⟨S1x1x512, .f32⟩
  | 64 => ⟨S8x4096x512, .f32⟩
  | 65 => ⟨S8x4096x512, .f32⟩
  | 66 => ⟨S8x4096x4096, .f32⟩
  | 67 => ⟨S8x4096x16x256, .f32⟩
  | 68 => ⟨S8x4096x16x128, .f32⟩
  | 69 => ⟨S8x4096x16x128, .f32⟩
  | 70 => ⟨S4096, .f32⟩
  | 71 => ⟨S32, .f32⟩
  | 72 => ⟨S_, .f32⟩
  | 73 => ⟨S32, .f32⟩
  | 74 => ⟨S32, .f32⟩
  | 75 => ⟨S_, .f32⟩
  | 76 => ⟨S32, .f32⟩
  | 77 => ⟨S32, .f32⟩
  | 78 => ⟨S32, .f32⟩
  | 79 => ⟨S_, .f32⟩
  | 80 => ⟨S32, .f32⟩
  | 81 => ⟨S32, .f32⟩
  | 82 => ⟨S_, .f32⟩
  | 83 => ⟨S32, .f32⟩
  | 84 => ⟨S32, .f32⟩
  | 85 => ⟨S4096x1, .f32⟩
  | 86 => ⟨S1x32, .f32⟩
  | 87 => ⟨S4096x32, .f32⟩
  | 88 => ⟨S4096x32, .f32⟩
  | 89 => ⟨S4096x32, .f32⟩
  | 90 => ⟨S4096x32, .f32⟩
  | 91 => ⟨S4096x32, .f32⟩
  | 92 => ⟨S_, .f32⟩
  | 93 => ⟨S_, .f32⟩
  | 94 => ⟨S_, .f32⟩
  | 95 => ⟨S4096x1x32, .f32⟩
  | 96 => ⟨S4096x1x32, .f32⟩
  | 97 => ⟨S8x4096x16x32, .f32⟩
  | 98 => ⟨S8x4096x16x32, .f32⟩
  | 99 => ⟨S1x4096x1x32, .f32⟩
  | 100 => ⟨S8x4096x16x32, .f32⟩
  | 101 => ⟨S8x4096x16x32, .f32⟩
  | 102 => ⟨S1x4096x1x32, .f32⟩
  | 103 => ⟨S8x4096x16x32, .f32⟩
  | 104 => ⟨S8x4096x16x32, .f32⟩
  | 105 => ⟨S8x4096x16x32, .f32⟩
  | 106 => ⟨S1x4096x1x32, .f32⟩
  | 107 => ⟨S8x4096x16x32, .f32⟩
  | 108 => ⟨S8x4096x16x32, .f32⟩
  | 109 => ⟨S1x4096x1x32, .f32⟩
  | 110 => ⟨S8x4096x16x32, .f32⟩
  | 111 => ⟨S8x4096x16x32, .f32⟩
  | 112 => ⟨S8x4096x16x32, .f32⟩
  | 113 => ⟨S8x4096x16x64, .f32⟩
  | 114 => ⟨S8x4096x16x64, .f32⟩
  | 115 => ⟨S8x4096x16x64, .f32⟩
  | 116 => ⟨S8x4096x16x128, .f32⟩
  | 117 => ⟨S8x4096x16x128, .f32⟩
  | 118 => ⟨S8x4096x32, .f32⟩
  | 119 => ⟨S8x4096x32, .f32⟩
  | 120 => ⟨S1x4096x32, .f32⟩
  | 121 => ⟨S8x4096x32, .f32⟩
  | 122 => ⟨S8x4096x32, .f32⟩
  | 123 => ⟨S1x4096x32, .f32⟩
  | 124 => ⟨S8x4096x32, .f32⟩
  | 125 => ⟨S8x4096x32, .f32⟩
  | 126 => ⟨S8x4096x32, .f32⟩
  | 127 => ⟨S1x4096x32, .f32⟩
  | _ => ⟨S8x4096x2048, .f32⟩

abbrev hbmTy0_1 (i : Nat) : BufTy := match i % 128 with
  | 0 => ⟨S8x4096x32, .f32⟩
  | 1 => ⟨S8x4096x32, .f32⟩
  | 2 => ⟨S1x4096x32, .f32⟩
  | 3 => ⟨S8x4096x32, .f32⟩
  | 4 => ⟨S8x4096x32, .f32⟩
  | 5 => ⟨S8x4096x32, .f32⟩
  | 6 => ⟨S8x4096x64, .f32⟩
  | 7 => ⟨S8x16x4096x4096, .f32⟩
  | 8 => ⟨S8x4096x4096x16, .f32⟩
  | 9 => ⟨S8x16x4096x4096, .f32⟩
  | 10 => ⟨S8x16x4096x4096, .f32⟩
  | 11 => ⟨S_, .f32⟩
  | 12 => ⟨S8x16x4096, .f32⟩
  | 13 => ⟨S_, .f32⟩
  | 14 => ⟨S8x16x4096, .f32⟩
  | 15 => ⟨S8x16x4096, .f32⟩
  | 16 => ⟨S8x16x4096x1, .f32⟩
  | 17 => ⟨S8x16x4096x4096, .f32⟩
  | 18 => ⟨S8x16x4096x4096, .f32⟩
  | 19 => ⟨S8x16x4096x4096, .f32⟩
  | 20 => ⟨S_, .f32⟩
  | 21 => ⟨S8x16x4096, .f32⟩
  | 22 => ⟨S8x16x4096x1, .f32⟩
  | 23 => ⟨S8x16x4096x4096, .f32⟩
  | 24 => ⟨S8x16x4096x4096, .f32⟩
  | 25 => ⟨S8x16x128x4096, .f32⟩
  | 26 => ⟨S8x4096x16x128, .f32⟩
  | 27 => ⟨S8x4096x2048, .f32⟩
  | 28 => ⟨S8x4096x2048, .bf16⟩
  | 29 => ⟨S32768x1024, .f32⟩
  | 30 => ⟨S32768x1024, .bf16⟩
  | 31 => ⟨S8x4096x1024, .f32⟩
  | 32 => ⟨S32768x1024, .f32⟩
  | 33 => ⟨S32768x1024, .bf16⟩
  | _ => ⟨S8x4096x2048, .f32⟩

abbrev hbmTy (i : Nat) : BufTy := match i / 128 with
  | 0 => hbmTy0_0 i
  | 1 => hbmTy0_1 i
  | _ => ⟨S8x4096x2048, .f32⟩

abbrev bufTy : (tb : Table) → Fin (tcTables nBuf tb) → BufTy
  | .hbm, ⟨i, _⟩ => hbmTy i
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_cst_9 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_10 : Ref sig .tc := ⟨.hbm, 79, rfl⟩
abbrev main_v61 : Ref sig .tc := ⟨.hbm, 80, rfl⟩
abbrev main_v62 : Ref sig .tc := ⟨.hbm, 81, rfl⟩
abbrev main_cst_11 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_12 : Ref sig .tc := ⟨.hbm, 92, rfl⟩
abbrev main_cst_13 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_cst_14 : Ref sig .tc := ⟨.hbm, 139, rfl⟩
abbrev main_v117 : Ref sig .tc := ⟨.hbm, 140, rfl⟩
abbrev main_cst_15 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_cst_16 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩

abbrev nD : Nat := 1
abbrev τ : Topo := Topo.v7x

variable {F : FTy → Type} [FloatOps F]
-- ==== Ffn.lean ====
abbrev S8x4096x2048 : Shape := ⟨3, ![8, 4096, 2048]⟩
abbrev S2048 : Shape := ⟨1, ![2048]⟩
abbrev S2048x11264 : Shape := ⟨2, ![2048, 11264]⟩
abbrev S5632x2048 : Shape := ⟨2, ![5632, 2048]⟩
abbrev S32768x2048 : Shape := ⟨2, ![32768, 2048]⟩
abbrev S1x2048 : Shape := ⟨2, ![1, 2048]⟩
abbrev S512x2048 : Shape := ⟨2, ![512, 2048]⟩
abbrev S2048x512 : Shape := ⟨2, ![2048, 512]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S2048, .f32⟩
  | .hbm, ⟨5, _⟩ => ⟨S32768x2048, .f32⟩
  | .hbm, ⟨6, _⟩ => ⟨S1x2048, .f32⟩
  | .hbm, ⟨7, _⟩ => ⟨S2048x11264, .bf16⟩
  | .hbm, ⟨8, _⟩ => ⟨S5632x2048, .bf16⟩
  | .hbm, ⟨9, _⟩ => ⟨S1x2048, .f32⟩
  | .hbm, ⟨10, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 11], ![false, false]⟩

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnIdeal.lean ====
abbrev S8x4096x2048 : Shape := ⟨3, ![8, 4096, 2048]⟩
abbrev S2048 : Shape := ⟨1, ![2048]⟩
abbrev S2048x11264 : Shape := ⟨2, ![2048, 11264]⟩
abbrev S5632x2048 : Shape := ⟨2, ![5632, 2048]⟩
abbrev S32768x2048 : Shape := ⟨2, ![32768, 2048]⟩
abbrev S1x2048 : Shape := ⟨2, ![1, 2048]⟩
abbrev S512x2048 : Shape := ⟨2, ![512, 2048]⟩
abbrev S2048x512 : Shape := ⟨2, ![2048, 512]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S2048, .f32⟩
  | .hbm, ⟨5, _⟩ => ⟨S32768x2048, .f32⟩
  | .hbm, ⟨6, _⟩ => ⟨S1x2048, .f32⟩
  | .hbm, ⟨7, _⟩ => ⟨S2048x11264, .bf16⟩
  | .hbm, ⟨8, _⟩ => ⟨S5632x2048, .bf16⟩
  | .hbm, ⟨9, _⟩ => ⟨S1x2048, .f32⟩
  | .hbm, ⟨10, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 11], ![false, false]⟩

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnReferenceIdeal.lean ====
abbrev S8x4096x2048 : Shape := ⟨3, ![8, 4096, 2048]⟩
abbrev S2048 : Shape := ⟨1, ![2048]⟩
abbrev S2048x11264 : Shape := ⟨2, ![2048, 11264]⟩
abbrev S5632x2048 : Shape := ⟨2, ![5632, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x11264 : Shape := ⟨3, ![8, 4096, 11264]⟩
abbrev S8x4096x5632 : Shape := ⟨3, ![8, 4096, 5632]⟩
abbrev S32768x2048 : Shape := ⟨2, ![32768, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S2048, .f32⟩
  | .hbm, ⟨5, _⟩ => ⟨S8x4096x2048, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x2048, .f32⟩
  | .hbm, ⟨17, _⟩ => ⟨S8x4096x2048, .f32⟩
  | .hbm, ⟨18, _⟩ => ⟨S1x1x2048, .f32⟩
  | .hbm, ⟨19, _⟩ => ⟨S8x4096x2048, .f32⟩
  | .hbm, ⟨20, _⟩ => ⟨S8x4096x2048, .f32⟩
  | .hbm, ⟨21, _⟩ => ⟨S8x4096x11264, .f32⟩
  | .hbm, ⟨22, _⟩ => ⟨S8x4096x5632, .f32⟩
  | .hbm, ⟨23, _⟩ => ⟨S8x4096x5632, .f32⟩
  | .hbm, ⟨24, _⟩ => ⟨S8x4096x5632, .f32⟩
  | .hbm, ⟨25, _⟩ => ⟨S8x4096x5632, .f32⟩
  | .hbm, ⟨26, _⟩ => ⟨S_, .f32⟩
  | .hbm, ⟨27, _⟩ => ⟨S8x4096x5632, .f32⟩
  | .hbm, ⟨28, _⟩ => ⟨S8x4096x5632, .f32⟩
  | .hbm, ⟨29, _⟩ => ⟨S_, .f32⟩
  | .hbm, ⟨30, _⟩ => ⟨S8x4096x5632, .f32⟩
  | .hbm, ⟨31, _⟩ => ⟨S8x4096x5632, .f32⟩
  | .hbm, ⟨32, _⟩ => ⟨S8x4096x5632, .f32⟩
  | .hbm, ⟨33, _⟩ => ⟨S8x4096x5632, .f32⟩
  | .hbm, ⟨34, _⟩ => ⟨S8x4096x2048, .f32⟩
  | .hbm, ⟨35, _⟩ => ⟨S8x4096x2048, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S8x4096x1, .f32⟩
  | .hbm, ⟨46, _⟩ => ⟨S8x4096x2048, .f32⟩
  | .hbm, ⟨47, _⟩ => ⟨S8x4096x2048, .f32⟩
  | .hbm, ⟨48, _⟩ => ⟨S1x1x2048, .f32⟩
  | .hbm, ⟨49, _⟩ => ⟨S8x4096x2048, .f32⟩
  | .hbm, ⟨50, _⟩ => ⟨S8x4096x2048, .f32⟩
  | .hbm, ⟨51, _⟩ => ⟨S_, .f32⟩
  | .hbm, ⟨52, _⟩ => ⟨S8x4096x2048, .f32⟩
  | .hbm, ⟨53, _⟩ => ⟨S8x4096x2048, .f32⟩
  | .hbm, ⟨54, _⟩ => ⟨S8x4096x2048, .f32⟩
  | .hbm, ⟨55, _⟩ => ⟨S32768x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Mix.lean ====
abbrev S8x4096x2048 : Shape := ⟨3, ![8, 4096, 2048]⟩
abbrev S8x4096x1024 : Shape := ⟨3, ![8, 4096, 1024]⟩
abbrev S2048 : Shape := ⟨1, ![2048]⟩
abbrev S2048x8512 : Shape := ⟨2, ![2048, 8512]⟩
abbrev S4096 : Shape := ⟨1, ![4096]⟩
abbrev S3x1024 : Shape := ⟨2, ![3, 1024]⟩
abbrev S1024x2048 : Shape := ⟨2, ![1024, 2048]⟩
abbrev S2048x2048 : Shape := ⟨2, ![2048, 2048]⟩
abbrev S32768x2048 : Shape := ⟨2, ![32768, 2048]⟩
abbrev S32768x1024 : Shape := ⟨2, ![32768, 1024]⟩
abbrev S1x2048 : Shape := ⟨2, ![1, 2048]⟩
abbrev S2048x4096 : Shape := ⟨2, ![2048, 4096]⟩
abbrev S1x4096 : Shape := ⟨2, ![1, 4096]⟩
abbrev S512x2048 : Shape := ⟨2, ![512, 2048]⟩
abbrev S512x512 : Shape := ⟨2, ![512, 512]⟩
abbrev S512x1024 : Shape := ⟨2, ![512, 1024]⟩
abbrev S8x1024 : Shape := ⟨2, ![8, 1024]⟩
abbrev S2048x512 : Shape := ⟨2, ![2048, 512]⟩
abbrev S1x512 : Shape := ⟨2, ![1, 512]⟩
abbrev S1024x512 : Shape := ⟨2, ![1024, 512]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S1x1024 : Shape := ⟨2, ![1, 1024]⟩
abbrev S256x512 : Shape := ⟨2, ![256, 512]⟩

abbrev nBuf : Space → Nat
  | .hbm => 23
  | .vmem => 32
  | .smem => 0
  | _ => 0

abbrev bufTy : (tb : Table) → Fin (tcTables nBuf tb) → BufTy
  | .hbm, ⟨0, _⟩ => ⟨S8x4096x2048, .f32⟩
  | .hbm, ⟨1, _⟩ => ⟨S8x4096x2048, .bf16⟩
  | .hbm, ⟨2, _⟩ => ⟨S8x4096x1024, .bf16⟩
  | .hbm, ⟨3, _⟩ => ⟨S8x4096x1024, .bf16⟩
  | .hbm, ⟨4, _⟩ => ⟨S2048, .f32⟩
  | .hbm, ⟨5, _⟩ => ⟨S2048x8512, .f32⟩
  | .hbm, ⟨6, _⟩ => ⟨S4096, .f32⟩
  | .hbm, ⟨7, _⟩ => ⟨S3x1024, .f32⟩
  | .hbm, ⟨8, _⟩ => ⟨S1024x2048, .f32⟩
  | .hbm, ⟨9, _⟩ => ⟨S2048x2048, .f32⟩
  | .hbm, ⟨10, _⟩ => ⟨S2048, .f32⟩
  | .hbm, ⟨11, _⟩ => ⟨S32768x2048, .f32⟩
  | .hbm, ⟨12, _⟩ => ⟨S32768x2048, .bf16⟩
  | .hbm, ⟨13, _⟩ => ⟨S32768x1024, .bf16⟩
  | .hbm, ⟨14, _⟩ => ⟨S32768x1024, .bf16⟩
  | .hbm, ⟨15, _⟩ => ⟨S1x2048, .f32⟩
  | .hbm, ⟨16, _⟩ => ⟨S2048x4096, .f32⟩
  | .hbm, ⟨17, _⟩ => ⟨S2048x4096, .bf16⟩
  | .hbm, ⟨18, _⟩ => ⟨S1x4096, .f32⟩
  | .hbm, ⟨19, _⟩ => ⟨S1024x2048, .bf16⟩
  | .hbm, ⟨20, _⟩ => ⟨S2048x2048, .bf16⟩
  | .hbm, ⟨21, _⟩ => ⟨S1x2048, .f32⟩
  | .hbm, ⟨22, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S8x1024, .bf16⟩
  | .local _ .vmem, ⟨9, _⟩ => ⟨S8x1024, .bf16⟩
  | .local _ .vmem, ⟨10, _⟩ => ⟨S8x1024, .bf16⟩
  | .local _ .vmem, ⟨11, _⟩ => ⟨S8x1024, .bf16⟩
  | .local _ .vmem, ⟨12, _⟩ => ⟨S1x2048, .f32⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S3x1024, .f32⟩
  | .local _ .vmem, ⟨22, _⟩ => ⟨S1024x512, .bf16⟩
  | .local _ .vmem, ⟨23, _⟩ => ⟨S1024x512, .bf16⟩
  | .local _ .vmem, ⟨24, _⟩ => ⟨S512x2048, .bf16⟩
  | .local _ .vmem, ⟨25, _⟩ => ⟨S512x2048, .bf16⟩
  | .local _ .vmem, ⟨26, _⟩ => ⟨S1x2048, .f32⟩
  | .local _ .vmem, ⟨27, _⟩ => ⟨S512x2048, .f32⟩
  | .local _ .vmem, ⟨28, _⟩ => ⟨S512x2048, .f32⟩
  | .local _ .vmem, ⟨29, _⟩ => ⟨S512x2048, .bf16⟩
  | .local _ .vmem, ⟨30, _⟩ => ⟨S512x1024, .bf16⟩
  | .local _ .vmem, ⟨31, _⟩ => ⟨S512x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg15_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨2, ![64, 4], ![false, false]⟩

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S3x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S512x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== MixReferenceIdeal.lean ====
abbrev S8x4096x2048 : Shape := ⟨3, ![8, 4096, 2048]⟩
abbrev S8x4096x1024 : Shape := ⟨3, ![8, 4096, 1024]⟩
abbrev S2048 : Shape := ⟨1, ![2048]⟩
abbrev S2048x8512 : Shape := ⟨2, ![2048, 8512]⟩
abbrev S4096 : Shape := ⟨1, ![4096]⟩
abbrev S3x1024 : Shape := ⟨2, ![3, 1024]⟩
abbrev S1024x2048 : Shape := ⟨2, ![1024, 2048]⟩
abbrev S2048x2048 : Shape := ⟨2, ![2048, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x8512 : Shape := ⟨3, ![8, 4096, 8512]⟩
abbrev S8x4096x4096 : Shape := ⟨3, ![8, 4096, 4096]⟩
abbrev S1x1x4096 : Shape := ⟨3, ![1, 1, 4096]⟩
abbrev S8x4098x1024 : Shape := ⟨3, ![8, 4098, 1024]⟩
abbrev S1x1024 : Shape := ⟨2, ![1, 1024]⟩
abbrev S1024 : Shape := ⟨1, ![1024]⟩
abbrev S1x1x1024 : Shape := ⟨3, ![1, 1, 1024]⟩
abbrev S32768x2048 : Shape := ⟨2, ![32768, 2048]⟩

abbrev nBuf : Space → Nat
  | .hbm => 92
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x4096x2048, .bf16⟩
  | .hbm, ⟨2, _⟩ => ⟨S8x4096x1024, .bf16⟩
  | .hbm, ⟨3, _⟩ => ⟨S8x4096x1024, .bf16⟩
  | .hbm, ⟨4, _⟩ => ⟨S2048, .f32⟩
  | .hbm, ⟨5, _⟩ => ⟨S2048x8512, .f32⟩
  | .hbm, ⟨6, _⟩ => ⟨S4096, .f32⟩
  | .hbm, ⟨7, _⟩ => ⟨S3x1024, .f32⟩
  | .hbm, ⟨8, _⟩ => ⟨S1024x2048, .f32⟩
  | .hbm, ⟨9, _⟩ => ⟨S2048x2048, .f32⟩
  | .hbm, ⟨10, _⟩ => ⟨S2048, .f32⟩
  | .hbm, ⟨11, _⟩ => ⟨S8x4096x2048, .f32⟩
  | .hbm, ⟨12, _⟩ => ⟨S8x4096x1024, .f32⟩
  | .hbm, ⟨13, _⟩ => ⟨S8x4096x1024, .f32⟩
  | .hbm, ⟨14, _⟩ => ⟨S8x4096x2048, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x2048, .f32⟩
  | .hbm, ⟨26, _⟩ => ⟨S8x4096x2048, .f32⟩
  | .hbm, ⟨27, _⟩ => ⟨S1x1x2048, .f32⟩
  | .hbm, ⟨28, _⟩ => ⟨S8x4096x2048, .f32⟩
  | .hbm, ⟨29, _⟩ => ⟨S8x4096x2048, .f32⟩
  | .hbm, ⟨30, _⟩ => ⟨S8x4096x8512, .f32⟩
  | .hbm, ⟨31, _⟩ => ⟨S8x4096x4096, .f32⟩
  | .hbm, ⟨32, _⟩ => ⟨S1x1x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S8x4096x4096, .f32⟩
  | .hbm, ⟨39, _⟩ => ⟨S8x4096x4096, .f32⟩
  | .hbm, ⟨40, _⟩ => ⟨S_, .f32⟩
  | .hbm, ⟨41, _⟩ => ⟨S8x4096x4096, .f32⟩
  | .hbm, ⟨42, _⟩ => ⟨S8x4096x4096, .f32⟩
  | .hbm, ⟨43, _⟩ => ⟨S8x4096x2048, .f32⟩
  | .hbm, ⟨44, _⟩ => ⟨S8x4096x2048, .f32⟩
  | .hbm, ⟨45, _⟩ => ⟨S_, .i32⟩
  | .hbm, ⟨46, _⟩ => ⟨S_, .f32⟩
  | .hbm, ⟨47, _⟩ => ⟨S8x4098x1024, .f32⟩
  | .hbm, ⟨48, _⟩ => ⟨S8x4096x1024, .f32⟩
  | .hbm, ⟨49, _⟩ => ⟨S1x1024, .f32⟩
  | .hbm, ⟨50, _⟩ => ⟨S1024, .f32⟩
  | .hbm, ⟨51, _⟩ => ⟨S1x1x1024, .f32⟩
  | .hbm, ⟨52, _⟩ => ⟨S8x4096x1024, .f32⟩
  | .hbm, ⟨53, _⟩ => ⟨S8x4096x1024, .f32⟩
  | .hbm, ⟨54, _⟩ => ⟨S8x4096x1024, .f32⟩
  | .hbm, ⟨55, _⟩ => ⟨S1x1024, .f32⟩
  | .hbm, ⟨56, _⟩ => ⟨S1024, .f32⟩
  | .hbm, ⟨57, _⟩ => ⟨S1x1x1024, .f32⟩
  | .hbm, ⟨58, _⟩ => ⟨S8x4096x1024, .f32⟩
  | .hbm, ⟨59, _⟩ => ⟨S8x4096x1024, .f32⟩
  | .hbm, ⟨60, _⟩ => ⟨S8x4096x1024, .f32⟩
  | .hbm, ⟨61, _⟩ => ⟨S8x4096x1024, .f32⟩
  | .hbm, ⟨62, _⟩ => ⟨S1x1024, .f32⟩
  | .hbm, ⟨63, _⟩ => ⟨S1024, .f32⟩
  | .hbm, ⟨64, _⟩ => ⟨S1x1x1024, .f32⟩
  | .hbm, ⟨65, _⟩ => ⟨S8x4096x1024, .f32⟩
  | .hbm, ⟨66, _⟩ => ⟨S8x4096x1024, .f32⟩
  | .hbm, ⟨67, _⟩ => ⟨S8x4096x1024, .f32⟩
  | .hbm, ⟨68, _⟩ => ⟨S8x4096x1024, .f32⟩
  | .hbm, ⟨69, _⟩ => ⟨S8x4096x2048, .f32⟩
  | .hbm, ⟨70, _⟩ => ⟨S8x4096x2048, .f32⟩
  | .hbm, ⟨71, _⟩ => ⟨S8x4096x2048, .f32⟩
  | .hbm, ⟨72, _⟩ => ⟨S8x4096x2048, .f32⟩
  | .hbm, ⟨73, _⟩ => ⟨S8x4096x2048, .f32⟩
  | .hbm, ⟨74, _⟩ => ⟨S8x4096x2048, .f32⟩
  | .hbm, ⟨75, _⟩ => ⟨S_, .f32⟩
  | .hbm, ⟨76, _⟩ => ⟨S8x4096, .f32⟩
  | .hbm, ⟨77, _⟩ => ⟨S8x4096x1, .f32⟩
  | .hbm, ⟨78, _⟩ => ⟨S_, .f32⟩
  | .hbm, ⟨79, _⟩ => ⟨S8x4096x1, .f32⟩
  | .hbm, ⟨80, _⟩ => ⟨S8x4096x1, .f32⟩
  | .hbm, ⟨81, _⟩ => ⟨S_, .f32⟩
  | .hbm, ⟨82, _⟩ => ⟨S8x4096x1, .f32⟩
  | .hbm, ⟨83, _⟩ => ⟨S8x4096x1, .f32⟩
  | .hbm, ⟨84, _⟩ => ⟨S8x4096x1, .f32⟩
  | .hbm, ⟨85, _⟩ => ⟨S8x4096x2048, .f32⟩
  | .hbm, ⟨86, _⟩ => ⟨S8x4096x2048, .f32⟩
  | .hbm, ⟨87, _⟩ => ⟨S1x1x2048, .f32⟩
  | .hbm, ⟨88, _⟩ => ⟨S8x4096x2048, .f32⟩
  | .hbm, ⟨89, _⟩ => ⟨S8x4096x2048, .f32⟩
  | .hbm, ⟨90, _⟩ => ⟨S8x4096x2048, .f32⟩
  | .hbm, ⟨91, _⟩ => ⟨S32768x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c : Ref sig .tc := ⟨.hbm, 45, rfl⟩
abbrev main_call0_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_4 : Ref sig .tc := ⟨.hbm, 75, rfl⟩
abbrev main_v57 : Ref sig .tc := ⟨.hbm, 76, rfl⟩
abbrev main_v58 : Ref sig .tc := ⟨.hbm, 77, rfl⟩
abbrev main_cst_5 : Ref sig .tc := ⟨.hbm, 78, rfl⟩
abbrev main_v59 : Ref sig .tc := ⟨.hbm, 79, rfl⟩
abbrev main_v60 : Ref sig .tc := ⟨.hbm, 80, rfl⟩
abbrev main_cst_6 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩

abbrev nD : Nat := 1
abbrev τ : Topo := Topo.v7x

variable {F : FTy → Type} [FloatOps F]
-- ==== Prompt.lean ====
abbrev S1x16384x2048 : Shape := ⟨3, ![1, 16384, 2048]⟩
abbrev S2048 : Shape := ⟨1, ![2048]⟩
abbrev S2048x11264 : Shape := ⟨2, ![2048, 11264]⟩
abbrev S5632x2048 : Shape := ⟨2, ![5632, 2048]⟩
abbrev S16384x2048 : Shape := ⟨2, ![16384, 2048]⟩
abbrev S1x2048 : Shape := ⟨2, ![1, 2048]⟩
abbrev S512x2048 : Shape := ⟨2, ![512, 2048]⟩
abbrev S2048x512 : Shape := ⟨2, ![2048, 512]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S1x16384x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S2048, .f32⟩
  | .hbm, ⟨5, _⟩ => ⟨S16384x2048, .f32⟩
  | .hbm, ⟨6, _⟩ => ⟨S1x2048, .f32⟩
  | .hbm, ⟨7, _⟩ => ⟨S2048x11264, .bf16⟩
  | .hbm, ⟨8, _⟩ => ⟨S5632x2048, .bf16⟩
  | .hbm, ⟨9, _⟩ => ⟨S1x2048, .f32⟩
  | .hbm, ⟨10, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== PromptReferenceIdeal.lean ====
abbrev S1x16384x2048 : Shape := ⟨3, ![1, 16384, 2048]⟩
abbrev S2048 : Shape := ⟨1, ![2048]⟩
abbrev S2048x11264 : Shape := ⟨2, ![2048, 11264]⟩
abbrev S5632x2048 : Shape := ⟨2, ![5632, 2048]⟩
abbrev S_ : Shape := ⟨0, ![]⟩
abbrev S1x16384 : Shape := ⟨2, ![1, 16384]⟩
abbrev S1x16384x1 : Shape := ⟨3, ![1, 16384, 1]⟩
abbrev S1x1x2048 : Shape := ⟨3, ![1, 1, 2048]⟩
abbrev S1x16384x11264 : Shape := ⟨3, ![1, 16384, 11264]⟩
abbrev S1x16384x5632 : Shape := ⟨3, ![1, 16384, 5632]⟩
abbrev S16384x2048 : Shape := ⟨2, ![16384, 2048]⟩

abbrev nBuf : Space → Nat
  | .hbm => 56
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S2048, .f32⟩
  | .hbm, ⟨5, _⟩ => ⟨S1x16384x2048, .f32⟩
  | .hbm, ⟨6, _⟩ => ⟨S_, .f32⟩
  | .hbm, ⟨7, _⟩ => ⟨S1x16384, .f32⟩
  | .hbm, ⟨8, _⟩ => ⟨S1x16384x1, .f32⟩
  | .hbm, ⟨9, _⟩ => ⟨S_, .f32⟩
  | .hbm, ⟨10, _⟩ => ⟨S1x16384x1, .f32⟩
  | .hbm, ⟨11, _⟩ => ⟨S1x16384x1, .f32⟩
  | .hbm, ⟨12, _⟩ => ⟨S_, .f32⟩
  | .hbm, ⟨13, _⟩ => ⟨S1x16384x1, .f32⟩
  | .hbm, ⟨14, _⟩ => ⟨S1x16384x1, .f32⟩
  | .hbm, ⟨15, _⟩ => ⟨S1x16384x1, .f32⟩
  | .hbm, ⟨16, _⟩ => ⟨S1x16384x2048, .f32⟩
  | .hbm, ⟨17, _⟩ => ⟨S1x16384x2048, .f32⟩
  | .hbm, ⟨18, _⟩ => ⟨S1x1x2048, .f32⟩
  | .hbm, ⟨19, _⟩ => ⟨S1x16384x2048, .f32⟩
  | .hbm, ⟨20, _⟩ => ⟨S1x16384x2048, .f32⟩
  | .hbm, ⟨21, _⟩ => ⟨S1x16384x11264, .f32⟩
  | .hbm, ⟨22, _⟩ => ⟨S1x16384x5632, .f32⟩
  | .hbm, ⟨23, _⟩ => ⟨S1x16384x5632, .f32⟩
  | .hbm, ⟨24, _⟩ => ⟨S1x16384x5632, .f32⟩
  | .hbm, ⟨25, _⟩ => ⟨S1x16384x5632, .f32⟩
  | .hbm, ⟨26, _⟩ => ⟨S_, .f32⟩
  | .hbm, ⟨27, _⟩ => ⟨S1x16384x5632, .f32⟩
  | .hbm, ⟨28, _⟩ => ⟨S1x16384x5632, .f32⟩
  | .hbm, ⟨29, _⟩ => ⟨S_, .f32⟩
  | .hbm, ⟨30, _⟩ => ⟨S1x16384x5632, .f32⟩
  | .hbm, ⟨31, _⟩ => ⟨S1x16384x5632, .f32⟩
  | .hbm, ⟨32, _⟩ => ⟨S1x16384x5632, .f32⟩
  | .hbm, ⟨33, _⟩ => ⟨S1x16384x5632, .f32⟩
  | .hbm, ⟨34, _⟩ => ⟨S1x16384x2048, .f32⟩
  | .hbm, ⟨35, _⟩ => ⟨S1x16384x2048, .f32⟩
  | .hbm, ⟨36, _⟩ => ⟨S_, .f32⟩
  | .hbm, ⟨37, _⟩ => ⟨S1x16384, .f32⟩
  | .hbm, ⟨38, _⟩ => ⟨S1x16384x1, .f32⟩
  | .hbm, ⟨39, _⟩ => ⟨S_, .f32⟩
  | .hbm, ⟨40, _⟩ => ⟨S1x16384x1, .f32⟩
  | .hbm, ⟨41, _⟩ => ⟨S1x16384x1, .f32⟩
  | .hbm, ⟨42, _⟩ => ⟨S_, .f32⟩
  | .hbm, ⟨43, _⟩ => ⟨S1x16384x1, .f32⟩
  | .hbm, ⟨44, _⟩ => ⟨S1x16384x1, .f32⟩
  | .hbm, ⟨45, _⟩ => ⟨S1x16384x1, .f32⟩
  | .hbm, ⟨46, _⟩ => ⟨S1x16384x2048, .f32⟩
  | .hbm, ⟨47, _⟩ => ⟨S1x16384x2048, .f32⟩
  | .hbm, ⟨48, _⟩ => ⟨S1x1x2048, .f32⟩
  | .hbm, ⟨49, _⟩ => ⟨S1x16384x2048, .f32⟩
  | .hbm, ⟨50, _⟩ => ⟨S1x16384x2048, .f32⟩
  | .hbm, ⟨51, _⟩ => ⟨S_, .f32⟩
  | .hbm, ⟨52, _⟩ => ⟨S1x16384x2048, .f32⟩
  | .hbm, ⟨53, _⟩ => ⟨S1x16384x2048, .f32⟩
  | .hbm, ⟨54, _⟩ => ⟨S1x16384x2048, .f32⟩
  | .hbm, ⟨55, _⟩ => ⟨S16384x2048, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Proof.AttnMath.lean ====
/- The mathematics of softmax attention with a running reference taken one block late, over the extended reals: for
   real scores and weights the accumulators are `2 ^ (-reference)` times the plain sums, so the quotient of two of them
   is the softmax-weighted mean. -/
module

public import Idealize.ShloMosaic.Lib.KernelVsHost

@[expose] public section

noncomputable section

namespace Cert.Attn

open Idealize.ShloMosaic

/-- The largest of a block of scores. -/
def mx {n : ℕ} (s : Fin n → EReal) : EReal := Finset.univ.fold max ⊥ s

/-- The reference of block `c`: the first block's own maximum, then the maximum of the blocks before. -/
def refs {n : ℕ} (s : ℕ → Fin n → EReal) : ℕ → EReal
  | 0 => mx (s 0)
  | c + 1 => max (refs s c) (mx (s c))

/-- The accumulator after block `c`, with weights `w`. -/
def accs {n : ℕ} (s w : ℕ → Fin n → EReal) : ℕ → EReal
  | 0 => 1 * 0 + ∑ r, w 0 r * Ideal.exp2 (s 0 r - refs s 0)
  | c + 1 => Ideal.exp2 (refs s c - refs s (c + 1)) * accs s w c
      + ∑ r, w (c + 1) r * Ideal.exp2 (s (c + 1) r - refs s (c + 1))

/-- A value that is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem isReal_sum {ι : Type*} {s : Finset ι} {f : ι → EReal} (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))
theorem IsReal.ne_top {x : EReal} (hx : IsReal x) : x ≠ ⊤ := by obtain ⟨a, rfl⟩ := hx; exact EReal.coe_ne_top a
theorem IsReal.ne_bot {x : EReal} (hx : IsReal x) : x ≠ ⊥ := by obtain ⟨a, rfl⟩ := hx; exact EReal.coe_ne_bot a
theorem isReal_of {x : EReal} (h : x ≠ ⊥) (h' : x ≠ ⊤) : IsReal x := ⟨x.toReal, (EReal.coe_toReal h' h).symm⟩
/-- The reciprocal square root of a positive real is real. -/
theorem isReal_rsqrt {r : ℝ} (h : 0 < r) : IsReal (Ideal.rsqrt (r : EReal)) := by
  rw [Ideal.rsqrt_coe, if_neg (not_lt.2 h.le), if_neg h.ne']; exact isReal_coe _

/-- The sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem mx_real {n : ℕ} (hn : 0 < n) (s : Fin n → ℝ) : IsReal (mx fun r => (s r : EReal)) := by
  apply isReal_of
  · refine ne_of_gt ?_
    exact (Finset.lt_fold_max _).2 (.inr ⟨⟨0, hn⟩, Finset.mem_univ _, EReal.bot_lt_coe _⟩)
  · refine ne_of_lt ?_
    exact (Finset.fold_max_lt _).2 ⟨bot_lt_top, fun r _ => EReal.coe_lt_top _⟩

theorem refs_real {n : ℕ} (hn : 0 < n) (s : ℕ → Fin n → ℝ) (c : ℕ) : IsReal (refs (fun c r => (s c r : EReal)) c) := by
  induction c with
  | zero => exact mx_real hn _
  | succ c ih =>
    rw [refs]
    rcases max_choice (refs (fun c r => (s c r : EReal)) c) (mx fun r => (s c r : EReal)) with h | h <;> rw [h]
    · exact ih
    · exact mx_real hn _

theorem exp2_sub (a b : ℝ) : Ideal.exp2 ((a : EReal) - (b : EReal)) = ((2 ^ (-b) * 2 ^ a : ℝ) : EReal) := by
  rw [← EReal.coe_sub, Ideal.exp2_coe, ← Real.rpow_add two_pos]
  congr 1
  show (2 : ℝ) ^ (a - b) = _
  congr 1; ring

theorem block_sum {n : ℕ} (s w : Fin n → ℝ) (b : ℝ) :
    ∑ r, (w r : EReal) * Ideal.exp2 ((s r : EReal) - (b : EReal)) = ((2 ^ (-b) * ∑ r, w r * 2 ^ s r : ℝ) : EReal) := by
  rw [Finset.mul_sum, coe_sum]
  refine Finset.sum_congr rfl fun r _ => ?_
  rw [exp2_sub, ← EReal.coe_mul]
  congr 1; ring

/-- For real scores and weights the accumulator is `2 ^ (-reference)` times the plain sum. -/
theorem accs_real {n : ℕ} (hn : 0 < n) (s : ℕ → Fin n → ℝ) (c : ℕ) : ∃ b : ℝ, ∀ w : ℕ → Fin n → ℝ,
    accs (fun c r => (s c r : EReal)) (fun c r => (w c r : EReal)) c
      = ((2 ^ (-b) * ∑ c' ∈ Finset.range (c + 1), ∑ r, w c' r * 2 ^ s c' r : ℝ) : EReal)
    ∧ refs (fun c r => (s c r : EReal)) c = (b : EReal) := by
  induction c with
  | zero =>
    obtain ⟨b, hb⟩ := refs_real hn s 0
    refine ⟨b, fun w => ⟨?_, hb⟩⟩
    rw [accs, hb, block_sum, mul_zero, zero_add, Finset.sum_range_one]
  | succ c ih =>
    obtain ⟨b, ih⟩ := ih
    obtain ⟨b', hb'⟩ := refs_real hn s (c + 1)
    refine ⟨b', fun w => ⟨?_, hb'⟩⟩
    rw [accs, (ih w).1, (ih w).2, hb', block_sum, exp2_sub, ← EReal.coe_mul, ← EReal.coe_add,
      Finset.sum_range_succ _ (c + 1)]
    congr 1
    have h : (2 : ℝ) ^ b * 2 ^ (-b) = 1 := by rw [← Real.rpow_add two_pos]; simp
    linear_combination (2 ^ (-b') * ∑ c' ∈ Finset.range (c + 1), ∑ r, w c' r * 2 ^ s c' r) * h

/-- The quotient of the accumulators with weights `w` and with weights one. -/
theorem quot_real {n : ℕ} (hn : 0 < n) (s w : ℕ → Fin n → ℝ) (c : ℕ) :
    Ideal.div (accs (fun c r => (s c r : EReal)) (fun c r => (w c r : EReal)) c)
        (accs (fun c r => (s c r : EReal)) (fun _ _ => (1 : EReal)) c)
      = (((∑ c' ∈ Finset.range (c + 1), ∑ r, w c' r * 2 ^ s c' r)
          / (∑ c' ∈ Finset.range (c + 1), ∑ r, 2 ^ s c' r) : ℝ) : EReal) := by
  obtain ⟨b, h⟩ := accs_real hn s c
  rw [(h w).1, show (fun (_ : ℕ) (_ : Fin n) => (1 : EReal)) = fun c r => (((fun _ _ => 1 : ℕ → Fin n → ℝ) c r : ℝ) : EReal) from rfl,
    (h _).1]
  simp only [one_mul]
  have hpos : 0 < ∑ c' ∈ Finset.range (c + 1), ∑ r : Fin n, (2 : ℝ) ^ s c' r := by
    haveI : Nonempty (Fin n) := ⟨⟨0, hn⟩⟩
    refine Finset.sum_pos (fun c' _ => Finset.sum_pos (fun r _ => Real.rpow_pos_of_pos two_pos _) Finset.univ_nonempty) ?_
    exact ⟨0, Finset.mem_range.2 (Nat.succ_pos c)⟩
  have hb : (0 : ℝ) < 2 ^ (-b) := Real.rpow_pos_of_pos two_pos _
  rw [Ideal.div_coe (mul_pos hb hpos).ne', ← EReal.coe_mul]
  congr 1
  field_simp

/-- The plain softmax-weighted sum of real scores and weights, as an extended-real expression with any real reference
    subtracted, is the quotient of the plain sums. -/
theorem softmax_real {ι : Type*} [Fintype ι] [Nonempty ι] (t v : ι → ℝ) (M : ℝ) :
    ∑ k, Ideal.div (Ideal.exp ((t k : EReal) - (M : EReal))) (0 + ∑ j, Ideal.exp ((t j : EReal) - (M : EReal))) * (v k : EReal)
      = (((∑ k, v k * Real.exp (t k)) / (∑ k, Real.exp (t k)) : ℝ) : EReal) := by
  have hs : ∀ k, Ideal.exp ((t k : EReal) - (M : EReal)) = ((Real.exp (-M) * Real.exp (t k) : ℝ) : EReal) := fun k => by
    rw [← EReal.coe_sub, Ideal.exp_coe, ← Real.exp_add]; congr 2; ring
  have hpos : 0 < ∑ k, Real.exp (t k) := Finset.sum_pos (fun _ _ => Real.exp_pos _) Finset.univ_nonempty
  have hM := Real.exp_pos (-M)
  simp only [hs, zero_add]
  rw [← coe_sum, ← Finset.mul_sum]
  simp only [Ideal.div_coe (mul_pos hM hpos).ne', ← EReal.coe_mul]
  rw [← coe_sum]
  congr 1
  rw [Finset.sum_div]
  refine Finset.sum_congr rfl fun k _ => ?_
  field_simp

theorem max_real {ι : Type*} [Fintype ι] [Nonempty ι] (t : ι → ℝ) :
    IsReal (max ⊥ (Finset.univ.fold max ⊥ fun k => (t k : EReal))) := by
  obtain ⟨k⟩ := ‹Nonempty ι›
  rw [max_eq_right bot_le]
  apply isReal_of
  · exact ne_of_gt ((Finset.lt_fold_max _).2 (.inr ⟨k, Finset.mem_univ _, EReal.bot_lt_coe _⟩))
  · exact ne_of_lt ((Finset.fold_max_lt _).2 ⟨bot_lt_top, fun r _ => EReal.coe_lt_top _⟩)

theorem two_rpow_div_log (x : ℝ) : (2 : ℝ) ^ (x * (Real.log 2)⁻¹) = Real.exp x := by
  rw [Real.rpow_def_of_pos two_pos]
  congr 1
  have : Real.log 2 ≠ 0 := (Real.log_pos one_lt_two).ne'
  field_simp

end Cert.Attn

end
-- ==== Proof.LayerMath.lean ====
module

public import proofs.«01_k».proof.Proof.AttnMath

@[expose] public section

noncomputable section

open Idealize.ShloMosaic

/-! # The layer's arithmetic, row by row

Everything the projections compute for one token, as functions of that token's row of latents. -/

namespace Cert.Attn

/-- Root-mean-square normalisation of a row, times a gain. `d` is the row's length as a number. -/
def rms {n : ℕ} (d : EReal) (x g : Fin n → EReal) (k : Fin n) : EReal :=
  x k * Ideal.rsqrt (Ideal.div (∑ j, x j * x j) d + Ideal.ofBits FTy.f32 897988541#32) * g k

/-- The normalised query latent. -/
def qlat (l : Fin 1408 → EReal) (g : Fin 768 → EReal) : Fin 768 → EReal :=
  rms (Ideal.ofBits FTy.f32 1145044992#32) (fun j : Fin 768 => l ⟨j, by omega⟩) g

/-- The normalised key and value latent. -/
def kvlat (l : Fin 1408 → EReal) (g : Fin 512 → EReal) : Fin 512 → EReal :=
  rms (Ideal.ofBits FTy.f32 1140850688#32) (fun j : Fin 512 => l ⟨768 + j, by omega⟩) g

/-- One feature of the scaled query before its rotation. -/
def qraw (κ : EReal) (l : Fin 1408 → EReal) (g : Fin 768 → EReal) (w : Fin 3072 → Fin 768 → EReal) (f : Fin 3072) : EReal :=
  (∑ r, w f r * qlat l g r) * κ

/-- The query of a head: 128 plain features, then 64 rotated ones. -/
def qrow (κ : EReal) (l : Fin 1408 → EReal) (g : Fin 768 → EReal) (w : Fin 3072 → Fin 768 → EReal) (cos sin : Fin 32 → EReal)
    (h : Fin 16) (e : Fin 192) : EReal :=
  if h1 : e.val < 128 then qraw κ l g w ⟨h * 192 + e, by omega⟩
  else if h2 : e.val < 160 then
    qraw κ l g w ⟨h * 192 + (128 + (e - 128)), by omega⟩ * cos ⟨e - 128, by omega⟩
      - qraw κ l g w ⟨h * 192 + (160 + (e - 128)), by omega⟩ * sin ⟨e - 128, by omega⟩
  else
    qraw κ l g w ⟨h * 192 + (160 + (e - 160)), by omega⟩ * cos ⟨e - 160, by omega⟩
      + qraw κ l g w ⟨h * 192 + (128 + (e - 160)), by omega⟩ * sin ⟨e - 160, by omega⟩

theorem qrow_plain (κ : EReal) (l : Fin 1408 → EReal) (g : Fin 768 → EReal) (w : Fin 3072 → Fin 768 → EReal) (cos sin : Fin 32 → EReal)
    (h : Fin 16) (e : ℕ) (he : e < 128) :
    qrow κ l g w cos sin h ⟨e, by omega⟩ = qraw κ l g w ⟨h * 192 + e, by omega⟩ := by
  unfold qrow; rw [dif_pos he]

theorem qrow_first (κ : EReal) (l : Fin 1408 → EReal) (g : Fin 768 → EReal) (w : Fin 3072 → Fin 768 → EReal) (cos sin : Fin 32 → EReal)
    (h : Fin 16) (j : ℕ) (hj : j < 32) :
    qrow κ l g w cos sin h ⟨128 + j, by omega⟩
      = qraw κ l g w ⟨h * 192 + (128 + j), by omega⟩ * cos ⟨j, hj⟩ - qraw κ l g w ⟨h * 192 + (160 + j), by omega⟩ * sin ⟨j, hj⟩ := by
  unfold qrow
  rw [dif_neg (by simp), dif_pos (by show 128 + j < 160; omega)]
  simp only [Nat.add_sub_cancel_left]

theorem qrow_second (κ : EReal) (l : Fin 1408 → EReal) (g : Fin 768 → EReal) (w : Fin 3072 → Fin 768 → EReal) (cos sin : Fin 32 → EReal)
    (h : Fin 16) (j : ℕ) (hj : j < 32) :
    qrow κ l g w cos sin h ⟨160 + j, by omega⟩
      = qraw κ l g w ⟨h * 192 + (160 + j), by omega⟩ * cos ⟨j, hj⟩ + qraw κ l g w ⟨h * 192 + (128 + j), by omega⟩ * sin ⟨j, hj⟩ := by
  unfold qrow
  rw [dif_neg (by show ¬(160 + j < 128); omega), dif_neg (by show ¬(160 + j < 160); omega)]
  simp only [Nat.add_sub_cancel_left]

/-- The rotated part of the key, by tables that hold the signs: the partner of lane `j` is 32 away. -/
def krot (l : Fin 1408 → EReal) (kc ks : Fin 128 → EReal) (j : Fin 64) : EReal :=
  l ⟨1280 + j, by omega⟩ * kc ⟨j, by omega⟩
    + (if j.val < 32 then l ⟨1280 + (j + 128 - 96) % 128, by omega⟩ else l ⟨1280 + (j + 128 - 32) % 128, by omega⟩) * ks ⟨j, by omega⟩

/-- The key of a head: 128 plain features, then the 64 rotated ones every head shares. -/
def krow (l : Fin 1408 → EReal) (g : Fin 512 → EReal) (w : Fin 512 → Fin 2048 → EReal) (kc ks : Fin 128 → EReal)
    (h : Fin 16) (e : Fin 192) : EReal :=
  if h1 : e.val < 128 then ∑ r, kvlat l g r * w r ⟨h * 128 + e, by omega⟩ else krot l kc ks ⟨e - 128, by omega⟩

theorem krow_plain (l : Fin 1408 → EReal) (g : Fin 512 → EReal) (w : Fin 512 → Fin 2048 → EReal) (kc ks : Fin 128 → EReal)
    (h : Fin 16) (e : ℕ) (he : e < 128) (f : Fin 2048) (hf : f.val = h * 128 + e) :
    krow l g w kc ks h ⟨e, by omega⟩ = ∑ r, kvlat l g r * w r f := by
  unfold krow; rw [dif_pos he]
  refine Finset.sum_congr rfl fun r _ => congrArg (fun f => kvlat l g r * w r f) (Fin.ext hf.symm)

theorem krow_rot (l : Fin 1408 → EReal) (g : Fin 512 → EReal) (w : Fin 512 → Fin 2048 → EReal) (kc ks : Fin 128 → EReal)
    (h : Fin 16) (j : ℕ) (hj : j < 64) :
    krow l g w kc ks h ⟨128 + j, by omega⟩ = krot l kc ks ⟨j, hj⟩ := by
  unfold krow; rw [dif_neg (by show ¬(128 + j < 128); omega)]
  simp only [Nat.add_sub_cancel_left]

/-- The value of a head: 128 features, then a one and fifteen zeros. -/
def vrow (l : Fin 1408 → EReal) (g : Fin 512 → EReal) (w : Fin 2048 → Fin 512 → EReal) (h : Fin 16) (d : Fin 144) : EReal :=
  if h1 : d.val < 128 then ∑ r, w ⟨h * 128 + d, by omega⟩ r * kvlat l g r else if d.val = 128 then 1 else 0

theorem vrow_plain (l : Fin 1408 → EReal) (g : Fin 512 → EReal) (w : Fin 2048 → Fin 512 → EReal) (h : Fin 16) (d : ℕ) (hd : d < 128) :
    vrow l g w h ⟨d, by omega⟩ = ∑ r, w ⟨h * 128 + d, by omega⟩ r * kvlat l g r := by
  unfold vrow; rw [dif_pos hd]

theorem vrow_tail (l : Fin 1408 → EReal) (g : Fin 512 → EReal) (w : Fin 2048 → Fin 512 → EReal) (h : Fin 16) (d : ℕ) (hd : d < 16) :
    vrow l g w h ⟨128 + d, by omega⟩ = if d = 0 then 1 else 0 := by
  unfold vrow; rw [dif_neg (by show ¬(128 + d < 128); omega)]
  congr 1
  exact propext ⟨fun h => by simpa using h, fun h => by simpa using h⟩

/-- A select on "this is lane 0" of 16 lanes. -/
theorem select_eq_zero {α : Type} (j : ℕ) (hj : j < 16) (a b : α) :
    Scalar.select (IntOp.cmpi CmpIPredicate.eq (BitVec.ofNat 32 j) 0#32) a b = if j = 0 then a else b := by
  have h := (by decide : ∀ j : Fin 16, IntOp.cmpi CmpIPredicate.eq (BitVec.ofNat 32 j.val) 0#32 = if j.val = 0 then 1#1 else 0#1) ⟨j, hj⟩
  simp only at h
  rw [h]
  split <;> rfl

/-- A select on "this lane is below 32" of 64 lanes. -/
theorem select_lt_half {α : Type} (j : ℕ) (hj : j < 64) (a b : α) :
    Scalar.select (IntOp.cmpi CmpIPredicate.slt (BitVec.ofNat 32 j) 32#32) a b = if j < 32 then a else b := by
  have h := (by decide : ∀ j : Fin 64, IntOp.cmpi CmpIPredicate.slt (BitVec.ofNat 32 j.val) 32#32 = if j.val < 32 then 1#1 else 0#1) ⟨j, hj⟩
  simp only at h
  rw [h]
  split <;> rfl

end Cert.Attn
-- ==== Proof.ProjValue.lean ====
module

public import proofs.«01_k».proof.Defs
public import proofs.«01_k».proof.Proof.Gen.KernelIdeal.Frame
public import proofs.«01_k».proof.Proof.LayerMath
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! # What the two projection stages compute, block by block and as whole arrays -/

namespace Cert.KernelIdeal.ProjValue

open Cert.KernelIdeal Cert.KernelIdeal.Gen Cert.Attn

variable (V : (c : Dev nD) → (b : Ref sig .tc) → Buf (Elt Ideal) ((c : Thread nD τ).loc b))

/-- The normalised input row. -/
abbrev urow (x g : Fin 2048 → EReal) : Fin 2048 → EReal := rms (Ideal.ofBits FTy.f32 1157627904#32) x g

/-! ## The input projection -/

set_option maxHeartbeats 2000000 in
/-- A block of the latents. -/
theorem lat_block (c : Dev nD) (t : Fin cfg0.N) (y : S512x1408.Idx) :
    ((dat0 V c).after 4 t : Vec Ideal S512x1408 .f32) y
      = ∑ k, urow (fun k => iblk0 V c 0 t (ix2 (y 0) k)) (fun k => iblk0 V c 1 t (ix2 0 k)) k * iblk0 V c 2 t (ix2 k (y 1)) := by
  rw [after0_4]
  generalize iblk0 V c 0 t = x0
  generalize iblk0 V c 1 t = x1
  generalize iblk0 V c 2 t = x2
  generalize iblk0 V c 3 t = x3
  frame_out
  pointwise [k0_pay2, k0_pay1]
  rfl

set_option maxHeartbeats 2000000 in
/-- A block of the convolution's gate. -/
theorem cb_block (c : Dev nD) (t : Fin cfg0.N) (y : S512x1024.Idx) :
    ((dat0 V c).after 5 t : Vec Ideal S512x1024 .bf16) y
      = ∑ k, urow (fun k => iblk0 V c 0 t (ix2 (y 0) k)) (fun k => iblk0 V c 1 t (ix2 0 k)) k
          * iblk0 V c 3 t (ix2 k ⟨(y 1).val, (y 1).isLt.trans (by decide)⟩) := by
  rw [after0_5]
  generalize iblk0 V c 0 t = x0
  generalize iblk0 V c 1 t = x1
  generalize iblk0 V c 2 t = x2
  generalize iblk0 V c 3 t = x3
  frame_out
  pointwise [k0_pay3, k0_pay1]
  rfl

set_option maxHeartbeats 2000000 in
/-- A block of the convolution's input: a product of two projections. -/
theorem p_block (c : Dev nD) (t : Fin cfg0.N) (y : S512x1024.Idx) :
    ((dat0 V c).after 6 t : Vec Ideal S512x1024 .bf16) y
      = (∑ k, urow (fun k => iblk0 V c 0 t (ix2 (y 0) k)) (fun k => iblk0 V c 1 t (ix2 0 k)) k
          * iblk0 V c 3 t (ix2 k ⟨1024 + (y 1).val, Nat.add_lt_add_left (y 1).isLt 1024 |>.trans (by decide)⟩))
        * (∑ k, urow (fun k => iblk0 V c 0 t (ix2 (y 0) k)) (fun k => iblk0 V c 1 t (ix2 0 k)) k
          * iblk0 V c 3 t (ix2 k ⟨2048 + (y 1).val, Nat.add_lt_add_left (y 1).isLt 2048⟩)) := by
  rw [after0_6]
  generalize iblk0 V c 0 t = x0
  generalize iblk0 V c 1 t = x1
  generalize iblk0 V c 2 t = x2
  generalize iblk0 V c 3 t = x3
  frame_out
  pointwise [k0_pay4, k0_pay1]
  rfl

/-! ## Queries, keys and values -/

/-- The scale the queries carry. -/
abbrev kap : EReal := Named.named (F := Ideal) κ (φ := .f32) "scale_log2e" 1037384597#32

set_option maxHeartbeats 2000000 in
/-- A block of the queries. -/
theorem qt_block (c : Dev nD) (t : Fin cfg1.N) (y : S1x16x192x512.Idx) :
    ((dat1 V c).after 10 t : Vec Ideal S1x16x192x512 .bf16) y
      = qrow kap (fun j => iblk1 V c 0 t (ix2 (y 3) j)) (fun j => iblk1 V c 1 t (ix2 0 j)) (fun f r => iblk1 V c 3 t (ix2 f r))
          (fun j => iblk1 V c 8 t (ix2 j (y 3))) (fun j => iblk1 V c 9 t (ix2 j (y 3))) (y 1) (y 2) := by
  rw [after1_10]; unfold outsAt1
  generalize iblk1 V c 0 t = x0
  generalize iblk1 V c 1 t = x1
  generalize iblk1 V c 3 t = x3
  generalize iblk1 V c 8 t = x8
  generalize iblk1 V c 9 t = x9
  frame_out
  canon_tiles x h using (View.cover_of_tiledBy _ ![1, 16, 32, 512] (by sl_kernel_rfl) y)
  · have e1 : y 1 = (⟨(x 1).val, x1_lt⟩ : Fin 16) := Fin.ext h1
    have e2 : y 2 = (⟨160 + (x 2).val, Nat.add_lt_add_left x2_lt 160⟩ : Fin 192) := Fin.ext h2
    have e3 : y 3 = (⟨(x 3).val, x3_lt⟩ : Fin 512) := Fin.ext h3
    rw [e1, e2, e3, qrow_second _ _ _ _ _ _ _ _ x2_lt]
    pointwise [k1_pay5, k1_pay51, k1_pay52, k1_pay50, k1_pay6, k1_pay1, k1_pay2]
    rfl
  · have e1 : y 1 = (⟨(x 1).val, x1_lt⟩ : Fin 16) := Fin.ext h1
    have e2 : y 2 = (⟨128 + (x 2).val, (Nat.add_lt_add_left x2_lt 128).trans (by decide)⟩ : Fin 192) := Fin.ext h2
    have e3 : y 3 = (⟨(x 3).val, x3_lt⟩ : Fin 512) := Fin.ext h3
    rw [e1, e2, e3, qrow_first _ _ _ _ _ _ _ _ x2_lt]
    pointwise [k1_pay4, k1_pay51, k1_pay52, k1_pay50, k1_pay6, k1_pay1, k1_pay2]
    rfl
  · have e1 : y 1 = (⟨(x 1).val, x1_lt⟩ : Fin 16) := Fin.ext h1
    have e2 : y 2 = (⟨(x 2).val, x2_lt.trans (by decide)⟩ : Fin 192) := Fin.ext h2
    have e3 : y 3 = (⟨(x 3).val, x3_lt⟩ : Fin 512) := Fin.ext h3
    rw [e1, e2, e3, qrow_plain _ _ _ _ _ _ _ _ x2_lt]
    pointwise [k1_pay3, k1_pay51, k1_pay52, k1_pay50, k1_pay6, k1_pay1, k1_pay2]
    rfl

set_option maxHeartbeats 2000000 in
/-- A block of the values. -/
theorem vt_block (c : Dev nD) (t : Fin cfg1.N) (y : S1x1x16x144x512.Idx) :
    ((dat1 V c).after 12 t : Vec Ideal S1x1x16x144x512 .bf16) y
      = vrow (fun j => iblk1 V c 0 t (ix2 (y 4) j)) (fun j => iblk1 V c 2 t (ix2 0 j)) (fun f r => iblk1 V c 5 t (ix2 f r)) (y 2) (y 3) := by
  rw [after1_12]; unfold outsAt1
  generalize iblk1 V c 0 t = x0
  generalize iblk1 V c 2 t = x2
  generalize iblk1 V c 5 t = x5
  frame_out
  canon_tiles x h using (View.cover_of_tiledBy _ ![1, 1, 16, 16, 512] (by sl_kernel_rfl) y)
  · have e2 : y 2 = (⟨(x 2).val, x2_lt⟩ : Fin 16) := Fin.ext h2
    have e3 : y 3 = (⟨128 + (x 3).val, Nat.add_lt_add_left x3_lt 128⟩ : Fin 144) := Fin.ext h3
    have e4 : y 4 = (⟨(x 4).val, x4_lt⟩ : Fin 512) := Fin.ext h4
    rw [e2, e3, e4, vrow_tail _ _ _ _ _ x3_lt]
    pointwise [k1_pay49]
    exact select_eq_zero _ x3_lt _ _
  · have e2 : y 2 = (⟨(x 2).val, x2_lt⟩ : Fin 16) := Fin.ext h2
    have e3 : y 3 = (⟨(x 3).val, x3_lt.trans (by decide)⟩ : Fin 144) := Fin.ext h3
    have e4 : y 4 = (⟨(x 4).val, x4_lt⟩ : Fin 512) := Fin.ext h4
    rw [e2, e3, e4, vrow_plain _ _ _ _ _ x3_lt]
    pointwise [k1_pay48, k1_pay7]
    rfl

set_option maxHeartbeats 2000000 in
/-- A block of the keys. -/
theorem k_block (c : Dev nD) (t : Fin cfg1.N) (y : S1x16x512x192.Idx) :
    ((dat1 V c).after 11 t : Vec Ideal S1x16x512x192 .bf16) y
      = krow (fun j => iblk1 V c 0 t (ix2 (y 2) j)) (fun j => iblk1 V c 2 t (ix2 0 j)) (fun r f => iblk1 V c 4 t (ix2 r f))
          (fun j => iblk1 V c 6 t (ix2 (y 2) j)) (fun j => iblk1 V c 7 t (ix2 (y 2) j)) (y 1) (y 3) := by
  rw [after1_11]; unfold outsAt1
  generalize iblk1 V c 0 t = x0
  generalize iblk1 V c 2 t = x2
  generalize iblk1 V c 4 t = x4
  generalize iblk1 V c 6 t = x6
  generalize iblk1 V c 7 t = x7
  frame_out
  canon_tiles x h using (View.cover_of_tiledBy _ ![1, 1, 512, 64] (by sl_kernel_rfl) y)
  case piece0 | piece2 | piece4 | piece6 | piece8 | piece10 | piece12 | piece14 | piece16 | piece18 | piece20 | piece22 | piece24 | piece26 | piece28 | piece30 =>
    obtain ⟨b, e1⟩ : ∃ b : Fin 16, y 1 = b := ⟨y 1, rfl⟩
    have hb1 : b.val = (y 1).val := by rw [e1]
    have e2 : y 2 = (⟨(x 2).val, x2_lt⟩ : Fin 512) := Fin.ext h2
    have e3 : y 3 = (⟨128 + (x 3).val, Nat.add_lt_add_left x3_lt 128⟩ : Fin 192) := Fin.ext h3
    rw [e1, e2, e3, krow_rot _ _ _ _ _ _ _ x3_lt]
    clear e1 e2 e3 hb1 h0 h1 h2 h3
    pointwise [k1_pay14, k1_pay16, k1_pay19, k1_pay21, k1_pay23, k1_pay25, k1_pay27, k1_pay29, k1_pay32, k1_pay31, k1_pay34, k1_pay36, k1_pay38, k1_pay39, k1_pay40, k1_pay41, k1_pay42, k1_pay43, k1_pay45, k1_pay47, k1_pay11, k1_pay10, k1_pay9, k1_pay8]
    rw [select_lt_half _ x3_lt]
    rfl
  case piece1 | piece3 | piece5 | piece7 | piece9 | piece11 | piece13 | piece15 | piece17 | piece19 | piece21 | piece23 | piece25 | piece27 | piece29 | piece31 =>
    obtain ⟨b, e1⟩ : ∃ b : Fin 16, y 1 = b := ⟨y 1, rfl⟩
    have hb1 : b.val = (y 1).val := by rw [e1]
    have e2 : y 2 = (⟨(x 2).val, x2_lt⟩ : Fin 512) := Fin.ext h2
    have e3 : y 3 = (⟨(x 3).val, x3_lt.trans (by decide)⟩ : Fin 192) := Fin.ext h3
    have hb : b.val * 128 + (x 3).val < 2048 := by omega
    rw [e1, e2, e3, krow_plain _ _ _ _ _ _ _ x3_lt ⟨b.val * 128 + (x 3).val, hb⟩ rfl]
    clear e1 e2 e3
    pointwise [k1_pay13, k1_pay15, k1_pay18, k1_pay17, k1_pay20, k1_pay22, k1_pay24, k1_pay26, k1_pay28, k1_pay30, k1_pay33, k1_pay35, k1_pay37, k1_pay39, k1_pay40, k1_pay41, k1_pay42, k1_pay43, k1_pay44, k1_pay46, k1_pay12, k1_pay7]
    refine Finset.sum_congr rfl fun r _ => congrArg (fun f => kvlat (fun j => x0 (ix2 ⟨(x 2).val, x2_lt⟩ j)) (fun j => x2 (ix2 0 j)) r * x4 (ix2 r f)) (Fin.ext ?_)
    simp only
    omega

end Cert.KernelIdeal.ProjValue
-- ==== Proof.ArrValue.lean ====
module

public import proofs.«01_k».proof.Defs
public import proofs.«01_k».proof.Proof.Gen.KernelIdeal.Frame
public import proofs.«01_k».proof.Proof.ProjValue
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! # The two projection stages as whole arrays -/

namespace Cert.KernelIdeal.ArrValue

open Cert.KernelIdeal Cert.KernelIdeal.Gen Cert.Attn Cert.KernelIdeal.ProjValue

variable (V : (c : Dev nD) → (b : Ref sig .tc) → Buf (Elt Ideal) ((c : Thread nD τ).loc b))

/-- The index maps of the input projection. -/
theorem idx0 : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0] :=
  (by decide +kernel : ∀ t : Fin grid0.N, _)

/-- The index maps of the second projection. -/
theorem idx1 : ∀ t : Fin cfg1.N, win1_0.index t = ![t.val, 0] ∧ win1_1.index t = ![0, 0] ∧ win1_2.index t = ![0, 0]
    ∧ win1_3.index t = ![0, 0] ∧ win1_4.index t = ![0, 0] ∧ win1_5.index t = ![0, 0]
    ∧ win1_6.index t = ![t.val % 8, 0] ∧ win1_7.index t = ![t.val % 8, 0] ∧ win1_8.index t = ![0, t.val % 8] ∧ win1_9.index t = ![0, t.val % 8]
    ∧ win1_10.index t = ![t.val / 8, 0, 0, t.val % 8] ∧ win1_11.index t = ![t.val / 8, 0, t.val % 8, 0]
    ∧ win1_12.index t = ![t.val / 8, t.val % 8, 0, 0, 0] :=
  (by decide +kernel : ∀ t : Fin grid1.N, _)

theorem sum_ext {n : ℕ} (f g : Fin n → EReal) (h : ∀ k, f k = g k) : ∑ k, f k = ∑ k, g k := Finset.sum_congr rfl fun k _ => h k

/-- The latents of all tokens. -/
def latG (X : Vec Ideal S32768x2048 .f32) (g : Vec Ideal S1x2048 .f32) (W : Vec Ideal S2048x1408 .bf16) : Vec Ideal S32768x1408 .f32 :=
  fun i => ∑ k, urow (fun k => X (ix2 (i 0) k)) (fun k => g (ix2 0 k)) k * W (ix2 k (i 1))

/-- A third of the convolution's projection, of all tokens: `o` is its first column. -/
def convG (X : Vec Ideal S32768x2048 .f32) (g : Vec Ideal S1x2048 .f32) (W : Vec Ideal S2048x3072 .bf16) (o : ℕ) (ho : o ≤ 2048) :
    Vec Ideal S32768x1024 .bf16 :=
  fun i => ∑ k, urow (fun k => X (ix2 (i 0) k)) (fun k => g (ix2 0 k)) k * W (ix2 k ⟨o + (i 1).val, by have := (i 1).isLt; change (i 1).val < 1024 at this; omega⟩)

set_option maxHeartbeats 2000000 in
theorem lat_array (c : Dev nD) : (dat0 V c).arrAt 4 cfg0.N = latG (V c main_v40) (V c main_v41) (V c main_v3) := by
  refine (dat0 V c).arrAt_eq_of_covers 4 _ (by decide +kernel) fun t hf y => ?_
  blk_simp
  refine (lat_block V c t y).trans ?_
  have r0 : ∀ k, iblk0 V c 0 t (ix2 (y 0) k) = V c main_v40 (ix2 ((win0_4.blk t).view.emb y 0) k) := fun k =>
    congrArg (V c main_v40) (by blk_ext [idx0 t])
  have r1 : ∀ k, iblk0 V c 1 t (ix2 0 k) = V c main_v41 (ix2 0 k) := fun k =>
    congrArg (V c main_v41) (by blk_ext [idx0 t])
  have r2 : ∀ k, iblk0 V c 2 t (ix2 k (y 1)) = V c main_v3 (ix2 k ((win0_4.blk t).view.emb y 1)) := fun k =>
    congrArg (V c main_v3) (by blk_ext [idx0 t])
  simp only [r0, r1, r2]
  rfl

set_option maxHeartbeats 2000000 in
theorem cb_array (c : Dev nD) : (dat0 V c).arrAt 5 cfg0.N = convG (V c main_v40) (V c main_v41) (V c main_v6) 0 (by decide) := by
  refine (dat0 V c).arrAt_eq_of_covers 5 _ (by decide +kernel) fun t hf y => ?_
  blk_simp
  refine (cb_block V c t y).trans ?_
  have r0 : ∀ k, iblk0 V c 0 t (ix2 (y 0) k) = V c main_v40 (ix2 ((win0_5.blk t).view.emb y 0) k) := fun k =>
    congrArg (V c main_v40) (by blk_ext [idx0 t])
  have r1 : ∀ k, iblk0 V c 1 t (ix2 0 k) = V c main_v41 (ix2 0 k) := fun k =>
    congrArg (V c main_v41) (by blk_ext [idx0 t])
  have r2 : ∀ (k : Fin 2048) hp hq, iblk0 V c 3 t (ix2 k ⟨(y 1).val, hp⟩) = V c main_v6 (ix2 k ⟨0 + ((win0_5.blk t).view.emb y 1).val, hq⟩) := fun k hp hq =>
    congrArg (V c main_v6) (by blk_ext [idx0 t])
  simp only [r0, r1]
  exact sum_ext _ _ fun k => congrArg (urow _ _ k * ·) (r2 k _ _)

set_option maxHeartbeats 2000000 in
theorem p_array (c : Dev nD) : (dat0 V c).arrAt 6 cfg0.N
    = fun i => convG (V c main_v40) (V c main_v41) (V c main_v6) 1024 (by decide) i * convG (V c main_v40) (V c main_v41) (V c main_v6) 2048 (by decide) i := by
  refine (dat0 V c).arrAt_eq_of_covers 6 _ (by decide +kernel) fun t hf y => ?_
  blk_simp
  refine (p_block V c t y).trans ?_
  have r0 : ∀ k, iblk0 V c 0 t (ix2 (y 0) k) = V c main_v40 (ix2 ((win0_6.blk t).view.emb y 0) k) := fun k =>
    congrArg (V c main_v40) (by blk_ext [idx0 t])
  have r1 : ∀ k, iblk0 V c 1 t (ix2 0 k) = V c main_v41 (ix2 0 k) := fun k =>
    congrArg (V c main_v41) (by blk_ext [idx0 t])
  have r2 : ∀ (k : Fin 2048) hp hq, iblk0 V c 3 t (ix2 k ⟨1024 + (y 1).val, hp⟩) = V c main_v6 (ix2 k ⟨1024 + ((win0_6.blk t).view.emb y 1).val, hq⟩) := fun k hp hq =>
    congrArg (V c main_v6) (by blk_ext [idx0 t])
  have r3 : ∀ (k : Fin 2048) hp hq, iblk0 V c 3 t (ix2 k ⟨2048 + (y 1).val, hp⟩) = V c main_v6 (ix2 k ⟨2048 + ((win0_6.blk t).view.emb y 1).val, hq⟩) := fun k hp hq =>
    congrArg (V c main_v6) (by blk_ext [idx0 t])
  simp only [r0, r1]
  exact congrArg₂ (fun a b : EReal => a * b) (sum_ext _ _ fun k => congrArg (urow _ _ k * ·) (r2 k _ _))
    (sum_ext _ _ fun k => congrArg (urow _ _ k * ·) (r3 k _ _))

/-- A token of the flat list: sequence `b`, position `s`. -/
def tok (b : Fin 8) (s : Fin 4096) : Fin 32768 := ⟨4096 * b.val + s.val, by omega⟩

/-- The scaled and rotated queries of all tokens. -/
def qtG (L : Vec Ideal S32768x1408 .f32) (g : Vec Ideal S1x768 .f32) (W : Vec Ideal S3072x768 .bf16) (cs sn : Vec Ideal S32x4096 .f32) :
    Vec Ideal S8x16x192x4096 .bf16 :=
  fun i => qrow kap (fun j => L (ix2 (tok (i 0) (i 3)) j)) (fun j => g (ix2 0 j)) (fun f r => W (ix2 f r))
    (fun j => cs (ix2 j (i 3))) (fun j => sn (ix2 j (i 3))) (i 1) (i 2)

/-- The keys of all tokens. -/
def kG (L : Vec Ideal S32768x1408 .f32) (g : Vec Ideal S1x512 .f32) (W : Vec Ideal S512x2048 .bf16) (kc ks : Vec Ideal S4096x128 .f32) :
    Vec Ideal S8x16x4096x192 .bf16 :=
  fun i => krow (fun j => L (ix2 (tok (i 0) (i 2)) j)) (fun j => g (ix2 0 j)) (fun r f => W (ix2 r f))
    (fun j => kc (ix2 (i 2) j)) (fun j => ks (ix2 (i 2) j)) (i 1) (i 3)

/-- A position: block `k`, place `r`. -/
def pos (k : Fin 8) (r : Fin 512) : Fin 4096 := ⟨512 * k.val + r.val, by omega⟩

/-- The values of all tokens, in blocks of 512 positions. -/
def vtG (L : Vec Ideal S32768x1408 .f32) (g : Vec Ideal S1x512 .f32) (W : Vec Ideal S2048x512 .bf16) : Vec Ideal S8x8x16x144x512 .bf16 :=
  fun i => vrow (fun j => L (ix2 (tok (i 0) (pos (i 1) (i 4))) j)) (fun j => g (ix2 0 j)) (fun f r => W (ix2 f r)) (i 2) (i 3)

set_option maxHeartbeats 2000000 in
theorem qt_array (c : Dev nD) : (dat1 V c).arrAt 10 cfg1.N
    = qtG (V c main_v42_0) (V c main_v43) (V c main_v8) (V c main_v38) (V c main_v39) := by
  refine (dat1 V c).arrAt_eq_of_covers 10 _ (by decide +kernel) fun t hf y => ?_
  blk_simp
  refine (qt_block V c t y).trans ?_
  have r0 : ∀ k, iblk1 V c 0 t (ix2 (y 3) k)
      = V c main_v42_0 (ix2 (tok ((win1_10.blk t).view.emb y 0) ((win1_10.blk t).view.emb y 3)) k) := fun k =>
    congrArg (V c main_v42_0) (by blk_ext [idx1 t, tok])
  have r1 : ∀ k, iblk1 V c 1 t (ix2 0 k) = V c main_v43 (ix2 0 k) := fun k =>
    congrArg (V c main_v43) (by blk_ext [idx1 t])
  have r3 : ∀ f r, iblk1 V c 3 t (ix2 f r) = V c main_v8 (ix2 f r) := fun f r =>
    congrArg (V c main_v8) (by blk_ext [idx1 t])
  have r8 : ∀ j, iblk1 V c 8 t (ix2 j (y 3)) = V c main_v38 (ix2 j ((win1_10.blk t).view.emb y 3)) := fun j =>
    congrArg (V c main_v38) (by blk_ext [idx1 t])
  have r9 : ∀ j, iblk1 V c 9 t (ix2 j (y 3)) = V c main_v39 (ix2 j ((win1_10.blk t).view.emb y 3)) := fun j =>
    congrArg (V c main_v39) (by blk_ext [idx1 t])
  simp only [r0, r1, r3, r8, r9]
  refine congrArg₂ (qrow kap _ _ _ _ _) (Fin.ext ?_) (Fin.ext ?_)
  · blk_simp [idx1 t]
  · blk_simp [idx1 t]

set_option maxHeartbeats 2000000 in
theorem k_array (c : Dev nD) : (dat1 V c).arrAt 11 cfg1.N
    = kG (V c main_v42_0) (V c main_v44) (V c main_v11) (V c main_v35) (V c main_v37) := by
  refine (dat1 V c).arrAt_eq_of_covers 11 _ (by decide +kernel) fun t hf y => ?_
  blk_simp
  refine (k_block V c t y).trans ?_
  have r0 : ∀ k, iblk1 V c 0 t (ix2 (y 2) k)
      = V c main_v42_0 (ix2 (tok ((win1_11.blk t).view.emb y 0) ((win1_11.blk t).view.emb y 2)) k) := fun k =>
    congrArg (V c main_v42_0) (by blk_ext [idx1 t, tok])
  have r2 : ∀ k, iblk1 V c 2 t (ix2 0 k) = V c main_v44 (ix2 0 k) := fun k =>
    congrArg (V c main_v44) (by blk_ext [idx1 t])
  have r4 : ∀ f r, iblk1 V c 4 t (ix2 f r) = V c main_v11 (ix2 f r) := fun f r =>
    congrArg (V c main_v11) (by blk_ext [idx1 t])
  have r6 : ∀ j, iblk1 V c 6 t (ix2 (y 2) j) = V c main_v35 (ix2 ((win1_11.blk t).view.emb y 2) j) := fun j =>
    congrArg (V c main_v35) (by blk_ext [idx1 t])
  have r7 : ∀ j, iblk1 V c 7 t (ix2 (y 2) j) = V c main_v37 (ix2 ((win1_11.blk t).view.emb y 2) j) := fun j =>
    congrArg (V c main_v37) (by blk_ext [idx1 t])
  simp only [r0, r2, r4, r6, r7]
  refine congrArg₂ (krow _ _ _ _ _) (Fin.ext ?_) (Fin.ext ?_)
  · blk_simp [idx1 t]
  · blk_simp [idx1 t]

set_option maxHeartbeats 2000000 in
theorem vt_array (c : Dev nD) : (dat1 V c).arrAt 12 cfg1.N = vtG (V c main_v42_0) (V c main_v44) (V c main_v15) := by
  refine (dat1 V c).arrAt_eq_of_covers 12 _ (by decide +kernel) fun t hf y => ?_
  blk_simp
  refine (vt_block V c t y).trans ?_
  have r0 : ∀ k, iblk1 V c 0 t (ix2 (y 4) k)
      = V c main_v42_0 (ix2 (tok ((win1_12.blk t).view.emb y 0) (pos ((win1_12.blk t).view.emb y 1) ((win1_12.blk t).view.emb y 4))) k) := fun k =>
    congrArg (V c main_v42_0) (by blk_ext [idx1 t, tok, pos])
  have r2 : ∀ k, iblk1 V c 2 t (ix2 0 k) = V c main_v44 (ix2 0 k) := fun k =>
    congrArg (V c main_v44) (by blk_ext [idx1 t])
  have r5 : ∀ f r, iblk1 V c 5 t (ix2 f r) = V c main_v15 (ix2 f r) := fun f r =>
    congrArg (V c main_v15) (by blk_ext [idx1 t])
  simp only [r0, r2, r5]
  refine congrArg₂ (vrow _ _ _) (Fin.ext ?_) (Fin.ext ?_)
  · blk_simp [idx1 t]
  · blk_simp [idx1 t]

end Cert.KernelIdeal.ArrValue
-- ==== Proof.AttnValue.lean ====
module

public import proofs.«01_k».proof.Defs
public import proofs.«01_k».proof.Proof.Gen.KernelIdeal.Frame
public import proofs.«01_k».proof.Proof.AttnMath
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.AttnValue

open Cert.KernelIdeal Cert.KernelIdeal.Gen

variable (V : (c : Dev nD) → (b : Ref sig .tc) → Buf (Elt Ideal) ((c : Thread nD τ).loc b))

theorem readCov_within {sig : RefSig} {κ : Kind} {sp : Space} {s : Shape} {e : EltTy} {Val : EltTy → Type} [∀ e, Nonempty (Val e)]
    (v : View sig κ sp s e) (r : Rect s) (w : r.shape.Idx → Val e) (L : List (View.Piece Val s e)) (B : LoadRect r.shape)
    (h₀ : ∀ a, r.stride a = 1) : v.readCov (⟨r, w⟩ :: L) (r.withinL B h₀) = fun j => w (B.idx j) := by
  rw [View.readCov_eq_canon']
  funext j
  exact (congrArg (View.canon _) (Rect.idx_withinL r B h₀ j)).trans (View.canon_cons_emb r w L _)

/-- The scores of one block of keys against a tile of queries. -/
def vS (q : FVec Ideal S1x1x192x1024 .bf16) (k : FVec Ideal S1x1x1x512x192 .bf16) : FVec Ideal S512x1024 .f32 :=
  matmul (φ₁ := .bf16) (φ₂ := .bf16) dot_S512x192_S192x1024_S512x1024_1_0_0_1_n_n none (shapeCast (α := Ideal .bf16) S512x192 k shapeCasts_S1x1x1x512x192_S512x192)
    (shapeCast (α := Ideal .bf16) S192x1024 q shapeCasts_S1x1x192x1024_S192x1024) (constant S512x1024 .f32 0x00000000#32)

/-- The largest score of each column. -/
def vM (s : FVec Ideal S512x1024 .f32) : FVec Ideal S1x1024 .f32 :=
  shapeCast S1x1024 (multiReduction .maximumf [0] S1024 s 0xFF800000#32 reduces_S512x1024_S1024 (.inl rfl) rfl) shapeCasts_S1024_S1x1024

/-- The weights of a block: two to the score minus the reference. -/
def vP (s : FVec Ideal S512x1024 .f32) (R : FVec Ideal S1x1024 .f32) : FVec Ideal S512x1024 .bf16 :=
  shapeCast S512x1024 (truncf .bf16 (exp2 (subf s (broadcastTo S512x1024 R broadcasts_S1x1024_S512x1024))) bitsLt_bf16_f32)
    shapeCasts_S512x1024_S512x1024

/-- One step of the accumulator: rescaled, plus the block's values times its weights. -/
def vA (sc : FVec Ideal S1x1024 .f32) (acc : FVec Ideal S1x144x1024 .f32) (w : FVec Ideal S1x1x1x144x512 .bf16)
    (p : FVec Ideal S512x1024 .bf16) : FVec Ideal S1x144x1024 .f32 :=
  shapeCast S1x144x1024 (addf (mulf (broadcastTo S144x1024 sc broadcasts_S1x1024_S144x1024)
      (shapeCast S144x1024 acc shapeCasts_S1x144x1024_S144x1024))
    (matmul (φ₁ := .bf16) (φ₂ := .bf16) dot_S144x512_S512x1024_S144x1024_1_0_0_1_n_n none (shapeCast (α := Ideal .bf16) S144x512 w shapeCasts_S1x1x1x144x512_S144x512) p
      (constant S144x1024 .f32 0x00000000#32))) shapeCasts_S144x1024_S1x144x1024

/-- The reference of block `c`. -/
def vR (q : FVec Ideal S1x1x192x1024 .bf16) (K : ℕ → FVec Ideal S1x1x1x512x192 .bf16) : ℕ → FVec Ideal S1x1024 .f32
  | 0 => vM (vS q (K 0))
  | c + 1 => maximumf (vR q K c) (vM (vS q (K c)))

/-- The accumulator after block `c`. -/
def vAcc (q : FVec Ideal S1x1x192x1024 .bf16) (K : ℕ → FVec Ideal S1x1x1x512x192 .bf16) (W : ℕ → FVec Ideal S1x1x1x144x512 .bf16) :
    ℕ → FVec Ideal S1x144x1024 .f32
  | 0 => vA (broadcast S1x1024 (Scalar.ofBits (F := Ideal) .f32 0x3F800000#32))
      (shapeCast S1x144x1024 (broadcast S144x1024 (Scalar.ofBits (F := Ideal) .f32 0x00000000#32)) shapeCasts_S144x1024_S1x144x1024)
      (W 0) (vP (vS q (K 0)) (vR q K 0))
  | c + 1 => vA (exp2 (subf (vR q K c) (vR q K (c + 1)))) (vAcc q K W c) (W (c + 1)) (vP (vS q (K (c + 1))) (vR q K (c + 1)))

/-- The key blocks of a head. -/
def kch (x : Vec Ideal S1x1x8x512x192 .bf16) : ℕ → Vec Ideal S1x1x1x512x192 .bf16
  | 0 => View.ld x (Rect.unit ![0, 0, 0, 0, 0] S1x1x1x512x192.size inb_S1x1x8x512x192_S1x1x1x512x192_0_0_0_0_0)
  | 1 => View.ld x (Rect.unit ![0, 0, 1, 0, 0] S1x1x1x512x192.size inb_S1x1x8x512x192_S1x1x1x512x192_0_0_1_0_0)
  | 2 => View.ld x (Rect.unit ![0, 0, 2, 0, 0] S1x1x1x512x192.size inb_S1x1x8x512x192_S1x1x1x512x192_0_0_2_0_0)
  | 3 => View.ld x (Rect.unit ![0, 0, 3, 0, 0] S1x1x1x512x192.size inb_S1x1x8x512x192_S1x1x1x512x192_0_0_3_0_0)
  | 4 => View.ld x (Rect.unit ![0, 0, 4, 0, 0] S1x1x1x512x192.size inb_S1x1x8x512x192_S1x1x1x512x192_0_0_4_0_0)
  | 5 => View.ld x (Rect.unit ![0, 0, 5, 0, 0] S1x1x1x512x192.size inb_S1x1x8x512x192_S1x1x1x512x192_0_0_5_0_0)
  | 6 => View.ld x (Rect.unit ![0, 0, 6, 0, 0] S1x1x1x512x192.size inb_S1x1x8x512x192_S1x1x1x512x192_0_0_6_0_0)
  | _ => View.ld x (Rect.unit ![0, 0, 7, 0, 0] S1x1x1x512x192.size inb_S1x1x8x512x192_S1x1x1x512x192_0_0_7_0_0)

/-- The value blocks of a head. -/
def vch (x : Vec Ideal S1x8x1x144x512 .bf16) : ℕ → Vec Ideal S1x1x1x144x512 .bf16
  | 0 => View.ld x (Rect.unit ![0, 0, 0, 0, 0] S1x1x1x144x512.size inb_S1x8x1x144x512_S1x1x1x144x512_0_0_0_0_0)
  | 1 => View.ld x (Rect.unit ![0, 1, 0, 0, 0] S1x1x1x144x512.size inb_S1x8x1x144x512_S1x1x1x144x512_0_1_0_0_0)
  | 2 => View.ld x (Rect.unit ![0, 2, 0, 0, 0] S1x1x1x144x512.size inb_S1x8x1x144x512_S1x1x1x144x512_0_2_0_0_0)
  | 3 => View.ld x (Rect.unit ![0, 3, 0, 0, 0] S1x1x1x144x512.size inb_S1x8x1x144x512_S1x1x1x144x512_0_3_0_0_0)
  | 4 => View.ld x (Rect.unit ![0, 4, 0, 0, 0] S1x1x1x144x512.size inb_S1x8x1x144x512_S1x1x1x144x512_0_4_0_0_0)
  | 5 => View.ld x (Rect.unit ![0, 5, 0, 0, 0] S1x1x1x144x512.size inb_S1x8x1x144x512_S1x1x1x144x512_0_5_0_0_0)
  | 6 => View.ld x (Rect.unit ![0, 6, 0, 0, 0] S1x1x1x144x512.size inb_S1x8x1x144x512_S1x1x1x144x512_0_6_0_0_0)
  | _ => View.ld x (Rect.unit ![0, 7, 0, 0, 0] S1x1x1x144x512.size inb_S1x8x1x144x512_S1x1x1x144x512_0_7_0_0_0)

theorem vS_apply (q : FVec Ideal S1x1x192x1024 .bf16) (k : FVec Ideal S1x1x1x512x192 .bf16) (r : Fin 512) (i : Fin 1024) :
    vS q k (ix2 r i) = 0 + ∑ e : Fin 192, k (ix5 0 0 0 r e) * q (ix4 0 0 e i) := by
  pointwise [vS]

theorem vM_apply (s : FVec Ideal S512x1024 .f32) (i : Fin 1024) :
    vM s (ix2 0 i) = Attn.mx fun r : Fin 512 => s (ix2 r i) := by
  pointwise [vM]
  rfl

theorem vP_apply (s : FVec Ideal S512x1024 .f32) (R : FVec Ideal S1x1024 .f32) (r : Fin 512) (i : Fin 1024) :
    vP s R (ix2 r i) = Ideal.exp2 (s (ix2 r i) - R (ix2 0 i)) := by
  pointwise [vP]
  rfl

theorem vA_apply (sc : FVec Ideal S1x1024 .f32) (acc : FVec Ideal S1x144x1024 .f32) (w : FVec Ideal S1x1x1x144x512 .bf16)
    (p : FVec Ideal S512x1024 .bf16) (d : Fin 144) (i : Fin 1024) :
    vA sc acc w p (ix3 0 d i) = sc (ix2 0 i) * acc (ix3 0 d i) + (0 + ∑ r : Fin 512, w (ix5 0 0 0 d r) * p (ix2 r i)) := by
  pointwise [vA]

/-- The scores of column `i`, block by block. -/
def sc (q : FVec Ideal S1x1x192x1024 .bf16) (K : ℕ → FVec Ideal S1x1x1x512x192 .bf16) (i : Fin 1024) (c : ℕ) (r : Fin 512) : EReal :=
  0 + ∑ e : Fin 192, K c (ix5 0 0 0 r e) * q (ix4 0 0 e i)

theorem vR_apply (q : FVec Ideal S1x1x192x1024 .bf16) (K : ℕ → FVec Ideal S1x1x1x512x192 .bf16) (i : Fin 1024) (c : ℕ) :
    vR q K c (ix2 0 i) = Attn.refs (sc q K i) c := by
  induction c with
  | zero => rw [vR, vM_apply, Attn.refs]; simp only [vS_apply]; rfl
  | succ c ih =>
    rw [vR, Attn.refs, ← ih]
    show max _ (vM _ (ix2 0 i)) = _
    rw [vM_apply]; simp only [vS_apply]; rfl

theorem vAcc_apply (q : FVec Ideal S1x1x192x1024 .bf16) (K : ℕ → FVec Ideal S1x1x1x512x192 .bf16)
    (W : ℕ → FVec Ideal S1x1x1x144x512 .bf16) (d : Fin 144) (i : Fin 1024) (c : ℕ) :
    vAcc q K W c (ix3 0 d i) = Attn.accs (sc q K i) (fun c r => W c (ix5 0 0 0 d r)) c := by
  induction c with
  | zero =>
    rw [vAcc, vA_apply, Attn.accs, zero_add]
    simp only [vP_apply, vS_apply, vR_apply]
    congr 1
    pointwise
  | succ c ih =>
    rw [vAcc, vA_apply, Attn.accs, zero_add, ih]
    simp only [vP_apply, vS_apply, vR_apply]
    congr 1
    show Ideal.exp2 (vR q K c (ix2 0 i) - vR q K (c + 1) (ix2 0 i)) * _ = _
    rw [vR_apply, vR_apply]

/-- Key block `c` of a head, at an index. -/
theorem kch_apply (x : FVec Ideal S1x1x8x512x192 .bf16) (c : ℕ) (r : Fin 512) (e : Fin 192) :
    kch x c (ix5 0 0 0 r e) = x (ix5 0 0 ⟨min c 7, by omega⟩ r e) := by
  match c with
  | 0 | 1 | 2 | 3 | 4 | 5 | 6 => pointwise [kch]
  | c + 7 =>
    have : (⟨min (c + 7) 7, by omega⟩ : Fin 8) = 7 := Fin.ext (by simp)
    rw [this]
    pointwise [kch]

theorem vch_apply (x : FVec Ideal S1x8x1x144x512 .bf16) (c : ℕ) (d : Fin 144) (r : Fin 512) :
    vch x c (ix5 0 0 0 d r) = x (ix5 0 ⟨min c 7, by omega⟩ 0 d r) := by
  match c with
  | 0 | 1 | 2 | 3 | 4 | 5 | 6 => pointwise [vch]
  | c + 7 =>
    have : (⟨min (c + 7) 7, by omega⟩ : Fin 8) = 7 := Fin.ext (by simp)
    rw [this]
    pointwise [vch]

theorem valAlong_eq {s' : Shape} {s₀ : Shape} {lr : LoadRect s'} {LR : LoadRect s₀} (hR : lr.shape.numel = LR.shape.numel) {W : Type}
    (v : LR.shape.Idx → W) : (LoadRect.valAlong hR v : lr.shape.Idx → W) = shapeCast lr.shape v hR := rfl

/-- The scores of query `i` against block `c` of the keys. -/
def score (x0 : FVec Ideal S1x1x192x4096 .bf16) (x1 : FVec Ideal S1x1x8x512x192 .bf16) (i : Fin 4096) (c : ℕ) (r : Fin 512) : EReal :=
  0 + ∑ e : Fin 192, x1 (ix5 0 0 ⟨min c 7, by omega⟩ r e) * x0 (ix4 0 0 e i)

/-- Row `d` of block `c` of the values. -/
def wt (x2 : FVec Ideal S1x8x1x144x512 .bf16) (d : Fin 144) (c : ℕ) (r : Fin 512) : EReal :=
  x2 (ix5 0 ⟨min c 7, by omega⟩ 0 d r)

theorem acc_at (x0 : FVec Ideal S1x1x192x4096 .bf16) (x1 : FVec Ideal S1x1x8x512x192 .bf16) (x2 : FVec Ideal S1x8x1x144x512 .bf16)
    (q : FVec Ideal S1x1x192x1024 .bf16) (i : Fin 4096) (A : FVec Ideal S1x144x1024 .f32) (e : A = vAcc q (kch x1) (vch x2) 7)
    (a a' : Fin 144) (b b' : Fin 1024) (ha : a.val = a'.val) (hb : b.val = b'.val) (hq : ∀ e : Fin 192, q (ix4 0 0 e b') = x0 (ix4 0 0 e i)) :
    A (ix3 0 a b) = Attn.accs (score x0 x1 i) (wt x2 a') 7 := by
  rw [Fin.ext ha, Fin.ext hb, e, vAcc_apply]
  have h1 : sc q (kch x1) b' = score x0 x1 i := by
    funext c r
    unfold sc score
    simp only [kch_apply, hq]
  have h2 : (fun (c : ℕ) (r : Fin 512) => vch x2 c (ix5 0 0 0 a' r)) = wt x2 a' := by
    funext c r
    exact vch_apply x2 c a' r
  rw [h1]
  exact congrArg (fun w => Attn.accs _ w 7) h2

set_option maxHeartbeats 2000000 in
/-- What a grid point leaves in the result's block: at each query and lane the quotient of two accumulators. -/
theorem point (c : Dev nD) (t : Fin cfg2.N) (y : S1x4096x128.Idx) :
    ((dat2 V c).after 3 t : Vec Ideal S1x4096x128 .bf16) y
      = Ideal.div (Attn.accs (score (iblk2 V c 0 t) (iblk2 V c 1 t) (y 1)) (wt (iblk2 V c 2 t) ⟨(y 2).val, (y 2).isLt.trans (by decide)⟩) 7)
          (Attn.accs (score (iblk2 V c 0 t) (iblk2 V c 1 t) (y 1)) (wt (iblk2 V c 2 t) 128) 7) := by
  rw [after2_3]; unfold outsAt2
  generalize iblk2 V c 0 t = x0
  generalize iblk2 V c 1 t = x1
  generalize iblk2 V c 2 t = x2
  frame_open
  simp (disch := decide) only [↓ View.readCov_skip, ↓ View.readCov_cons_toLoadRect, ↓ View.readCov_fill, ↓ readCov_within]
  frame_out
  canon_tiles x h
  · generalize hA : k2_pay248 (F := Ideal) _ _ _ _ = A
    have e : A = vAcc (View.ld x0 (Rect.unit ![0, 0, 0, 3072] ![1, 1, 192, 1024] inb_S1x1x192x4096_S1x1x192x1024_0_0_0_3072)) (kch x1) (vch x2) 7 := hA.symm
    clear hA
    have hq : ∀ e : Fin 192, View.ld x0 (Rect.unit ![0, 0, 0, 3072] ![1, 1, 192, 1024] inb_S1x1x192x4096_S1x1x192x1024_0_0_0_3072) (ix4 0 0 e (x 1)) = x0 (ix4 0 0 e (y 1)) := fun e => by
      pointwise
      refine congrArg (fun i => x0 (ix4 0 0 e i)) (Fin.ext ?_)
      simp only [h1]
    rw [valAlong_eq, valAlong_eq]
    pointwise [k2_pay1]
    refine congrArg₂ Ideal.div (acc_at x0 x1 x2 _ (y 1) A e _ _ _ (x 1) ?_ ?_ hq) (acc_at x0 x1 x2 _ (y 1) A e _ _ _ (x 1) rfl ?_ hq)
    · show 0 + 1 * (x 2).val = (y 2).val
      omega
    · show 0 + 1 * _ = _
      omega
    · show 0 + 1 * _ = _
      omega
  · generalize hA : k2_pay188 (F := Ideal) _ _ _ _ = A
    have e : A = vAcc (View.ld x0 (Rect.unit ![0, 0, 0, 2048] ![1, 1, 192, 1024] inb_S1x1x192x4096_S1x1x192x1024_0_0_0_2048)) (kch x1) (vch x2) 7 := hA.symm
    clear hA
    have hq : ∀ e : Fin 192, View.ld x0 (Rect.unit ![0, 0, 0, 2048] ![1, 1, 192, 1024] inb_S1x1x192x4096_S1x1x192x1024_0_0_0_2048) (ix4 0 0 e (x 1)) = x0 (ix4 0 0 e (y 1)) := fun e => by
      pointwise
      refine congrArg (fun i => x0 (ix4 0 0 e i)) (Fin.ext ?_)
      simp only [h1]
    rw [valAlong_eq, valAlong_eq]
    pointwise [k2_pay190]
    refine congrArg₂ Ideal.div (acc_at x0 x1 x2 _ (y 1) A e _ _ _ (x 1) ?_ ?_ hq) (acc_at x0 x1 x2 _ (y 1) A e _ _ _ (x 1) rfl ?_ hq)
    · show 0 + 1 * (x 2).val = (y 2).val
      omega
    · show 0 + 1 * _ = _
      omega
    · show 0 + 1 * _ = _
      omega
  · generalize hA : k2_pay127 (F := Ideal) _ _ _ _ = A
    have e : A = vAcc (View.ld x0 (Rect.unit ![0, 0, 0, 1024] ![1, 1, 192, 1024] inb_S1x1x192x4096_S1x1x192x1024_0_0_0_1024)) (kch x1) (vch x2) 7 := hA.symm
    clear hA
    have hq : ∀ e : Fin 192, View.ld x0 (Rect.unit ![0, 0, 0, 1024] ![1, 1, 192, 1024] inb_S1x1x192x4096_S1x1x192x1024_0_0_0_1024) (ix4 0 0 e (x 1)) = x0 (ix4 0 0 e (y 1)) := fun e => by
      pointwise
      refine congrArg (fun i => x0 (ix4 0 0 e i)) (Fin.ext ?_)
      simp only [h1]
    rw [valAlong_eq, valAlong_eq]
    pointwise [k2_pay129]
    refine congrArg₂ Ideal.div (acc_at x0 x1 x2 _ (y 1) A e _ _ _ (x 1) ?_ ?_ hq) (acc_at x0 x1 x2 _ (y 1) A e _ _ _ (x 1) rfl ?_ hq)
    · show 0 + 1 * (x 2).val = (y 2).val
      omega
    · show 0 + 1 * _ = _
      omega
    · show 0 + 1 * _ = _
      omega
  · generalize hA : k2_pay63 (F := Ideal) _ _ _ _ = A
    have e : A = vAcc (View.ld x0 (Rect.unit ![0, 0, 0, 0] ![1, 1, 192, 1024] inb_S1x1x192x4096_S1x1x192x1024_0_0_0_0)) (kch x1) (vch x2) 7 := hA.symm
    clear hA
    have hq : ∀ e : Fin 192, View.ld x0 (Rect.unit ![0, 0, 0, 0] ![1, 1, 192, 1024] inb_S1x1x192x4096_S1x1x192x1024_0_0_0_0) (ix4 0 0 e (x 1)) = x0 (ix4 0 0 e (y 1)) := fun e => by
      pointwise
      refine congrArg (fun i => x0 (ix4 0 0 e i)) (Fin.ext ?_)
      simp only [h1]
    rw [valAlong_eq, valAlong_eq]
    pointwise [k2_pay66, k2_pay65]
    refine congrArg₂ Ideal.div (acc_at x0 x1 x2 _ (y 1) A e _ _ _ (x 1) ?_ ?_ hq) (acc_at x0 x1 x2 _ (y 1) A e _ _ _ (x 1) rfl ?_ hq)
    · show 0 + 1 * (x 2).val = (y 2).val
      omega
    · show 0 + 1 * _ = _
      omega
    · show 0 + 1 * _ = _
      omega

end Cert.KernelIdeal.AttnValue

end
-- ==== Proof.OutValue.lean ====
module

public import proofs.«01_k».proof.Defs
public import proofs.«01_k».proof.Proof.Gen.KernelIdeal.Frame
public import proofs.«01_k».proof.Proof.AttnValue
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! # The attention stage as a whole array -/

namespace Cert.KernelIdeal.OutValue

open Cert.KernelIdeal Cert.KernelIdeal.Gen Cert.Attn

variable (V : (c : Dev nD) → (b : Ref sig .tc) → Buf (Elt Ideal) ((c : Thread nD τ).loc b))

/-- The index maps of the attention. -/
theorem idx2 : ∀ t : Fin cfg2.N, win2_0.index t = ![t.val / 16, t.val % 16, 0, 0] ∧ win2_1.index t = ![t.val / 16, t.val % 16, 0, 0, 0]
    ∧ win2_2.index t = ![t.val / 16, 0, t.val % 16, 0, 0] ∧ win2_3.index t = ![t.val / 16, 0, t.val % 16] :=
  (by decide +kernel : ∀ t : Fin grid2.N, _)

/-- The scores of a query against the keys of a head, block by block. -/
def scG (Q : Vec Ideal S8x16x192x4096 .bf16) (K : Vec Ideal S8x16x8x512x192 .bf16) (b : Fin 8) (s : Fin 4096) (h : Fin 16) (k : ℕ) (r : Fin 512) : EReal :=
  0 + ∑ e : Fin 192, K (ix5 b h ⟨min k 7, by omega⟩ r e) * Q (ix4 b h e s)

/-- A feature of the values of a head, block by block. -/
def wtG (T : Vec Ideal S8x8x16x144x512 .bf16) (b : Fin 8) (h : Fin 16) (d : Fin 144) (k : ℕ) (r : Fin 512) : EReal :=
  T (ix5 b ⟨min k 7, by omega⟩ h d r)

/-- The attention of all heads: at sequence `b`, position `s`, head `h`, feature `d` the quotient of two accumulators. -/
def oG (Q : Vec Ideal S8x16x192x4096 .bf16) (K : Vec Ideal S8x16x8x512x192 .bf16) (T : Vec Ideal S8x8x16x144x512 .bf16) (b : Fin 8) (s : Fin 4096)
    (h : Fin 16) (d : Fin 144) : EReal :=
  Ideal.div (accs (scG Q K b s h) (wtG T b h d) 7) (accs (scG Q K b s h) (wtG T b h 128) 7)

set_option maxHeartbeats 2000000 in
theorem covers_o : (cfg2.win 3).Covers := by decide +kernel

theorem head_lt (t : Fin cfg2.N) (y : S1x4096x128.Idx) : ((win2_3.blk t).view.emb y 2).val / 128 < 16 := by
  blk_simp [idx2 t]
  idx_bounds y
  omega

theorem feat_eq (t : Fin cfg2.N) (y : S1x4096x128.Idx) : (y 2).val = ((win2_3.blk t).view.emb y 2).val % 128 := by
  blk_simp [idx2 t]
  idx_bounds y
  omega

theorem k_read (c : Dev nD) (t : Fin cfg2.N) (y : S1x4096x128.Idx) (k : Fin 8) (r : Fin 512) (e : Fin 192) :
    iblk2 V c 1 t (ix5 0 0 k r e) = V c main_v46 (ix5 ((win2_3.blk t).view.emb y 0) (⟨((win2_3.blk t).view.emb y 2).val / 128, head_lt t y⟩ : Fin 16) k r e) :=
  congrArg (V c main_v46) (by blk_ext [idx2 t])

theorem q_read (c : Dev nD) (t : Fin cfg2.N) (y : S1x4096x128.Idx) (e : Fin 192) :
    iblk2 V c 0 t (ix4 0 0 e (y 1)) = V c main_v45_0 (ix4 ((win2_3.blk t).view.emb y 0) (⟨((win2_3.blk t).view.emb y 2).val / 128, head_lt t y⟩ : Fin 16) e ((win2_3.blk t).view.emb y 1)) :=
  congrArg (V c main_v45_0) (by blk_ext [idx2 t])

theorem v_read (c : Dev nD) (t : Fin cfg2.N) (y : S1x4096x128.Idx) (k : Fin 8) (d : Fin 144) (r : Fin 512) :
    iblk2 V c 2 t (ix5 0 k 0 d r) = V c main_v45_2 (ix5 ((win2_3.blk t).view.emb y 0) k (⟨((win2_3.blk t).view.emb y 2).val / 128, head_lt t y⟩ : Fin 16) d r) :=
  congrArg (V c main_v45_2) (by blk_ext [idx2 t])

theorem s_eq (c : Dev nD) (t : Fin cfg2.N) (y : S1x4096x128.Idx) :
    AttnValue.score (iblk2 V c 0 t) (iblk2 V c 1 t) (y 1)
      = scG (V c main_v45_0) (V c main_v46) ((win2_3.blk t).view.emb y 0) ((win2_3.blk t).view.emb y 1)
          ⟨((win2_3.blk t).view.emb y 2).val / 128, head_lt t y⟩ :=
  funext fun k => funext fun r => congrArg (fun x : EReal => 0 + x) (Finset.sum_congr rfl fun e _ =>
    congrArg₂ (fun a b : EReal => a * b) (k_read V c t y _ r e) (q_read V c t y e))

theorem w_eq (c : Dev nD) (t : Fin cfg2.N) (y : S1x4096x128.Idx) (d d' : Fin 144) (hd : d = d') :
    AttnValue.wt (iblk2 V c 2 t) d
      = wtG (V c main_v45_2) ((win2_3.blk t).view.emb y 0) ⟨((win2_3.blk t).view.emb y 2).val / 128, head_lt t y⟩ d' := by
  subst hd
  exact funext fun k => funext fun r => v_read V c t y _ d r

theorem quot_congr (s s' w w' u u' : ℕ → Fin 512 → EReal) (hs : s = s') (hw : w = w') (hu : u = u') :
    Ideal.div (accs s w 7) (accs s u 7) = Ideal.div (accs s' w' 7) (accs s' u' 7) := by
  subst hs hw hu; rfl

theorem oG_eq (Q : Vec Ideal S8x16x192x4096 .bf16) (K : Vec Ideal S8x16x8x512x192 .bf16) (T : Vec Ideal S8x8x16x144x512 .bf16) (b : Fin 8) (s : Fin 4096)
    (h : Fin 16) (d : Fin 144) :
    oG Q K T b s h d = Ideal.div (accs (scG Q K b s h) (wtG T b h d) 7) (accs (scG Q K b s h) (wtG T b h 128) 7) := by
  unfold oG; rfl

theorem o_block (c : Dev nD) (t : Fin cfg2.N) (y : S1x4096x128.Idx) :
    ((dat2 V c).after 3 t : Vec Ideal S1x4096x128 .bf16) y
      = oG (V c main_v45_0) (V c main_v46) (V c main_v45_2) ((win2_3.blk t).view.emb y 0) ((win2_3.blk t).view.emb y 1)
          ⟨((win2_3.blk t).view.emb y 2).val / 128, head_lt t y⟩ ⟨((win2_3.blk t).view.emb y 2).val % 128, by omega⟩ := by
  refine (AttnValue.point V c t y).trans ?_
  exact (quot_congr _ _ _ _ _ _ (s_eq V c t y) (w_eq V c t y _ _ (Fin.ext (feat_eq t y))) (w_eq V c t y _ _ rfl)).trans (oG_eq _ _ _ _ _ _ _).symm

attribute [local irreducible] oG in
theorem o_array (c : Dev nD) : (dat2 V c).arrAt 3 cfg2.N
    = fun i => oG (V c main_v45_0) (V c main_v46) (V c main_v45_2) (i 0) (i 1)
        ⟨(i 2).val / 128, by have := (i 2).isLt; change (i 2).val < 2048 at this; omega⟩ ⟨(i 2).val % 128, by omega⟩ := by
  refine (dat2 V c).arrAt_eq_of_covers 3 _ covers_o fun t hf y => ?_
  exact o_block V c t y

end Cert.KernelIdeal.OutValue
-- ==== Proof.LayerArgs.lean ====
module

public import proofs.«01_k».proof.Proof.LayerMath

@[expose] public section

noncomputable section

open Idealize.ShloMosaic

/-! # The layer as the reference computes it, token by token

The arguments are plain functions: the tokens `X`, the gains `g`, `gq`, `gk`, the projections `W`, `Wq`, `Wk`. -/

namespace Cert.Attn

/-- The angle of position `s` in rotation pair `j`. -/
def ang (s : Fin 4096) (j : Fin 32) : EReal :=
  FloatOps.sitofp (F := Ideal) FTy.f32 (BitVec.ofNat 32 s.val) *
    Ideal.pow (Ideal.ofBits FTy.f32 1176256512#32)
      (Ideal.div (-(Ideal.ofBits FTy.f32 1073741824#32 * FloatOps.sitofp (F := Ideal) FTy.f32 (BitVec.ofNat 32 j.val))) (Ideal.ofBits FTy.f32 1115684864#32))

/-- The reference's score scale, the power it computes. -/
def rscale : EReal := Ideal.pow (Ideal.ofBits FTy.f32 0x43400000#32) (Ideal.ofBits FTy.f32 0xBF000000#32)

variable (X : Fin 8 → Fin 4096 → Fin 2048 → EReal) (g : Fin 2048 → EReal) (W : Fin 2048 → Fin 8512 → EReal)
  (gq : Fin 768 → EReal) (gk : Fin 512 → EReal) (Wq : Fin 768 → Fin 3072 → EReal) (Wk : Fin 512 → Fin 4096 → EReal)

/-- The input projection of one token. -/
def zrow (b : Fin 8) (s : Fin 4096) (j : Fin 8512) : EReal :=
  ∑ k, rms (Ideal.ofBits FTy.f32 1157627904#32) (X b s) g k * W k j

/-- The query features of one token before rotation and scaling. -/
def qfeat (b : Fin 8) (s : Fin 4096) (f : Fin 3072) : EReal :=
  ∑ r, rms (Ideal.ofBits FTy.f32 1145044992#32) (fun j : Fin 768 => zrow X g W b s ⟨j.val, by omega⟩) gq r * Wq r f

/-- The key and value features of one token. -/
def kvfeat (b : Fin 8) (s : Fin 4096) (f : Fin 4096) : EReal :=
  ∑ r, rms (Ideal.ofBits FTy.f32 1140850688#32) (fun j : Fin 512 => zrow X g W b s ⟨768 + j.val, by omega⟩) gk r * Wk r f

/-- A 64-vector rotated: entry `j` pairs with entry `j + 32`. -/
def rot (f : Fin 64 → EReal) (s : Fin 4096) (j : Fin 64) : EReal :=
  if h : j.val < 32 then f ⟨j.val, by omega⟩ * Ideal.cos (ang s ⟨j.val, h⟩) - f ⟨32 + j.val, by omega⟩ * Ideal.sin (ang s ⟨j.val, h⟩)
  else f ⟨32 + (j.val - 32), by omega⟩ * Ideal.cos (ang s ⟨j.val - 32, by omega⟩) + f ⟨j.val - 32, by omega⟩ * Ideal.sin (ang s ⟨j.val - 32, by omega⟩)

/-- The score of a query position `s` against a key position `t`, in head `h`. -/
def rscore (b : Fin 8) (h : Fin 16) (s t : Fin 4096) : EReal :=
  (∑ e : Fin 128, qfeat X g W gq Wq b s ⟨h.val * 192 + e.val, by omega⟩ * rscale * kvfeat X g W gk Wk b t ⟨h.val * 256 + e.val, by omega⟩)
    + ∑ j : Fin 64, rot (fun j => zrow X g W b t ⟨1280 + j.val, by omega⟩) t j
      * (rot (fun j => qfeat X g W gq Wq b s ⟨h.val * 192 + (128 + j.val), by omega⟩) s j * rscale)

/-- The softmax's shift. -/
def rmax (b : Fin 8) (h : Fin 16) (s : Fin 4096) : EReal :=
  max (Ideal.ofBits FTy.f32 0xFF800000#32) (Finset.univ.fold max (Ideal.ofBits FTy.f32 0xFF800000#32) fun t => rscore X g W gq gk Wq Wk b h s t)

/-- One feature of a head's output. -/
def rout (b : Fin 8) (h : Fin 16) (s : Fin 4096) (d : Fin 128) : EReal :=
  ∑ t, kvfeat X g W gk Wk b t ⟨h.val * 256 + (128 + d.val), by omega⟩
    * Ideal.div (Ideal.exp (rscore X g W gq gk Wq Wk b h s t - rmax X g W gq gk Wq Wk b h s))
        (0 + ∑ u, Ideal.exp (rscore X g W gq gk Wq Wk b h s u - rmax X g W gq gk Wq Wk b h s))

end Cert.Attn
-- ==== Proof.HostValue.lean ====
module

public import proofs.«01_k».proof.Defs
public import proofs.«01_k».proof.Proof.Gen.KernelIdeal.Frame
public import proofs.«01_k».proof.Proof.LayerArgs
public import Idealize.ShloMosaic.Lib.Pipeline.ValueKit
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem Idealize.ShloMosaic.StableHlo

/-! # What the operations before the first kernel leave, entry by entry -/

namespace Cert.KernelIdeal.HostValue

open Cert.KernelIdeal Cert.KernelIdeal.Gen Cert.Attn

variable (V : Valuation τ sig (Elt Ideal))

theorem v40_at (b : Fin 8) (s : Fin 4096) (k : Fin 2048) :
    after hostOps0 V (Proc.devRef .tc main_v40) (ix2 (⟨4096 * b.val + s.val, by omega⟩ : Fin 32768) k) = V (Proc.devRef .tc main_arg0) (ix3 b s k) := by
  after_reads_at

theorem v41_at (k : Fin 2048) :
    after hostOps0 V (Proc.devRef .tc main_v41) (ix2 (0 : Fin 1) k) = V (Proc.devRef .tc main_arg1) (ix1 k) := by
  after_reads_at

theorem v3_at (k : Fin 2048) (j : ℕ) (hj : j < 1344) :
    after hostOps0 V (Proc.devRef .tc main_v3) (ix2 k (⟨j, by omega⟩ : Fin 1408)) = V (Proc.devRef .tc main_arg2) (ix2 k (⟨j, by omega⟩ : Fin 8512)) := by
  after_reads_at
  rw [dif_pos hj]
  after_reads_at

theorem v6_at (k : Fin 2048) (j : Fin 3072) :
    after hostOps0 V (Proc.devRef .tc main_v6) (ix2 k j) = V (Proc.devRef .tc main_arg2) (ix2 k (⟨1344 + j.val, by omega⟩ : Fin 8512)) := by
  after_reads_at

theorem v8_at (f : Fin 3072) (r : Fin 768) :
    after hostOps0 V (Proc.devRef .tc main_v8) (ix2 f r) = V (Proc.devRef .tc main_arg5) (ix2 r f) := by
  after_reads_at

theorem v11_at (r : Fin 512) (h : Fin 16) (e : Fin 128) (f : Fin 2048) (hf : f.val = h.val * 128 + e.val) :
    after hostOps0 V (Proc.devRef .tc main_v11) (ix2 r f) = V (Proc.devRef .tc main_arg6) (ix2 r (⟨h.val * 256 + e.val, by omega⟩ : Fin 4096)) := by
  after_reads_at
  exact congrArg (fun f : Fin 4096 => V (Proc.devRef .tc main_arg6) (ix2 r f)) (Fin.ext (by show f.val / 128 * 256 + f.val % 128 = h.val * 256 + e.val; omega))

theorem v15_at (r : Fin 512) (h : Fin 16) (e : Fin 128) (f : Fin 2048) (hf : f.val = h.val * 128 + e.val) :
    after hostOps0 V (Proc.devRef .tc main_v15) (ix2 f r) = V (Proc.devRef .tc main_arg6) (ix2 r (⟨h.val * 256 + (128 + e.val), by omega⟩ : Fin 4096)) := by
  after_reads_at
  exact congrArg (fun f : Fin 4096 => V (Proc.devRef .tc main_arg6) (ix2 r f)) (Fin.ext (by show f.val / 128 * 256 + (128 + f.val % 128) = h.val * 256 + (128 + e.val); omega))

theorem v38_at (s : Fin 4096) (j : Fin 32) : after hostOps0 V (Proc.devRef .tc main_v38) (ix2 j s) = Ideal.cos (ang s j) := by
  unfold ang
  after_reads_at

theorem v39_at (s : Fin 4096) (j : Fin 32) : after hostOps0 V (Proc.devRef .tc main_v39) (ix2 j s) = Ideal.sin (ang s j) := by
  unfold ang
  after_reads_at

theorem v35_first (s : Fin 4096) (j : ℕ) (hj : j < 32) :
    after hostOps0 V (Proc.devRef .tc main_v35) (ix2 s (⟨j, by omega⟩ : Fin 128)) = Ideal.cos (ang s ⟨j, hj⟩) := by
  unfold ang
  after_reads_at
  rw [dif_pos hj]
  after_reads_at

theorem v35_second (s : Fin 4096) (j : ℕ) (hj : j < 32) :
    after hostOps0 V (Proc.devRef .tc main_v35) (ix2 s (⟨32 + j, by omega⟩ : Fin 128)) = Ideal.cos (ang s ⟨j, hj⟩) := by
  unfold ang
  after_reads_at
  rw [dif_pos hj]
  after_reads_at

theorem v37_first (s : Fin 4096) (j : ℕ) (hj : j < 32) :
    after hostOps0 V (Proc.devRef .tc main_v37) (ix2 s (⟨j, by omega⟩ : Fin 128)) = (-Ideal.sin (ang s ⟨j, hj⟩) : EReal) := by
  unfold ang
  after_reads_at
  rw [dif_pos hj]
  after_reads_at

theorem v37_second (s : Fin 4096) (j : ℕ) (hj : j < 32) :
    after hostOps0 V (Proc.devRef .tc main_v37) (ix2 s (⟨32 + j, by omega⟩ : Fin 128)) = Ideal.sin (ang s ⟨j, hj⟩) := by
  unfold ang
  after_reads_at
  rw [dif_pos hj]
  after_reads_at

theorem v43_at (r : Fin 768) : after hostOps1 V (Proc.devRef .tc main_v43) (ix2 (0 : Fin 1) r) = V (Proc.devRef .tc main_arg3) (ix1 r) := by
  after_reads_at

theorem v44_at (r : Fin 512) : after hostOps1 V (Proc.devRef .tc main_v44) (ix2 (0 : Fin 1) r) = V (Proc.devRef .tc main_arg4) (ix1 r) := by
  after_reads_at

theorem v46_at (b : Fin 8) (h : Fin 16) (k : Fin 8) (r : Fin 512) (e : Fin 192) (s : Fin 4096) (hs : s.val = 512 * k.val + r.val) :
    after hostOps2 V (Proc.devRef .tc main_v46) (ix5 b h k r e) = V (Proc.devRef .tc main_v45_1) (ix4 b h s e) := by
  after_reads_at
  exact congrArg (fun s : Fin 4096 => V (Proc.devRef .tc main_v45_1) (ix4 b h s e)) (Fin.ext (by show k.val * 512 + r.val = s.val; omega))

end Cert.KernelIdeal.HostValue
-- ==== Proof.AttnEq.lean ====
module

public import proofs.«01_k».proof.Proof.LayerArgs

@[expose] public section

noncomputable section

open Idealize.ShloMosaic

/-! # The blocked attention is the reference's softmax -/

namespace Cert.Attn

/-! ## Everything in sight is a real number -/

theorem length_real (w : BitVec 32) (r : ℝ) (h : Ideal.ofBits FTy.f32 w = (r : EReal)) (hr : 0 < r) : ∃ r : ℝ, 0 < r ∧ Ideal.ofBits FTy.f32 w = (r : EReal) := ⟨r, hr, h⟩

theorem eps_real : ∃ r : ℝ, 0 < r ∧ Ideal.ofBits FTy.f32 897988541#32 = (r : EReal) := by
  refine ⟨_, ?_, by simp [Ideal.ofBits, Ideal.ieee]; rfl⟩
  positivity

theorem d2048_real : ∃ r : ℝ, 0 < r ∧ Ideal.ofBits FTy.f32 1157627904#32 = (r : EReal) := by
  refine ⟨_, ?_, by simp [Ideal.ofBits, Ideal.ieee]; rfl⟩
  positivity

theorem d768_real : ∃ r : ℝ, 0 < r ∧ Ideal.ofBits FTy.f32 1145044992#32 = (r : EReal) := by
  refine ⟨_, ?_, by simp [Ideal.ofBits, Ideal.ieee]; rfl⟩
  positivity

theorem d512_real : ∃ r : ℝ, 0 < r ∧ Ideal.ofBits FTy.f32 1140850688#32 = (r : EReal) := by
  refine ⟨_, ?_, by simp [Ideal.ofBits, Ideal.ieee]; rfl⟩
  positivity

theorem rms_real {n : ℕ} {d : EReal} (hd : ∃ r : ℝ, 0 < r ∧ d = (r : EReal)) {x g : Fin n → EReal} (hx : ∀ k, IsReal (x k)) (hg : ∀ k, IsReal (g k))
    (k : Fin n) : IsReal (rms d x g k) := by
  obtain ⟨r, hr, rfl⟩ := hd
  obtain ⟨e, he, hee⟩ := eps_real
  choose y hy using hx
  unfold rms
  rw [hee]
  refine IsReal.mul (IsReal.mul ⟨_, hy k⟩ ?_) (hg k)
  have hs : ∑ j, x j * x j = ((∑ j, y j * y j : ℝ) : EReal) := by
    rw [coe_sum]
    exact Finset.sum_congr rfl fun j _ => by rw [hy j, EReal.coe_mul]
  rw [hs, Ideal.div_coe hr.ne', ← EReal.coe_mul, ← EReal.coe_add]
  refine isReal_rsqrt ?_
  have : 0 ≤ ∑ j, y j * y j := Finset.sum_nonneg fun j _ => mul_self_nonneg _
  positivity

variable {X : Fin 8 → Fin 4096 → Fin 2048 → EReal} {g : Fin 2048 → EReal} {W : Fin 2048 → Fin 8512 → EReal}
  {gq : Fin 768 → EReal} {gk : Fin 512 → EReal} {Wq : Fin 768 → Fin 3072 → EReal} {Wk : Fin 512 → Fin 4096 → EReal}

theorem zrow_real (hX : ∀ b s k, IsReal (X b s k)) (hg : ∀ k, IsReal (g k)) (hW : ∀ k j, IsReal (W k j)) (b : Fin 8) (s : Fin 4096) (j : Fin 8512) :
    IsReal (zrow X g W b s j) :=
  isReal_sum fun k _ => (rms_real d2048_real (hX b s) hg k).mul (hW k j)

theorem qfeat_real (hz : ∀ b s j, IsReal (zrow X g W b s j)) (hgq : ∀ k, IsReal (gq k)) (hWq : ∀ k j, IsReal (Wq k j)) (b : Fin 8) (s : Fin 4096) (f : Fin 3072) :
    IsReal (qfeat X g W gq Wq b s f) :=
  isReal_sum fun k _ => (rms_real d768_real (fun _ => hz b s _) hgq k).mul (hWq k f)

theorem kvfeat_real (hz : ∀ b s j, IsReal (zrow X g W b s j)) (hgk : ∀ k, IsReal (gk k)) (hWk : ∀ k j, IsReal (Wk k j)) (b : Fin 8) (s : Fin 4096) (f : Fin 4096) :
    IsReal (kvfeat X g W gk Wk b s f) :=
  isReal_sum fun k _ => (rms_real d512_real (fun _ => hz b s _) hgk k).mul (hWk k f)

theorem c64_real : ∃ r : ℝ, 0 < r ∧ Ideal.ofBits FTy.f32 1115684864#32 = (r : EReal) := by
  refine ⟨_, ?_, by simp [Ideal.ofBits, Ideal.ieee]; rfl⟩
  positivity

theorem c2_real : ∃ r : ℝ, 0 < r ∧ Ideal.ofBits FTy.f32 1073741824#32 = (r : EReal) := by
  refine ⟨_, ?_, by simp [Ideal.ofBits, Ideal.ieee]; rfl⟩
  positivity

theorem c10000_real : ∃ r : ℝ, 0 < r ∧ Ideal.ofBits FTy.f32 1176256512#32 = (r : EReal) := by
  refine ⟨_, ?_, by simp [Ideal.ofBits, Ideal.ieee]; rfl⟩
  positivity

theorem sitofp_real (w : BitVec 32) : IsReal (FloatOps.sitofp (F := Ideal) FTy.f32 w) := ⟨_, rfl⟩

theorem ang_real (s : Fin 4096) (j : Fin 32) : IsReal (ang s j) := by
  obtain ⟨a, ha, ea⟩ := c64_real
  obtain ⟨b, hb, eb⟩ := c2_real
  obtain ⟨c, hc, ec⟩ := c10000_real
  unfold ang
  rw [ea, eb, ec, Ideal.div_coe ha.ne']
  refine (sitofp_real _).mul ?_
  obtain ⟨y, hy⟩ := (((isReal_coe b).mul (sitofp_real (BitVec.ofNat 32 j.val))).neg).mul (isReal_coe (1 / a))
  rw [hy, Ideal.pow_coe_coe]
  exact isReal_coe _

theorem cos_real (s : Fin 4096) (j : Fin 32) : IsReal (Ideal.cos (ang s j)) := by
  obtain ⟨a, ha⟩ := ang_real s j
  rw [ha, Ideal.cos_coe]; exact isReal_coe _

theorem sin_real (s : Fin 4096) (j : Fin 32) : IsReal (Ideal.sin (ang s j)) := by
  obtain ⟨a, ha⟩ := ang_real s j
  rw [ha, Ideal.sin_coe]; exact isReal_coe _

theorem rot_real {f : Fin 64 → EReal} (hf : ∀ j, IsReal (f j)) (s : Fin 4096) (j : Fin 64) : IsReal (rot f s j) := by
  unfold rot
  split
  · exact ((hf _).mul (cos_real _ _)).sub ((hf _).mul (sin_real _ _))
  · exact ((hf _).mul (cos_real _ _)).add ((hf _).mul (sin_real _ _))

/-- Scaling before the rotation is scaling after it. -/
theorem rot_scale {f : Fin 64 → EReal} (hf : ∀ j, IsReal (f j)) {κ : EReal} (hκ : IsReal κ) (s : Fin 4096) (j : Fin 64) :
    rot (fun j => f j * κ) s j = rot f s j * κ := by
  obtain ⟨k, rfl⟩ := hκ
  choose y hy using hf
  choose cs hcs using cos_real
  choose sn hsn using sin_real
  unfold rot
  simp only [hy, hcs, hsn]
  split
  · simp only [← EReal.coe_mul, ← EReal.coe_sub]; congr 1; ring
  · simp only [← EReal.coe_mul, ← EReal.coe_add]; congr 1; ring

theorem rscale_eq : rscale = (((Real.sqrt 192)⁻¹ : ℝ) : EReal) := by
  have h1 : Ideal.ofBits FTy.f32 0x43400000#32 = ((192 : ℝ) : EReal) := by
    simp [Ideal.ofBits, Ideal.ieee]
    rw [← EReal.coe_mul]
    norm_num
  have h2 : Ideal.ofBits FTy.f32 0xBF000000#32 = ((-(1 / 2) : ℝ) : EReal) := by
    simp [Ideal.ofBits, Ideal.ieee]
    rw [← EReal.coe_mul]
    norm_num
  unfold rscale
  rw [h1, h2, Ideal.pow_coe_coe]
  congr 1
  show (192 : ℝ) ^ (-(1 / 2) : ℝ) = _
  rw [Real.rpow_neg (by norm_num), ← Real.sqrt_eq_rpow]

/-! ## The kernel's queries and keys -/

/-- The query features of a head: 128 plain, 64 rotated, each scaled before the rotation. -/
def qker (κ : EReal) (X : Fin 8 → Fin 4096 → Fin 2048 → EReal) (g : Fin 2048 → EReal) (W : Fin 2048 → Fin 8512 → EReal)
    (gq : Fin 768 → EReal) (Wq : Fin 768 → Fin 3072 → EReal) (b : Fin 8) (h : Fin 16) (s : Fin 4096) (e : Fin 192) : EReal :=
  if he : e.val < 128 then qfeat X g W gq Wq b s ⟨h.val * 192 + e.val, by omega⟩ * κ
  else rot (fun j => qfeat X g W gq Wq b s ⟨h.val * 192 + (128 + j.val), by omega⟩ * κ) s ⟨e.val - 128, by omega⟩

/-- The key features of a head: 128 plain, 64 rotated. -/
def kker (X : Fin 8 → Fin 4096 → Fin 2048 → EReal) (g : Fin 2048 → EReal) (W : Fin 2048 → Fin 8512 → EReal)
    (gk : Fin 512 → EReal) (Wk : Fin 512 → Fin 4096 → EReal) (b : Fin 8) (h : Fin 16) (t : Fin 4096) (e : Fin 192) : EReal :=
  if he : e.val < 128 then kvfeat X g W gk Wk b t ⟨h.val * 256 + e.val, by omega⟩
  else rot (fun j => zrow X g W b t ⟨1280 + j.val, by omega⟩) t ⟨e.val - 128, by omega⟩

/-- Up to the factor `log 2` the kernel's score is the reference's. -/
theorem score_eq (hX : ∀ b s k, IsReal (X b s k)) (hg : ∀ k, IsReal (g k)) (hW : ∀ k j, IsReal (W k j)) (hgq : ∀ k, IsReal (gq k))
    (hgk : ∀ k, IsReal (gk k)) (hWq : ∀ k j, IsReal (Wq k j)) (hWk : ∀ k j, IsReal (Wk k j)) {κ : EReal}
    (hκ : κ = (((Real.sqrt 192)⁻¹ * (Real.log 2)⁻¹ : ℝ) : EReal)) (b : Fin 8) (h : Fin 16) (s t : Fin 4096) :
    ∃ u : ℝ, rscore X g W gq gk Wq Wk b h s t = (u : EReal)
      ∧ 0 + ∑ e : Fin 192, kker X g W gk Wk b h t e * qker κ X g W gq Wq b h s e = ((u * (Real.log 2)⁻¹ : ℝ) : EReal) := by
  have hz := zrow_real hX hg hW
  have hq := qfeat_real (gq := gq) (Wq := Wq) hz hgq hWq
  have hkv := kvfeat_real (gk := gk) (Wk := Wk) hz hgk hWk
  choose q hq' using fun e : Fin 128 => hq b s ⟨h.val * 192 + e.val, by omega⟩
  choose k hk' using fun e : Fin 128 => hkv b t ⟨h.val * 256 + e.val, by omega⟩
  choose qr hqr using fun j : Fin 64 => rot_real (fun j => hq b s ⟨h.val * 192 + (128 + j.val), by omega⟩) s j
  choose kr hkr using fun j : Fin 64 => rot_real (fun j => hz b t ⟨1280 + j.val, by omega⟩) t j
  refine ⟨(∑ e, q e * (Real.sqrt 192)⁻¹ * k e) + ∑ j, kr j * (qr j * (Real.sqrt 192)⁻¹), ?_, ?_⟩
  · unfold rscore
    rw [rscale_eq, EReal.coe_add, coe_sum, coe_sum]
    refine congrArg₂ (· + ·) (Finset.sum_congr rfl fun e _ => ?_) (Finset.sum_congr rfl fun j _ => ?_)
    · rw [hq', hk', EReal.coe_mul, EReal.coe_mul]
    · rw [hqr, hkr, EReal.coe_mul, EReal.coe_mul]
  · rw [zero_add, add_mul, Finset.sum_mul, Finset.sum_mul, EReal.coe_add, coe_sum, coe_sum]
    refine (Fin.sum_univ_add (a := 128) (b := 64) fun e : Fin (128 + 64) => kker X g W gk Wk b h t e * qker κ X g W gq Wq b h s e).trans ?_
    refine congrArg₂ (· + ·) (Finset.sum_congr rfl fun e _ => ?_) (Finset.sum_congr rfl fun j _ => ?_)
    · have h1 : kker X g W gk Wk b h t (Fin.castAdd 64 e) = (k e : EReal) := by
        unfold kker; rw [dif_pos (show (Fin.castAdd 64 e).val < 128 from e.isLt)]; exact hk' e
      have h2 : qker κ X g W gq Wq b h s (Fin.castAdd 64 e) = (q e : EReal) * κ := by
        unfold qker; rw [dif_pos (show (Fin.castAdd 64 e).val < 128 from e.isLt)]; exact congrArg (· * κ) (hq' e)
      rw [h1, h2, hκ, ← EReal.coe_mul, ← EReal.coe_mul]
      congr 1; ring
    · have hn : ¬ (Fin.natAdd 128 j).val < 128 := by simp
      have hj : ∀ hp, (⟨(Fin.natAdd 128 j).val - 128, hp⟩ : Fin 64) = j := fun hp => Fin.ext (by simp)
      have h1 : kker X g W gk Wk b h t (Fin.natAdd 128 j) = (kr j : EReal) := by
        unfold kker; rw [dif_neg hn, hj]; exact hkr j
      have h2 : qker κ X g W gq Wq b h s (Fin.natAdd 128 j) = (qr j : EReal) * κ := by
        unfold qker
        rw [dif_neg hn, hj, rot_scale (fun j => hq b s ⟨h.val * 192 + (128 + j.val), by omega⟩) ⟨_, hκ⟩, hqr]
      rw [h1, h2, hκ, ← EReal.coe_mul, ← EReal.coe_mul]
      congr 1; ring

/-- Position `r` of block `c`. -/
def at512 (c : ℕ) (r : Fin 512) : Fin 4096 := ⟨512 * min c 7 + r.val, by omega⟩

/-- Eight blocks of 512 positions are all positions. -/
theorem sum_blocks (f : Fin 4096 → ℝ) : ∑ c ∈ Finset.range (7 + 1), ∑ r : Fin 512, f (at512 c r) = ∑ t, f t := by
  rw [Finset.sum_range (fun c => ∑ r : Fin 512, f (at512 c r)), ← Fintype.sum_prod_type' (fun (c : Fin 8) (r : Fin 512) => f (at512 c r)),
    ← Equiv.sum_comp (finProdFinEquiv : Fin 8 × Fin 512 ≃ Fin 4096) f]
  refine Finset.sum_congr rfl fun p _ => congrArg f (Fin.ext ?_)
  show 512 * min p.1.val 7 + p.2.val = p.2.val + 512 * p.1.val
  have := p.1.isLt
  omega

/-- The quotient of the two accumulators is the softmax's average of the values. -/
theorem attn_eq (hX : ∀ b s k, IsReal (X b s k)) (hg : ∀ k, IsReal (g k)) (hW : ∀ k j, IsReal (W k j)) (hgq : ∀ k, IsReal (gq k))
    (hgk : ∀ k, IsReal (gk k)) (hWq : ∀ k j, IsReal (Wq k j)) (hWk : ∀ k j, IsReal (Wk k j)) {κ : EReal}
    (hκ : κ = (((Real.sqrt 192)⁻¹ * (Real.log 2)⁻¹ : ℝ) : EReal)) (b : Fin 8) (h : Fin 16) (s : Fin 4096) (d : Fin 128) :
    Ideal.div
        (accs (fun c r => 0 + ∑ e : Fin 192, kker X g W gk Wk b h (at512 c r) e * qker κ X g W gq Wq b h s e)
          (fun c r => kvfeat X g W gk Wk b (at512 c r) ⟨h.val * 256 + (128 + d.val), by omega⟩) 7)
        (accs (fun c r => 0 + ∑ e : Fin 192, kker X g W gk Wk b h (at512 c r) e * qker κ X g W gq Wq b h s e) (fun _ _ => 1) 7)
      = rout X g W gq gk Wq Wk b h s d := by
  choose u hu hu' using score_eq hX hg hW hgq hgk hWq hWk hκ b h s
  choose v hv using fun t => kvfeat_real (gk := gk) (Wk := Wk) (zrow_real hX hg hW) hgk hWk b t ⟨h.val * 256 + (128 + d.val), by omega⟩
  simp only [hu', hv]
  rw [quot_real (by decide) (fun c r => u (at512 c r) * (Real.log 2)⁻¹) (fun c r => v (at512 c r)) 7]
  simp only [two_rpow_div_log]
  rw [sum_blocks (fun t => v t * Real.exp (u t)), sum_blocks (fun t => Real.exp (u t))]
  have hm : IsReal (rmax X g W gq gk Wq Wk b h s) := by
    unfold rmax
    simp only [hu]
    exact max_real u
  obtain ⟨M, hM⟩ := hm
  unfold rout
  simp only [hu, hv, hM]
  rw [← softmax_real u v M]
  exact Finset.sum_congr rfl fun t _ => mul_comm _ _

end Cert.Attn
-- ==== Proof.CompValue.lean ====
module

public import proofs.«01_k».proof.Defs
public import proofs.«01_k».proof.Proof.Gen.KernelIdeal.Frame
public import proofs.«01_k».proof.Proof.ArrValue
public import proofs.«01_k».proof.Proof.OutValue
public import proofs.«01_k».proof.Proof.HostValue
public import proofs.«01_k».proof.Proof.AttnEq

@[expose] public section

set_option maxRecDepth 16384

noncomputable section

open Idealize.ShloMosaic Idealize.ShloMosaic.TcCoe Idealize.SL.Sem Idealize.ShloMosaic.StableHlo

/-! # The three stages composed: the kernel's results as functions of its arguments -/

namespace Cert.KernelIdeal.CompValue

open Cert.KernelIdeal Cert.KernelIdeal.Gen Cert.Attn Cert.KernelIdeal.ProjValue Cert.KernelIdeal.ArrValue Cert.KernelIdeal.OutValue Cert.KernelIdeal.HostValue

variable (m : (ℓ : Loc nD τ sig) → Buf (Elt Ideal) ℓ) (ρ : Dev nD → PrngReg) (c : Dev nD)

/-- The tokens. -/
def kX : Fin 8 → Fin 4096 → Fin 2048 → EReal := fun b s k => m ((c : Thread nD τ).loc main_arg0) (ix3 b s k)
/-- The first gain. -/
def kg : Fin 2048 → EReal := fun k => m ((c : Thread nD τ).loc main_arg1) (ix1 k)
/-- The input projection. -/
def kW : Fin 2048 → Fin 8512 → EReal := fun k j => m ((c : Thread nD τ).loc main_arg2) (ix2 k j)
/-- The query gain. -/
def kgq : Fin 768 → EReal := fun k => m ((c : Thread nD τ).loc main_arg3) (ix1 k)
/-- The key gain. -/
def kgk : Fin 512 → EReal := fun k => m ((c : Thread nD τ).loc main_arg4) (ix1 k)
/-- The query projection. -/
def kWq : Fin 768 → Fin 3072 → EReal := fun r f => m ((c : Thread nD τ).loc main_arg5) (ix2 r f)
/-- The key and value projection. -/
def kWk : Fin 512 → Fin 4096 → EReal := fun r f => m ((c : Thread nD τ).loc main_arg6) (ix2 r f)

/-! ## What each stage finds -/

theorem lat_in : W2 m ρ c (Proc.devRef .tc main_v42_0) = latG (V1 m ρ c main_v40) (V1 m ρ c main_v41) (V1 m ρ c main_v3) :=
  (W2_arr m ρ c 4).trans (lat_array (V1 m ρ) c)

theorem cb_out : W6 m ρ c (Proc.devRef .tc main_v42_1) = convG (V1 m ρ c main_v40) (V1 m ρ c main_v41) (V1 m ρ c main_v6) 0 (by omega) := by
  rw [W6_of m ρ c main_v42_1 (by decide), W5_of m ρ c main_v42_1 (by decide), W4_of m ρ c main_v42_1 (by decide), W3_of m ρ c main_v42_1 (by decide)]
  exact (W2_arr m ρ c 5).trans (cb_array (V1 m ρ) c)

theorem p_out : W6 m ρ c (Proc.devRef .tc main_v42_2)
    = fun i => (convG (V1 m ρ c main_v40) (V1 m ρ c main_v41) (V1 m ρ c main_v6) 1024 (by omega) i * convG (V1 m ρ c main_v40) (V1 m ρ c main_v41) (V1 m ρ c main_v6) 2048 (by omega) i : EReal) := by
  rw [W6_of m ρ c main_v42_2 (by decide), W5_of m ρ c main_v42_2 (by decide), W4_of m ρ c main_v42_2 (by decide), W3_of m ρ c main_v42_2 (by decide)]
  exact (W2_arr m ρ c 6).trans (p_array (V1 m ρ) c)

theorem lat3 : V3 m ρ c main_v42_0 = latG (V1 m ρ c main_v40) (V1 m ρ c main_v41) (V1 m ρ c main_v3) :=
  (W3_of m ρ c main_v42_0 (by decide)).trans (lat_in m ρ c)

/-- What the first stage does not write, the second finds as the host left it. -/
theorem keep3 (r : Ref sig .tc) (h : r ∉ hostOps1_W) (h' : ∀ w : Fin cfg0.W, Pipeline.arrRef spec0 w = r → (cfg0.win w).isOut = false) :
    V3 m ρ c r = V1 m ρ c r :=
  (W3_of m ρ c r h).trans (W2_of m ρ c r h')

theorem q5 : V5 m ρ c main_v45_0 = qtG (V3 m ρ c main_v42_0) (V3 m ρ c main_v43) (V3 m ρ c main_v8) (V3 m ρ c main_v38) (V3 m ρ c main_v39) :=
  (W5_of m ρ c main_v45_0 (by decide)).trans ((W4_arr m ρ c 10).trans (qt_array (V3 m ρ) c))

theorem k4 : W4 m ρ c (Proc.devRef .tc main_v45_1) = kG (V3 m ρ c main_v42_0) (V3 m ρ c main_v44) (V3 m ρ c main_v11) (V3 m ρ c main_v35) (V3 m ρ c main_v37) :=
  (W4_arr m ρ c 11).trans (k_array (V3 m ρ) c)

theorem v5 : V5 m ρ c main_v45_2 = vtG (V3 m ρ c main_v42_0) (V3 m ρ c main_v44) (V3 m ρ c main_v15) :=
  (W5_of m ρ c main_v45_2 (by decide)).trans ((W4_arr m ρ c 12).trans (vt_array (V3 m ρ) c))

/-! ## The first stage -/

theorem row_at (b : Fin 8) (s : Fin 4096) :
    urow (fun k => V1 m ρ c main_v40 (ix2 (tok b s) k)) (fun k => V1 m ρ c main_v41 (ix2 0 k))
      = rms (Ideal.ofBits FTy.f32 1157627904#32) (kX m c b s) (kg m c) :=
  congrArg₂ (rms (Ideal.ofBits FTy.f32 1157627904#32)) (funext fun k => v40_at (W0 m ρ c) b s k) (funext fun k => v41_at (W0 m ρ c) k)

theorem lat_at (b : Fin 8) (s : Fin 4096) (j : ℕ) (hj : j < 1344) :
    latG (V1 m ρ c main_v40) (V1 m ρ c main_v41) (V1 m ρ c main_v3) (ix2 (tok b s) ⟨j, by omega⟩)
      = zrow (kX m c) (kg m c) (kW m c) b s ⟨j, by omega⟩ :=
  sum_ext _ _ fun k => congrArg₂ (fun a b : EReal => a * b) (congrFun (row_at m ρ c b s) k) (v3_at (W0 m ρ c) k j hj)

theorem conv_at (o : ℕ) (ho : o ≤ 2048) (b : Fin 8) (s : Fin 4096) (j : Fin 1024) :
    convG (V1 m ρ c main_v40) (V1 m ρ c main_v41) (V1 m ρ c main_v6) o ho (ix2 (tok b s) j)
      = zrow (kX m c) (kg m c) (kW m c) b s ⟨1344 + (o + j.val), by omega⟩ :=
  sum_ext _ _ fun k => congrArg₂ (fun a b : EReal => a * b) (congrFun (row_at m ρ c b s) k) (v6_at (W0 m ρ c) k ⟨o + j.val, by omega⟩)

/-! ## The second stage -/

/-- A token's latents as the second stage finds them. -/
abbrev lrow (b : Fin 8) (s : Fin 4096) : Fin 1408 → EReal := fun j => V3 m ρ c main_v42_0 (ix2 (tok b s) j)

theorem lrow_at (b : Fin 8) (s : Fin 4096) (j : ℕ) (hj : j < 1344) :
    lrow m ρ c b s ⟨j, by omega⟩ = zrow (kX m c) (kg m c) (kW m c) b s ⟨j, by omega⟩ :=
  (congrFun (lat3 m ρ c) _).trans (lat_at m ρ c b s j hj)

theorem gq_at (k : Fin 768) : V3 m ρ c main_v43 (ix2 0 k) = kgq m c k :=
  (v43_at (W2 m ρ c) k).trans (congrFun (W2_args m ρ c main_arg3 (by decide)) (ix1 k))

theorem gk_at (k : Fin 512) : V3 m ρ c main_v44 (ix2 0 k) = kgk m c k :=
  (v44_at (W2 m ρ c) k).trans (congrFun (W2_args m ρ c main_arg4 (by decide)) (ix1 k))

theorem wq_at (f : Fin 3072) (r : Fin 768) : V3 m ρ c main_v8 (ix2 f r) = kWq m c r f :=
  (congrFun (keep3 m ρ c main_v8 (by decide) (by decide)) _).trans (v8_at (W0 m ρ c) f r)

theorem wk_at (r : Fin 512) (h : Fin 16) (e : Fin 128) (f : Fin 2048) (hf : f.val = h.val * 128 + e.val) :
    V3 m ρ c main_v11 (ix2 r f) = kWk m c r ⟨h.val * 256 + e.val, by omega⟩ :=
  (congrFun (keep3 m ρ c main_v11 (by decide) (by decide)) _).trans (v11_at (W0 m ρ c) r h e f hf)

theorem wv_at (r : Fin 512) (h : Fin 16) (e : Fin 128) (f : Fin 2048) (hf : f.val = h.val * 128 + e.val) :
    V3 m ρ c main_v15 (ix2 f r) = kWk m c r ⟨h.val * 256 + (128 + e.val), by omega⟩ :=
  (congrFun (keep3 m ρ c main_v15 (by decide) (by decide)) _).trans (v15_at (W0 m ρ c) r h e f hf)

theorem cos_at (s : Fin 4096) (j : Fin 32) : V3 m ρ c main_v38 (ix2 j s) = Ideal.cos (ang s j) :=
  (congrFun (keep3 m ρ c main_v38 (by decide) (by decide)) _).trans (v38_at (W0 m ρ c) s j)

theorem sin_at (s : Fin 4096) (j : Fin 32) : V3 m ρ c main_v39 (ix2 j s) = Ideal.sin (ang s j) :=
  (congrFun (keep3 m ρ c main_v39 (by decide) (by decide)) _).trans (v39_at (W0 m ρ c) s j)

theorem kc_first (s : Fin 4096) (j : ℕ) (hj : j < 32) : V3 m ρ c main_v35 (ix2 s ⟨j, by omega⟩) = Ideal.cos (ang s ⟨j, hj⟩) :=
  (congrFun (keep3 m ρ c main_v35 (by decide) (by decide)) _).trans (v35_first (W0 m ρ c) s j hj)

theorem kc_second (s : Fin 4096) (j : ℕ) (hj : j < 32) : V3 m ρ c main_v35 (ix2 s ⟨32 + j, by omega⟩) = Ideal.cos (ang s ⟨j, hj⟩) :=
  (congrFun (keep3 m ρ c main_v35 (by decide) (by decide)) _).trans (v35_second (W0 m ρ c) s j hj)

theorem ks_first (s : Fin 4096) (j : ℕ) (hj : j < 32) : V3 m ρ c main_v37 (ix2 s ⟨j, by omega⟩) = (-Ideal.sin (ang s ⟨j, hj⟩) : EReal) :=
  (congrFun (keep3 m ρ c main_v37 (by decide) (by decide)) _).trans (v37_first (W0 m ρ c) s j hj)

theorem ks_second (s : Fin 4096) (j : ℕ) (hj : j < 32) : V3 m ρ c main_v37 (ix2 s ⟨32 + j, by omega⟩) = Ideal.sin (ang s ⟨j, hj⟩) :=
  (congrFun (keep3 m ρ c main_v37 (by decide) (by decide)) _).trans (v37_second (W0 m ρ c) s j hj)

theorem qlat_at (b : Fin 8) (s : Fin 4096) :
    qlat (lrow m ρ c b s) (fun k => V3 m ρ c main_v43 (ix2 0 k))
      = rms (Ideal.ofBits FTy.f32 1145044992#32) (fun j : Fin 768 => zrow (kX m c) (kg m c) (kW m c) b s ⟨j.val, by omega⟩) (kgq m c) :=
  congrArg₂ (rms (Ideal.ofBits FTy.f32 1145044992#32)) (funext fun j => lrow_at m ρ c b s j.val (by omega)) (funext fun k => gq_at m ρ c k)

theorem kvlat_at (b : Fin 8) (s : Fin 4096) :
    kvlat (lrow m ρ c b s) (fun k => V3 m ρ c main_v44 (ix2 0 k))
      = rms (Ideal.ofBits FTy.f32 1140850688#32) (fun j : Fin 512 => zrow (kX m c) (kg m c) (kW m c) b s ⟨768 + j.val, by omega⟩) (kgk m c) :=
  congrArg₂ (rms (Ideal.ofBits FTy.f32 1140850688#32)) (funext fun j => lrow_at m ρ c b s (768 + j.val) (by omega)) (funext fun k => gk_at m ρ c k)

theorem qraw_at (b : Fin 8) (s : Fin 4096) (f : Fin 3072) :
    qraw kap (lrow m ρ c b s) (fun k => V3 m ρ c main_v43 (ix2 0 k)) (fun f r => V3 m ρ c main_v8 (ix2 f r)) f
      = qfeat (kX m c) (kg m c) (kW m c) (kgq m c) (kWq m c) b s f * kap := by
  unfold qraw qfeat
  rw [qlat_at]
  refine congrArg (fun x : EReal => x * kap) (sum_ext _ _ fun r => ?_)
  exact (congrArg (fun x : EReal => x * _) (wq_at m ρ c f r)).trans (mul_comm _ _)

theorem q_at (b : Fin 8) (h : Fin 16) (s : Fin 4096) (e : Fin 192) :
    V5 m ρ c main_v45_0 (ix4 b h e s) = qker kap (kX m c) (kg m c) (kW m c) (kgq m c) (kWq m c) b h s e := by
  refine (congrFun (q5 m ρ c) _).trans ?_
  show qrow kap (lrow m ρ c b s) (fun j => V3 m ρ c main_v43 (ix2 0 j)) (fun f r => V3 m ρ c main_v8 (ix2 f r))
    (fun j => V3 m ρ c main_v38 (ix2 j s)) (fun j => V3 m ρ c main_v39 (ix2 j s)) h e = _
  unfold qrow qker rot
  simp only [qraw_at]
  have he := e.isLt
  by_cases h1 : e.val < 128
  · rw [dif_pos h1, dif_pos h1]
  · rw [dif_neg h1, dif_neg h1]
    by_cases h2 : e.val < 160
    · rw [dif_pos h2, dif_pos (by omega)]
      have e2 : h.val * 192 + (128 + (32 + (e.val - 128))) = h.val * 192 + (160 + (e.val - 128)) := by omega
      simp only [e2]
      exact congrArg₂ (fun a b : EReal => a - b) (congrArg (fun x : EReal => _ * x) (cos_at m ρ c s _)) (congrArg (fun x : EReal => _ * x) (sin_at m ρ c s _))
    · rw [dif_neg h2, dif_neg (by omega)]
      have e1 : e.val - 128 - 32 = e.val - 160 := by omega
      have e2 : h.val * 192 + (128 + (32 + (e.val - 160))) = h.val * 192 + (160 + (e.val - 160)) := by omega
      simp only [e1, e2]
      exact congrArg₂ (fun a b : EReal => a + b) (congrArg (fun x : EReal => _ * x) (cos_at m ρ c s _)) (congrArg (fun x : EReal => _ * x) (sin_at m ρ c s _))

theorem k_at (b : Fin 8) (h : Fin 16) (t : Fin 4096) (e : Fin 192) :
    W4 m ρ c (Proc.devRef .tc main_v45_1) (ix4 b h t e) = kker (kX m c) (kg m c) (kW m c) (kgk m c) (kWk m c) b h t e := by
  refine (congrFun (k4 m ρ c) _).trans ?_
  show krow (lrow m ρ c b t) (fun j => V3 m ρ c main_v44 (ix2 0 j)) (fun r f => V3 m ρ c main_v11 (ix2 r f))
    (fun j => V3 m ρ c main_v35 (ix2 t j)) (fun j => V3 m ρ c main_v37 (ix2 t j)) h e = _
  unfold krow kker rot
  have he := e.isLt
  by_cases h1 : e.val < 128
  · rw [dif_pos h1, dif_pos h1, kvlat_at]
    exact sum_ext _ _ fun r => congrArg (fun x : EReal => _ * x) (wk_at m ρ c r h ⟨e.val, h1⟩ _ rfl)
  · rw [dif_neg h1, dif_neg h1]
    unfold krot
    by_cases h2 : e.val - 128 < 32
    · rw [dif_pos h2, if_pos h2]
      have e1 : (e.val - 128 + 128 - 96) % 128 = 32 + (e.val - 128) := by omega
      simp only [e1]
      rw [kc_first m ρ c t (e.val - 128) h2, ks_first m ρ c t (e.val - 128) h2, lrow_at m ρ c b t (1280 + (e.val - 128)) (by omega),
        lrow_at m ρ c b t (1280 + (32 + (e.val - 128))) (by omega), mul_neg, ← sub_eq_add_neg]
    · rw [dif_neg h2, if_neg h2]
      obtain ⟨j, hj, ej⟩ : ∃ j, j < 32 ∧ e.val - 128 = 32 + j := ⟨e.val - 160, by omega, by omega⟩
      have e1 : (32 + j + 128 - 32) % 128 = j := by omega
      simp only [ej, e1, Nat.add_sub_cancel_left]
      rw [kc_second m ρ c t j hj, ks_second m ρ c t j hj, lrow_at m ρ c b t (1280 + (32 + j)) (by omega), lrow_at m ρ c b t (1280 + j) (by omega)]

theorem k5_at (b : Fin 8) (h : Fin 16) (k : Fin 8) (r : Fin 512) (e : Fin 192) :
    V5 m ρ c main_v46 (ix5 b h k r e) = kker (kX m c) (kg m c) (kW m c) (kgk m c) (kWk m c) b h (pos k r) e :=
  (v46_at (W4 m ρ c) b h k r e (pos k r) rfl).trans (k_at m ρ c b h (pos k r) e)

theorem v_at (b : Fin 8) (h : Fin 16) (k : Fin 8) (r : Fin 512) (d : Fin 128) :
    V5 m ρ c main_v45_2 (ix5 b k h (⟨d.val, by omega⟩ : Fin 144) r)
      = kvfeat (kX m c) (kg m c) (kW m c) (kgk m c) (kWk m c) b (pos k r) ⟨h.val * 256 + (128 + d.val), by omega⟩ := by
  refine (congrFun (v5 m ρ c) _).trans ?_
  show vrow (lrow m ρ c b (pos k r)) (fun j => V3 m ρ c main_v44 (ix2 0 j)) (fun f r => V3 m ρ c main_v15 (ix2 f r)) h ⟨d.val, by omega⟩ = _
  rw [vrow_plain _ _ _ _ d.val d.isLt, kvlat_at]
  exact sum_ext _ _ fun r' => (congrArg (fun x : EReal => x * _) (wv_at m ρ c r' h d _ rfl)).trans (mul_comm _ _)

theorem one_at (b : Fin 8) (h : Fin 16) (k : Fin 8) (r : Fin 512) :
    V5 m ρ c main_v45_2 (ix5 b k h (128 : Fin 144) r) = (1 : EReal) := by
  refine (congrFun (v5 m ρ c) _).trans ?_
  show vrow (lrow m ρ c b (pos k r)) (fun j => V3 m ρ c main_v44 (ix2 0 j)) (fun f r => V3 m ρ c main_v15 (ix2 f r)) h 128 = _
  exact (vrow_tail _ _ _ _ 0 (by omega)).trans (if_pos rfl)

/-! ## The results -/

theorem o_at (b : Fin 8) (s : Fin 4096) (h : Fin 16) (d : Fin 128) :
    oG (V5 m ρ c main_v45_0) (V5 m ρ c main_v46) (V5 m ρ c main_v45_2) b s h ⟨d.val, by omega⟩
      = Ideal.div
          (accs (fun k r => 0 + ∑ e : Fin 192, kker (kX m c) (kg m c) (kW m c) (kgk m c) (kWk m c) b h (at512 k r) e
              * qker kap (kX m c) (kg m c) (kW m c) (kgq m c) (kWq m c) b h s e)
            (fun k r => kvfeat (kX m c) (kg m c) (kW m c) (kgk m c) (kWk m c) b (at512 k r) ⟨h.val * 256 + (128 + d.val), by omega⟩) 7)
          (accs (fun k r => 0 + ∑ e : Fin 192, kker (kX m c) (kg m c) (kW m c) (kgk m c) (kWk m c) b h (at512 k r) e
              * qker kap (kX m c) (kg m c) (kW m c) (kgq m c) (kWq m c) b h s e) (fun _ _ => 1) 7) := by
  refine (oG_eq _ _ _ _ _ _ _).trans (quot_congr _ _ _ _ _ _ ?_ ?_ ?_)
  · exact funext fun k => funext fun r => congrArg (fun x : EReal => 0 + x) (sum_ext _ _ fun e =>
      congrArg₂ (fun a b : EReal => a * b) (k5_at m ρ c b h _ r e) (q_at m ρ c b h s e))
  · exact funext fun k => funext fun r => v_at m ρ c b h _ r d
  · exact funext fun k => funext fun r => one_at m ρ c b h _ r

theorem kap_eq : kap = (((Real.sqrt 192)⁻¹ * (Real.log 2)⁻¹ : ℝ) : EReal) := rfl

/-- The attention's result, entry by entry. -/
theorem attn_at (hX : ∀ b s k, IsReal (kX m c b s k)) (hg : ∀ k, IsReal (kg m c k)) (hW : ∀ k j, IsReal (kW m c k j)) (hgq : ∀ k, IsReal (kgq m c k))
    (hgk : ∀ k, IsReal (kgk m c k)) (hWq : ∀ k j, IsReal (kWq m c k j)) (hWk : ∀ k j, IsReal (kWk m c k j))
    (b : Fin 8) (s : Fin 4096) (h : Fin 16) (d : Fin 128) (f : Fin 2048) (hf : f.val = h.val * 128 + d.val) :
    W6 m ρ c (Proc.devRef .tc main_v47_0) (ix3 b s f)
      = rout (kX m c) (kg m c) (kW m c) (kgq m c) (kgk m c) (kWq m c) (kWk m c) b h s d := by
  refine (congrFun ((W6_arr m ρ c 3).trans (o_array (V5 m ρ) c)) _).trans ?_
  refine Eq.trans ?_ ((o_at m ρ c b s h d).trans (attn_eq hX hg hW hgq hgk hWq hWk kap_eq b h s d))
  have e1 : f.val / 128 = h.val := by omega
  have e2 : f.val % 128 = d.val := by omega
  show oG (V5 m ρ c main_v45_0) (V5 m ρ c main_v46) (V5 m ρ c main_v45_2) b s ⟨f.val / 128, by omega⟩ ⟨f.val % 128, by omega⟩ = _
  simp only [e1, e2]

theorem cb_at (b : Fin 8) (s : Fin 4096) (j : Fin 1024) :
    W6 m ρ c (Proc.devRef .tc main_v42_1) (ix2 (tok b s) j) = zrow (kX m c) (kg m c) (kW m c) b s ⟨1344 + j.val, by omega⟩ := by
  refine (congrFun (cb_out m ρ c) _).trans ((conv_at m ρ c 0 (by omega) b s j).trans ?_)
  simp only [Nat.zero_add]

theorem p_at (b : Fin 8) (s : Fin 4096) (j : Fin 1024) :
    W6 m ρ c (Proc.devRef .tc main_v42_2) (ix2 (tok b s) j)
      = (zrow (kX m c) (kg m c) (kW m c) b s ⟨2368 + j.val, by omega⟩ * zrow (kX m c) (kg m c) (kW m c) b s ⟨3392 + j.val, by omega⟩ : EReal) := by
  refine (congrFun (p_out m ρ c) _).trans ?_
  refine (congrArg₂ (fun a b : EReal => a * b) (conv_at m ρ c 1024 (by omega) b s j) (conv_at m ρ c 2048 (by omega) b s j)).trans ?_
  have e1 : 1344 + (1024 + j.val) = 2368 + j.val := by omega
  have e2 : 1344 + (2048 + j.val) = 3392 + j.val := by omega
  simp only [e1, e2]

end Cert.KernelIdeal.CompValue
-- ==== Proof.RunValue.lean ====
module

public import proofs.«01_k».proof.Proof.Gen.KernelIdeal.Frame

@[expose] public section

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the three stages ends with each unscoped buffer at the last stage's exit contents: read here at the
    three results and at the arguments, with every counter at zero. -/
theorem run : θ_run defs (onTc (τ := τ) (main (F := F))) ⟨m, fun _ => 0, ρ⟩ (fun r => ∀ c : Dev nD,
      r.2.mem ((c.tc : Thread nD τ).loc main_v47_0) = W6 m ρ c (Proc.devRef .tc main_v47_0)
      ∧ r.2.mem ((c.tc : Thread nD τ).loc main_v42_1) = W6 m ρ c (Proc.devRef .tc main_v42_1)
      ∧ r.2.mem ((c.tc : Thread nD τ).loc main_v42_2) = W6 m ρ c (Proc.devRef .tc main_v42_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Htok; imodintro
      isplitl [Htok]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Htok
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      have at_ (a : Ref sig .tc) (ha : a ∈ argRefs) (hu) := (h c _ (mem_uc a hu)).trans (W6_args m ρ c a ha)
      ⟨h c _ (mem_uc main_v47_0 (by decide)), h c _ (mem_uc main_v42_1 (by decide)), h c _ (mem_uc main_v42_2 (by decide)),
       at_ main_arg0 (by decide) (by decide), at_ main_arg1 (by decide) (by decide), at_ main_arg2 (by decide) (by decide),
       at_ main_arg3 (by decide) (by decide), at_ main_arg4 (by decide) (by decide), at_ main_arg5 (by decide) (by decide),
       at_ main_arg6 (by decide) (by decide)⟩)

end Cert.KernelIdeal.RunValue
-- ==== Proof.RefValue.lean ====
module

public import proofs.«01_k».proof.Defs
public import proofs.«01_k».proof.Proof.Gen.ReferenceIdeal.Run
public import proofs.«01_k».proof.Proof.Gen.ReferenceIdeal.Read
public import proofs.«01_k».proof.Proof.LayerArgs
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem Idealize.ShloMosaic.StableHlo

/-! # The reference, entry by entry -/

namespace Cert.ReferenceIdeal.RefValue

open Cert.ReferenceIdeal Cert.ReferenceIdeal.Gen Cert.ReferenceIdeal.Value Cert.ReferenceIdeal.Read Cert.Attn

variable (x0 : Vec Ideal S8x4096x2048 .f32) (x1 : Vec Ideal S2048 .f32) (x2 : Vec Ideal S2048x8512 .f32) (x3 : Vec Ideal S768 .f32)
  (x4 : Vec Ideal S512 .f32) (x5 : Vec Ideal S768x3072 .f32) (x6 : Vec Ideal S512x4096 .f32)

/-- The tokens as a function. -/
abbrev aX : Fin 8 → Fin 4096 → Fin 2048 → EReal := fun b s k => x0 (ix3 b s k)
/-- The first gain as a function. -/
abbrev ag : Fin 2048 → EReal := fun k => x1 (ix1 k)
/-- The input projection as a function. -/
abbrev aW : Fin 2048 → Fin 8512 → EReal := fun k j => x2 (ix2 k j)
/-- The query gain as a function. -/
abbrev agq : Fin 768 → EReal := fun k => x3 (ix1 k)
/-- The key gain as a function. -/
abbrev agk : Fin 512 → EReal := fun k => x4 (ix1 k)
/-- The query projection as a function. -/
abbrev aWq : Fin 768 → Fin 3072 → EReal := fun r f => x5 (ix2 r f)
/-- The key and value projection as a function. -/
abbrev aWk : Fin 512 → Fin 4096 → EReal := fun r f => x6 (ix2 r f)

theorem z_at (b : Fin 8) (s : Fin 4096) (j : Fin 8512) : val_main_v13 x0 x1 x2 (ix3 b s j) = zrow (aX x0) (ag x1) (aW x2) b s j := by
  unfold zrow rms
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, aX, ag, aW]

theorem q_at (b : Fin 8) (s : Fin 4096) (f : Fin 3072) :
    val_main_v33 x0 x1 x2 x3 x5 (ix3 b s f) = qfeat (aX x0) (ag x1) (aW x2) (agq x3) (aWq x5) b s f := by
  unfold qfeat rms
  simp only [← z_at]
  pointwise [val_main_v14, val_main_v33, val_main_v32, val_main_v31, val_main_v30, val_main_v29, val_main_v28, val_main_v27, val_main_v26, val_main_v25, val_main_v24, val_main_v23, val_main_v22, val_main_v21, val_main_v20, val_main_cst_2, val_main_cst_3, val_main_cst_4]

theorem kv_at (b : Fin 8) (s : Fin 4096) (f : Fin 4096) :
    val_main_v50 x0 x1 x2 x4 x6 (ix3 b s f) = kvfeat (aX x0) (ag x1) (aW x2) (agk x4) (aWk x6) b s f := by
  unfold kvfeat rms
  simp only [← z_at]
  pointwise [val_main_v15, val_main_v50, val_main_v49, val_main_v48, val_main_v47, val_main_v46, val_main_v45, val_main_v44, val_main_v43, val_main_v42, val_main_v41, val_main_v40, val_main_v39, val_main_v38, val_main_v37, val_main_cst_5, val_main_cst_6, val_main_cst_7]

theorem cb_at (b : Fin 8) (s : Fin 4096) (j : Fin 1024) :
    val_main_v133 x0 x1 x2 (ix2 (⟨4096 * b.val + s.val, by omega⟩ : Fin 32768) j) = zrow (aX x0) (ag x1) (aW x2) b s ⟨1344 + j.val, by omega⟩ := by
  simp only [← z_at]
  pointwise [val_main_v133, val_main_v132, val_main_v17]

theorem p_at (b : Fin 8) (s : Fin 4096) (j : Fin 1024) :
    val_main_v136 x0 x1 x2 (ix2 (⟨4096 * b.val + s.val, by omega⟩ : Fin 32768) j) = (zrow (aX x0) (ag x1) (aW x2) b s ⟨2368 + j.val, by omega⟩ * zrow (aX x0) (ag x1) (aW x2) b s ⟨3392 + j.val, by omega⟩ : EReal) := by
  simp only [← z_at]
  pointwise [val_main_v136, val_main_v135, val_main_v134, val_main_v18, val_main_v19]

theorem cos_at (s : Fin 4096) (j : Fin 32) : val_main_v70 (F := Ideal) (ix2 s j) = Ideal.cos (ang s j) := by
  unfold ang
  pointwise [val_main_v70, val_main_v69, val_main_v68, val_main_v67, val_main_v66, val_main_v65, val_main_v64, val_main_v63, val_main_v62, val_main_v61, val_main_v60, val_main_v59, val_main_v58, val_main_v57, val_main_v56, val_main_v55, val_main_v54, val_main_cst_8, val_main_cst_9, val_main_cst_10, val_main_cst_11]

theorem sin_at (s : Fin 4096) (j : Fin 32) : val_main_v71 (F := Ideal) (ix2 s j) = Ideal.sin (ang s j) := by
  unfold ang
  pointwise [val_main_v71, val_main_v69, val_main_v68, val_main_v67, val_main_v66, val_main_v65, val_main_v64, val_main_v63, val_main_v62, val_main_v61, val_main_v60, val_main_v59, val_main_v58, val_main_v57, val_main_v56, val_main_v55, val_main_v54, val_main_cst_8, val_main_cst_9, val_main_cst_10, val_main_cst_11]

theorem qrot_at (b : Fin 8) (s : Fin 4096) (h : Fin 16) (j : Fin 64) :
    val_main_v93 x0 x1 x2 x3 x5 (ix4 b s h j) = (rot (fun j => qfeat (aX x0) (ag x1) (aW x2) (agq x3) (aWq x5) b s ⟨h.val * 192 + (128 + j.val), by omega⟩) s j * rscale : EReal) := by
  unfold rot rscale
  simp only [← cos_at, ← sin_at, ← q_at]
  pointwise [val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_cst_12, val_main_cst_13, val_main_v36, val_main_v34]
  done

theorem qnope_at (b : Fin 8) (s : Fin 4096) (h : Fin 16) (e : Fin 128) :
    val_main_v95 x0 x1 x2 x3 x5 (ix4 b s h e) = (qfeat (aX x0) (ag x1) (aW x2) (agq x3) (aWq x5) b s ⟨h.val * 192 + e.val, by omega⟩ * rscale : EReal) := by
  unfold rscale
  simp only [← q_at]
  pointwise [val_main_v95, val_main_v94, val_main_v72, val_main_v35, val_main_v34, val_main_cst_12, val_main_cst_13]
  done

theorem krot_at (b : Fin 8) (t : Fin 4096) (j : Fin 64) :
    val_main_v112 x0 x1 x2 (ix3 b t j) = rot (fun j => zrow (aX x0) (ag x1) (aW x2) b t ⟨1280 + j.val, by omega⟩) t j := by
  unfold rot
  simp only [← cos_at, ← sin_at, ← z_at]
  pointwise [val_main_v16, val_main_v112, val_main_v111, val_main_v110, val_main_v109, val_main_v108, val_main_v107, val_main_v106, val_main_v105, val_main_v104, val_main_v103, val_main_v102, val_main_v101, val_main_v100, val_main_v99, val_main_v98, val_main_v97, val_main_v96]
  done

theorem score_at (b : Fin 8) (h : Fin 16) (s t : Fin 4096) :
    val_main_v116 x0 x1 x2 x3 x4 x5 x6 (ix4 b h s t) = rscore (aX x0) (ag x1) (aW x2) (agq x3) (agk x4) (aWq x5) (aWk x6) b h s t := by
  unfold rscore
  simp only [← qrot_at, ← qnope_at, ← krot_at, ← kv_at]
  pointwise [val_main_v116, val_main_v115, val_main_v114, val_main_v113, val_main_v52, val_main_v51]
  done

theorem max_aux (S : Vec Ideal S8x16x4096x4096 .f32) (b : Fin 8) (h : Fin 16) (s : Fin 4096) :
    Host.reduce FloatOps.maximumf S (constant S_ .f32 0xFF800000#32) reducesTo_S8x16x4096x4096_S8x16x4096_d3 h_S_ (ix3 b h s)
      = Finset.univ.fold max (Ideal.ofBits FTy.f32 0xFF800000#32) fun t : Fin 4096 => S (ix4 b h s t) := by
  pointwise

theorem max_read (M : EReal) :
    FloatOps.maximumf (F := Ideal) (φ := .f32) (FloatOps.ofBits .f32 0xFF800000#32) M = max (Ideal.ofBits FTy.f32 0xFF800000#32) M := rfl

theorem max_at (b : Fin 8) (h : Fin 16) (s : Fin 4096) :
    val_main_v119 x0 x1 x2 x3 x4 x5 x6 (ix3 b h s) = rmax (aX x0) (ag x1) (aW x2) (agq x3) (agk x4) (aWq x5) (aWk x6) b h s := by
  have e : val_main_v117 x0 x1 x2 x3 x4 x5 x6 (ix3 b h s) = Finset.univ.fold max (Ideal.ofBits FTy.f32 0xFF800000#32) fun t : Fin 4096 =>
      val_main_v116 x0 x1 x2 x3 x4 x5 x6 (ix4 b h s t) := by
    unfold val_main_v117 val_main_cst_14
    exact max_aux _ b h s
  rw [val_main_v119_apply, e, val_main_v118_apply, val_main_cst_15_apply, max_read]
  unfold rmax
  simp only [score_at]

theorem out_at (b : Fin 8) (h : Fin 16) (s : Fin 4096) (d : Fin 128) :
    val_main_v131 x0 x1 x2 x3 x4 x5 x6 (ix3 b s (⟨h.val * 128 + d.val, by omega⟩ : Fin 2048)) = rout (aX x0) (ag x1) (aW x2) (agq x3) (agk x4) (aWq x5) (aWk x6) b h s d := by
  unfold rout
  simp only [← score_at, ← max_at, ← kv_at]
  pointwise [val_main_v131, val_main_v130, val_main_v129, val_main_v128, val_main_v127, val_main_v126, val_main_v125, val_main_v124, val_main_v123, val_main_v122, val_main_v121, val_main_v120, val_main_v53, val_main_v51, val_main_cst_16]
  done

end Cert.ReferenceIdeal.RefValue
-- ==== Proof.Claims.lean ====
module

public import proofs.«01_k».proof.Defs
public import proofs.«01_k».proof.Proof.Gen.Kernel.Frame
public import proofs.«01_k».proof.Proof.CompValue
public import proofs.«01_k».proof.Proof.RunValue
public import proofs.«01_k».proof.Proof.RefValue
public import Idealize.ShloMosaic.Adequacy
public import Idealize.ShloMosaic.Init

@[expose] public section

set_option maxRecDepth 16384

noncomputable section

open Idealize.ShloMosaic Idealize.ShloMosaic.TcCoe Idealize.SL.Sem Idealize.ShloMosaic.StableHlo

/-! # The claims, each from the run and the values it is about -/

namespace Cert.Claims

open Cert.Attn

/-! ## What the precondition says -/

/-- The shape relations the precondition takes. -/
theorem preFacts : Cert.Pre_finite.Facts where
  bcast_S_S8x4096x2048 := by decide
  bcast_S_S2048 := by decide
  bcast_S_S2048x8512 := by decide
  bcast_S_S768 := by decide
  bcast_S_S512 := by decide
  bcast_S_S768x3072 := by decide
  bcast_S_S512x4096 := by decide

/-- A value whose size lies strictly below the infinity is real. -/
theorem isReal_of_mask (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  refine isReal_of (fun e => ?_) (fun e => ?_)
  · subst e; simp [Ideal.cmp] at h
  · subst e; simp [Ideal.cmp] at h

section

variable [hPre : Cert.Pre_finite.Facts] (m : (ℓ : Loc Cert.KernelIdeal.nD Cert.KernelIdeal.τ Cert.KernelIdeal.sig) → Buf (Elt Ideal) ℓ)
  (h : Pre_KernelIdeal_finite m) (c : Dev Cert.KernelIdeal.nD)
include h

theorem real0 (b : Fin 8) (s : Fin 4096) (k : Fin 2048) : IsReal (Cert.KernelIdeal.CompValue.kX m c b s k) :=
  isReal_of_mask _ (congrFun (h c).1 (ix3 b s k))
theorem real1 (k : Fin 2048) : IsReal (Cert.KernelIdeal.CompValue.kg m c k) :=
  isReal_of_mask _ (congrFun (h c).2.1 (ix1 k))
theorem real2 (k : Fin 2048) (j : Fin 8512) : IsReal (Cert.KernelIdeal.CompValue.kW m c k j) :=
  isReal_of_mask _ (congrFun (h c).2.2.1 (ix2 k j))
theorem real3 (k : Fin 768) : IsReal (Cert.KernelIdeal.CompValue.kgq m c k) :=
  isReal_of_mask _ (congrFun (h c).2.2.2.1 (ix1 k))
theorem real4 (k : Fin 512) : IsReal (Cert.KernelIdeal.CompValue.kgk m c k) :=
  isReal_of_mask _ (congrFun (h c).2.2.2.2.1 (ix1 k))
theorem real5 (r : Fin 768) (f : Fin 3072) : IsReal (Cert.KernelIdeal.CompValue.kWq m c r f) :=
  isReal_of_mask _ (congrFun (h c).2.2.2.2.2.1 (ix2 r f))
theorem real6 (r : Fin 512) (f : Fin 4096) : IsReal (Cert.KernelIdeal.CompValue.kWk m c r f) :=
  isReal_of_mask _ (congrFun (h c).2.2.2.2.2.2 (ix2 r f))

end

/-! ## The results of the two programs are the same -/

section

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD)

open Cert.KernelIdeal in
/-- The attention's result. -/
theorem out_same [hPre : Cert.Pre_finite.Facts] (h : Pre_KernelIdeal_finite m) :
    Cert.ReferenceIdeal.Read.val_main_v131 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      = Gen.W6 m ρ c (Proc.devRef .tc main_v47_0) := by
  funext i
  obtain ⟨b, s, f, rfl⟩ : ∃ (b : Fin 8) (s : Fin 4096) (f : Fin 2048), i = ix3 b s f := ⟨_, _, _, eq_ix3 i⟩
  have ef : f = (⟨(f.val / 128) * 128 + f.val % 128, by omega⟩ : Fin 2048) := Fin.ext (by show f.val = f.val / 128 * 128 + f.val % 128; omega)
  have hr := Cert.ReferenceIdeal.RefValue.out_at (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      b (⟨f.val / 128, by omega⟩ : Fin 16) s (⟨f.val % 128, by omega⟩ : Fin 128)
  have hk := Cert.KernelIdeal.CompValue.attn_at m ρ c (real0 m h c) (real1 m h c) (real2 m h c) (real3 m h c) (real4 m h c) (real5 m h c) (real6 m h c)
      b s (⟨f.val / 128, by omega⟩ : Fin 16) (⟨f.val % 128, by omega⟩ : Fin 128) f (by show f.val = f.val / 128 * 128 + f.val % 128; omega)
  exact (congrArg (fun f : Fin 2048 => Cert.ReferenceIdeal.Read.val_main_v131 (F := Ideal) _ _ _ _ _ _ _ (ix3 b s f)) ef).trans (hr.trans hk.symm)

open Cert.KernelIdeal in
/-- The first convolution input. -/
theorem cb_same :
    Cert.ReferenceIdeal.Read.val_main_v133 (F := Ideal) (m ((c : Thread nD τ).loc main_arg0)) (m ((c : Thread nD τ).loc main_arg1)) (m ((c : Thread nD τ).loc main_arg2))
      = Gen.W6 m ρ c (Proc.devRef .tc main_v42_1) := by
  funext i
  obtain ⟨t, j, rfl⟩ : ∃ (t : Fin 32768) (j : Fin 1024), i = ix2 t j := ⟨_, _, eq_ix2 i⟩
  obtain ⟨b, s, rfl⟩ : ∃ (b : Fin 8) (s : Fin 4096), t = ArrValue.tok b s :=
    ⟨⟨t.val / 4096, by omega⟩, ⟨t.val % 4096, by omega⟩, Fin.ext (by show t.val = 4096 * (t.val / 4096) + t.val % 4096; omega)⟩
  exact (Cert.ReferenceIdeal.RefValue.cb_at (m ((c : Thread nD τ).loc main_arg0)) (m ((c : Thread nD τ).loc main_arg1)) (m ((c : Thread nD τ).loc main_arg2)) b s j).trans
    (CompValue.cb_at m ρ c b s j).symm

open Cert.KernelIdeal in
/-- The second convolution input. -/
theorem p_same :
    Cert.ReferenceIdeal.Read.val_main_v136 (F := Ideal) (m ((c : Thread nD τ).loc main_arg0)) (m ((c : Thread nD τ).loc main_arg1)) (m ((c : Thread nD τ).loc main_arg2))
      = Gen.W6 m ρ c (Proc.devRef .tc main_v42_2) := by
  funext i
  obtain ⟨t, j, rfl⟩ : ∃ (t : Fin 32768) (j : Fin 1024), i = ix2 t j := ⟨_, _, eq_ix2 i⟩
  obtain ⟨b, s, rfl⟩ : ∃ (b : Fin 8) (s : Fin 4096), t = ArrValue.tok b s :=
    ⟨⟨t.val / 4096, by omega⟩, ⟨t.val % 4096, by omega⟩, Fin.ext (by show t.val = 4096 * (t.val / 4096) + t.val % 4096; omega)⟩
  exact (Cert.ReferenceIdeal.RefValue.p_at (m ((c : Thread nD τ).loc main_arg0)) (m ((c : Thread nD τ).loc main_arg1)) (m ((c : Thread nD τ).loc main_arg2)) b s j).trans
    (CompValue.p_at m ρ c b s j).symm

end

/-! ## The claims -/

theorem frame_p : Cert.quiescent_Kernel := fun m ρ _ => Cert.Kernel.Gen.frame m ρ
theorem frame_pi : Cert.quiescent_KernelIdeal := fun m ρ _ => Cert.KernelIdeal.Gen.frame m ρ
theorem frame_ri : Cert.quiescent_ReferenceIdeal := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "scale_log2e" .f32 0x3DD53B95#32 (((Real.sqrt 192)⁻¹ * (Real.log 2)⁻¹ : ℝ) : EReal) rfl

theorem algebraic [hPre : Cert.Pre_finite.Facts] : Cert.algebraic_KernelIdeal_ReferenceIdeal_pre_finite := by
  intro m ρ m' ρ' hp hagree
  refine ⟨_, _, _, Cert.KernelIdeal.RunValue.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · refine (Cert.ReferenceIdeal.Read.val_main_v131_eq (launchContents m' c)).trans ?_
    show Cert.ReferenceIdeal.Read.val_main_v131 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = _
    obtain ⟨a0, a1, a2, a3, a4, a5, a6⟩ := hagree c
    rw [a0, a1, a2, a3, a4, a5, a6]
    exact out_same m ρ c hp
  · refine (Cert.ReferenceIdeal.Read.val_main_v133_eq (launchContents m' c)).trans ?_
    show Cert.ReferenceIdeal.Read.val_main_v133 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) = _
    obtain ⟨a0, a1, a2, a3, a4, a5, a6⟩ := hagree c
    rw [a0, a1, a2]
    exact cb_same m ρ c
  · refine (Cert.ReferenceIdeal.Read.val_main_v136_eq (launchContents m' c)).trans ?_
    show Cert.ReferenceIdeal.Read.val_main_v136 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) = _
    obtain ⟨a0, a1, a2, a3, a4, a5, a6⟩ := hagree c
    rw [a0, a1, a2]
    exact p_same m ρ c

end Cert.Claims
-- ==== Proof.FfnBlock.lean ====
module

public import proofs.«01_k».proof.Defs
public import proofs.«01_k».proof.Proof.Gen.FfnIdeal.Frame
public import proofs.«01_k».proof.Proof.LayerMath
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! # What one grid point of the feed-forward kernel computes -/

namespace Cert.FfnIdeal.FfnBlock

open Cert.FfnIdeal Cert.FfnIdeal.Gen Cert.Attn

/-- The gated hidden feature from its gate and its linear part. -/
def act (g u : EReal) : EReal := g * Ideal.div 1 (1 + Ideal.exp (0 - g)) * u

/-- A hidden feature: the normalised row against one column of each half of the first weight. -/
def hid (x wg wu : Fin 2048 → EReal) : EReal := act (∑ k, x k * wg k) (∑ k, x k * wu k)

/-- What 512 hidden features give one output feature. -/
def chunk (x : Fin 2048 → EReal) (wg wu : Fin 2048 → Fin 512 → EReal) (wd : Fin 512 → EReal) : EReal :=
  ∑ f, hid x (fun k => wg k f) (fun k => wu k f) * wd f

/-- The normalised row of 2048 features. -/
abbrev nrm (x g : Fin 2048 → EReal) : Fin 2048 → EReal := rms (Ideal.ofBits FTy.f32 1157627904#32) x g

/-- The residual with half of the normalised sum added. -/
def res (x n : EReal) : EReal := x + Ideal.ofBits FTy.f32 1056964608#32 * n

set_option maxHeartbeats 2000000 in
/-- The accumulator's step. -/
theorem pay2_at (a : FVec Ideal S512x2048 .f32) (x : FVec Ideal S512x2048 .bf16) (wg wu : FVec Ideal S2048x512 .bf16)
    (wd : FVec Ideal S512x2048 .bf16) (y : S512x2048.Idx) :
    k0_pay2 a x wg wu wd y = a y + chunk (fun k => x (ix2 (y 0) k)) (fun k f => wg (ix2 k f)) (fun k f => wu (ix2 k f)) (fun f => wd (ix2 f (y 1))) := by
  unfold chunk hid act
  pointwise [k0_pay2]

set_option maxHeartbeats 2000000 in
/-- The upper half's normalised rows. -/
theorem pay4_at (x : FVec Ideal S256x2048 .f32) (g : FVec Ideal S1x2048 .f32) (y : S256x2048.Idx) :
    (k0_pay4 (F := Ideal) x g : FVec Ideal S256x2048 .bf16) y = nrm (fun k => x (ix2 (y 0) k)) (fun k => g (ix2 0 k)) (y 1) := by
  obtain ⟨i, j, rfl⟩ : ∃ i j, y = ix2 i j := ⟨_, _, eq_ix2 y⟩
  pointwise [k0_pay4]
  rfl

set_option maxHeartbeats 2000000 in
/-- The lower half's normalised rows. -/
theorem pay9_at (x : FVec Ideal S256x2048 .f32) (g : FVec Ideal S1x2048 .f32) (y : S256x2048.Idx) :
    (k0_pay9 (F := Ideal) x g : FVec Ideal S256x2048 .bf16) y = nrm (fun k => x (ix2 (y 0) k)) (fun k => g (ix2 0 k)) (y 1) := by
  obtain ⟨i, j, rfl⟩ : ∃ i j, y = ix2 i j := ⟨_, _, eq_ix2 y⟩
  pointwise [k0_pay9]
  rfl

/-- The upper half's normalised rows, as stored. -/
theorem pay5_at (x : FVec Ideal S256x2048 .f32) (g : FVec Ideal S1x2048 .f32) (y : S256x2048.Idx) :
    (k0_pay5 (F := Ideal) x g : FVec Ideal S256x2048 .bf16) y = nrm (fun k => x (ix2 (y 0) k)) (fun k => g (ix2 0 k)) (y 1) := by
  refine Eq.trans ?_ (pay4_at x g y)
  unfold k0_pay5
  generalize (k0_pay4 (F := Ideal) x g : FVec Ideal S256x2048 .bf16) = n
  pointwise

/-- The lower half's normalised rows, as stored. -/
theorem pay10_at (x : FVec Ideal S256x2048 .f32) (g : FVec Ideal S1x2048 .f32) (y : S256x2048.Idx) :
    (k0_pay10 (F := Ideal) x g : FVec Ideal S256x2048 .bf16) y = nrm (fun k => x (ix2 (y 0) k)) (fun k => g (ix2 0 k)) (y 1) := by
  refine Eq.trans ?_ (pay9_at x g y)
  unfold k0_pay10
  generalize (k0_pay9 (F := Ideal) x g : FVec Ideal S256x2048 .bf16) = n
  pointwise

set_option maxHeartbeats 2000000 in
/-- The upper half's hidden features. -/
theorem pay6_at (x : FVec Ideal S256x2048 .f32) (g : FVec Ideal S1x2048 .f32) (wg wu : FVec Ideal S2048x512 .bf16) (y : S256x512.Idx) :
    (k0_pay6 (F := Ideal) x g wg wu : FVec Ideal S256x512 .bf16) y
      = hid (nrm (fun k => x (ix2 (y 0) k)) (fun k => g (ix2 0 k))) (fun k => wg (ix2 k (y 1))) (fun k => wu (ix2 k (y 1))) := by
  have h := fun k => pay4_at x g (ix2 (y 0) k)
  unfold hid act
  unfold k0_pay6
  generalize (k0_pay4 (F := Ideal) x g : FVec Ideal S256x2048 .bf16) = n at h ⊢
  pointwise
  simp only [h]
  rfl

set_option maxHeartbeats 2000000 in
/-- The upper half's first sum. -/
theorem pay8_at (h : FVec Ideal S256x512 .bf16) (wd : FVec Ideal S512x2048 .bf16) (y : S256x2048.Idx) :
    (k0_pay8 (F := Ideal) h (k0_pay7 wd) (constant S256x2048 .f32 0x00000000#32) : FVec Ideal S256x2048 .f32) y
      = ∑ f, h (ix2 (y 0) f) * wd (ix2 f (y 1)) := by
  pointwise [k0_pay8, k0_pay7]

set_option maxHeartbeats 2000000 in
/-- The lower half's first sum. -/
theorem pay1_at (u g : FVec Ideal S256x512 .f32) (wd : FVec Ideal S512x2048 .bf16) (y : S256x2048.Idx) :
    (k0_pay1 (F := Ideal) u g wd : FVec Ideal S256x2048 .f32) y = ∑ f, g (ix2 (y 0) f) * u (ix2 (y 0) f) * wd (ix2 f (y 1)) := by
  pointwise [k0_pay1]

set_option maxHeartbeats 2000000 in
/-- The lower half's linear part. -/
theorem pay11_at (x : FVec Ideal S256x2048 .f32) (g : FVec Ideal S1x2048 .f32) (wu : FVec Ideal S2048x512 .bf16) (y : S256x512.Idx) :
    (k0_pay11 (F := Ideal) x g wu : FVec Ideal S256x512 .f32) y
      = ∑ k, nrm (fun k => x (ix2 (y 0) k)) (fun k => g (ix2 0 k)) k * wu (ix2 k (y 1)) := by
  have h := fun k => pay9_at x g (ix2 (y 0) k)
  unfold k0_pay11
  generalize (k0_pay9 (F := Ideal) x g : FVec Ideal S256x2048 .bf16) = n at h ⊢
  pointwise
  simp only [h]
  rfl

set_option maxHeartbeats 2000000 in
/-- The lower half's gate, through its sigmoid. -/
theorem pay12_at (x : FVec Ideal S256x2048 .f32) (g : FVec Ideal S1x2048 .f32) (wg : FVec Ideal S2048x512 .bf16) (y : S256x512.Idx) :
    (k0_pay12 (F := Ideal) x g wg : FVec Ideal S256x512 .f32) y
      = (∑ k, nrm (fun k => x (ix2 (y 0) k)) (fun k => g (ix2 0 k)) k * wg (ix2 k (y 1)))
        * Ideal.div 1 (1 + Ideal.exp (0 - ∑ k, nrm (fun k => x (ix2 (y 0) k)) (fun k => g (ix2 0 k)) k * wg (ix2 k (y 1)))) := by
  have h := fun k => pay9_at x g (ix2 (y 0) k)
  unfold k0_pay12
  generalize (k0_pay9 (F := Ideal) x g : FVec Ideal S256x2048 .bf16) = n at h ⊢
  pointwise
  simp only [h]
  rfl

set_option maxHeartbeats 2000000 in
/-- The last step's sum, half by half. -/
theorem pay17_at (a : FVec Ideal S256x2048 .f32) (x : FVec Ideal S256x2048 .bf16) (wg wu : FVec Ideal S2048x512 .bf16)
    (wd : FVec Ideal S512x2048 .bf16) (y : S256x2048.Idx) :
    (k0_pay17 (F := Ideal) a x wg wu wd : FVec Ideal S256x2048 .f32) y
      = a y + chunk (fun k => x (ix2 (y 0) k)) (fun k f => wg (ix2 k f)) (fun k f => wu (ix2 k f)) (fun f => wd (ix2 f (y 1))) := by
  unfold chunk hid act
  pointwise [k0_pay17]

set_option maxHeartbeats 2000000 in
/-- The lower half's result: the residual and half of the normalised sum. -/
theorem lower_at (x : FVec Ideal S256x2048 .f32) (g : FVec Ideal S1x2048 .f32) (a : FVec Ideal S256x2048 .f32) (n : FVec Ideal S256x2048 .bf16)
    (wg wu : FVec Ideal S2048x512 .bf16) (wd : FVec Ideal S512x2048 .bf16) (y : S256x2048.Idx) :
    (k0_pay3 (F := Ideal) (k0_pay17 a n wg wu wd) (k0_pay18 x) (k0_pay19 g) (k0_pay20 a n wg wu wd) (Scalar.ofBits .f32 0x45000000#32) : FVec Ideal S256x2048 .f32) y
      = x y + Ideal.ofBits FTy.f32 1056964608#32 * nrm (fun k => (k0_pay17 (F := Ideal) a n wg wu wd : FVec Ideal S256x2048 .f32) (ix2 (y 0) k)) (fun k => g (ix2 0 k)) (y 1) := by
  obtain ⟨i, j, rfl⟩ : ∃ i j, y = ix2 i j := ⟨_, _, eq_ix2 y⟩
  unfold k0_pay20
  generalize (k0_pay17 (F := Ideal) a n wg wu wd : FVec Ideal S256x2048 .f32) = w
  pointwise [k0_pay3, k0_pay18, k0_pay19]
  rfl

set_option maxHeartbeats 2000000 in
/-- The upper half's result. -/
theorem upper_at (x : FVec Ideal S256x2048 .f32) (g : FVec Ideal S1x2048 .f32) (a : FVec Ideal S256x2048 .f32) (n : FVec Ideal S256x2048 .bf16)
    (wg wu : FVec Ideal S2048x512 .bf16) (wd : FVec Ideal S512x2048 .bf16) (y : S256x2048.Idx) :
    (k0_pay16 (F := Ideal) (k0_pay13 x) (k0_pay14 a n wg wu wd) (k0_pay15 g) : FVec Ideal S256x2048 .f32) y
      = x y + Ideal.ofBits FTy.f32 1056964608#32 * nrm (fun k => (k0_pay17 (F := Ideal) a n wg wu wd : FVec Ideal S256x2048 .f32) (ix2 (y 0) k)) (fun k => g (ix2 0 k)) (y 1) := by
  obtain ⟨i, j, rfl⟩ : ∃ i j, y = ix2 i j := ⟨_, _, eq_ix2 y⟩
  have e : (k0_pay14 (F := Ideal) a n wg wu wd : FVec Ideal S256x2048 .f32)
      = mulf (k0_pay17 a n wg wu wd) (broadcastTo S256x2048 (rsqrt (addf (divf (shapeCast S256x1
          (multiReduction .add [1] S256 (mulf (k0_pay17 a n wg wu wd) (k0_pay17 a n wg wu wd)) 0x00000000#32 reduces_S256x2048_S256 (.inl rfl) rfl)
          shapeCasts_S256_S256x1) (broadcast S256x1 (Scalar.ofBits .f32 0x45000000#32))) (broadcast S256x1 (Scalar.ofBits .f32 0x358637BD#32))))
          broadcasts_S256x1_S256x2048) := rfl
  rw [e]
  generalize (k0_pay17 (F := Ideal) a n wg wu wd : FVec Ideal S256x2048 .f32) = w
  pointwise [k0_pay16, k0_pay13, k0_pay15]
  rfl

end Cert.FfnIdeal.FfnBlock
-- ==== Proof.FfnArr.lean ====
module

public import proofs.«01_k».proof.Proof.FfnPoint

@[expose] public section

set_option maxRecDepth 16384

noncomputable section

open Idealize.ShloMosaic Idealize.ShloMosaic.TcCoe Idealize.SL.Sem
open Idealize.ShloMosaic.Pipeline (Dat)

/-! # The feed-forward kernel's output as a whole array -/

namespace Cert.FfnIdeal.FfnArr

open Cert.FfnIdeal Cert.FfnIdeal.Gen Cert.Attn Cert.FfnIdeal.FfnBlock Cert.FfnIdeal.FfnPoint

variable (m : (ℓ : Loc nD τ sig) → Buf (Elt Ideal) ℓ)

/-- The index maps: a point's row block is its quotient by eleven, its chunk the remainder. -/
theorem idx : ∀ t : Fin cfg0.N, win0_0.index t = ![t.val / 11, 0] ∧ win0_1.index t = ![0, 0] ∧ win0_2.index t = ![0, t.val % 11]
    ∧ win0_3.index t = ![0, t.val % 11 + 11] ∧ win0_4.index t = ![t.val % 11, 0] ∧ win0_5.index t = ![0, 0] ∧ win0_6.index t = ![t.val / 11, 0] :=
  (by decide +kernel : ∀ t : Fin grid0.N, _)

/-- Hidden feature `f` of chunk `j`. -/
def at5632 (j : ℕ) (f : Fin 512) : Fin 5632 := ⟨512 * min j 10 + f.val, by omega⟩

/-- The first weight's gate column of a hidden feature. -/
def gcol (f : Fin 5632) : Fin 11264 := ⟨f.val, by omega⟩

/-- The first weight's linear column of a hidden feature. -/
def ucol (f : Fin 5632) : Fin 11264 := ⟨5632 + f.val, by omega⟩

/-- One chunk's part of one output feature. -/
def part (x : Fin 2048 → EReal) (W : Vec Ideal S2048x11264 .bf16) (D : Vec Ideal S5632x2048 .bf16) (j : ℕ) (n : Fin 2048) : EReal :=
  chunk x (fun k f => W (ix2 k (gcol (at5632 j f)))) (fun k f => W (ix2 k (ucol (at5632 j f)))) (fun f => D (ix2 (at5632 j f) n))

/-- The output array from the five arrays the kernel reads. -/
def ffnG (X : Vec Ideal S32768x2048 .f32) (g : Vec Ideal S1x2048 .f32) (W : Vec Ideal S2048x11264 .bf16) (D : Vec Ideal S5632x2048 .bf16)
    (h : Vec Ideal S1x2048 .f32) : Vec Ideal S32768x2048 .f32 := fun i =>
  res (X i) (nrm (fun n => ∑ j ∈ Finset.range 11, part (nrm (fun k => X (ix2 (i 0) k)) (fun k => g (ix2 0 k))) W D j n) (fun k => h (ix2 0 k)) (i 1))

/-- Row `r` of the point's row block. -/
def rowOf (t : Fin cfg0.N) (r : Fin 512) : Fin 32768 :=
  ⟨512 * (t.val / 11) + r.val, by have : t.val < 704 := t.isLt; omega⟩

set_option maxHeartbeats 1000000 in
theorem rd0 (c : Dev nD) (t : Fin cfg0.N) (r : Fin 512) (k : Fin 2048) :
    iblk m c 0 t (ix2 r k) = V m c main_v0 (ix2 (rowOf t r) k) :=
  congrArg (V m c main_v0) (by unfold rowOf; blk_ext [idx t])

set_option maxHeartbeats 1000000 in
theorem rd1 (c : Dev nD) (t : Fin cfg0.N) (k : Fin 2048) : iblk m c 1 t (ix2 0 k) = V m c main_v1 (ix2 0 k) :=
  congrArg (V m c main_v1) (by blk_ext [idx t])

set_option maxHeartbeats 1000000 in
theorem rd5 (c : Dev nD) (t : Fin cfg0.N) (k : Fin 2048) : iblk m c 5 t (ix2 0 k) = V m c main_v4 (ix2 0 k) :=
  congrArg (V m c main_v4) (by blk_ext [idx t])

set_option maxHeartbeats 1000000 in
theorem rd2 (c : Dev nD) (t : Fin cfg0.N) (k : Fin 2048) (f : Fin 512) :
    iblk m c 2 t (ix2 k f) = V m c main_v2 (ix2 k (gcol (at5632 (t.val % 11) f))) := by
  have hm : min (t.val % 11) 10 = t.val % 11 := by omega
  exact congrArg (V m c main_v2) (by unfold gcol at5632; simp only [hm]; blk_ext [idx t])

set_option maxHeartbeats 1000000 in
theorem rd3 (c : Dev nD) (t : Fin cfg0.N) (k : Fin 2048) (f : Fin 512) :
    iblk m c 3 t (ix2 k f) = V m c main_v2 (ix2 k (ucol (at5632 (t.val % 11) f))) := by
  have hm : min (t.val % 11) 10 = t.val % 11 := by omega
  exact congrArg (V m c main_v2) (by unfold ucol at5632; simp only [hm]; blk_ext [idx t])

set_option maxHeartbeats 1000000 in
theorem rd4 (c : Dev nD) (t : Fin cfg0.N) (f : Fin 512) (n : Fin 2048) :
    iblk m c 4 t (ix2 f n) = V m c main_v3 (ix2 (at5632 (t.val % 11) f) n) := by
  have hm : min (t.val % 11) 10 = t.val % 11 := by omega
  exact congrArg (V m c main_v3) (by unfold at5632; simp only [hm]; blk_ext [idx t])

/-- The point's chunk, read from the arrays. -/
theorem chunk_at (c : Dev nD) (t : Fin cfg0.N) (x : Fin 2048 → EReal) (n : Fin 2048) :
    chunk x (fun k f => iblk m c 2 t (ix2 k f)) (fun k f => iblk m c 3 t (ix2 k f)) (fun f => iblk m c 4 t (ix2 f n))
      = part x (V m c main_v2) (V m c main_v3) (t.val % 11) n := by
  have e2 : (fun k f => iblk m c 2 t (ix2 k f)) = fun (k : Fin 2048) (f : Fin 512) => V m c main_v2 (ix2 k (gcol (at5632 (t.val % 11) f))) :=
    funext fun k => funext fun f => rd2 m c t k f
  have e3 : (fun k f => iblk m c 3 t (ix2 k f)) = fun (k : Fin 2048) (f : Fin 512) => V m c main_v2 (ix2 k (ucol (at5632 (t.val % 11) f))) :=
    funext fun k => funext fun f => rd3 m c t k f
  have e4 : (fun f => iblk m c 4 t (ix2 f n)) = fun (f : Fin 512) => V m c main_v3 (ix2 (at5632 (t.val % 11) f) n) :=
    funext fun f => rd4 m c t f n
  unfold part
  exact (congrArg (fun w => chunk x w _ _) e2).trans ((congrArg (fun w => chunk x _ w _) e3).trans (congrArg (fun w => chunk x _ _ w) e4))

/-- The normalised row the point works on. -/
abbrev xrow (c : Dev nD) (q : Fin 32768) : Fin 2048 → EReal :=
  nrm (fun k => V m c main_v0 (ix2 q k)) (fun k => V m c main_v1 (ix2 0 k))

theorem xrow_at (c : Dev nD) (t : Fin cfg0.N) (r : Fin 512) :
    nrm (fun k => iblk m c 0 t (ix2 r k)) (fun k => iblk m c 1 t (ix2 0 k)) = xrow m c (rowOf t r) :=
  congrArg₂ nrm (funext fun k => rd0 m c t r k) (funext fun k => rd1 m c t k)

/-- The sum of the first chunks of a row. -/
abbrev psum (c : Dev nD) (q : Fin 32768) (n : ℕ) (k : Fin 2048) : EReal :=
  ∑ j ∈ Finset.range n, part (xrow m c q) (V m c main_v2) (V m c main_v3) j k

theorem first (c : Dev nD) (t : Fin cfg0.N) (h0 : t.val % 11 = 0) (r : Fin 512) (k : Fin 2048) :
    (outsAt0 m c t.val t.isLt).2.1 (ix2 r k) = xrow m c (rowOf t r) k ∧ (outsAt0 m c t.val t.isLt).2.2 (ix2 r k) = psum m c (rowOf t r) (t.val % 11 + 1) k := by
  have hb : ¬(1 ≤ t.val % 11 ∧ t.val % 11 ≤ 9) := by omega
  have hc : ¬t.val % 11 = 10 := by omega
  refine ⟨(xn_A m c t h0 hb hc (ix2 r k)).trans (congrFun (xrow_at m c t r) k), ?_⟩
  refine (acc_A m c t h0 hb hc (ix2 r k)).trans ((chunk_at m c t _ k).trans ?_)
  refine (congrArg (fun x => part x (V m c main_v2) (V m c main_v3) (t.val % 11) k) (xrow_at m c t r)).trans ?_
  rw [h0]
  exact (Finset.sum_range_one (fun j => part (xrow m c (rowOf t r)) (V m c main_v2) (V m c main_v3) j k)).symm

theorem middle (c : Dev nD) (t : Fin cfg0.N) (hp : t.val - 1 < cfg0.N) (h0 : ¬t.val % 11 = 0) (h9 : t.val % 11 ≤ 9)
    (ih : ∀ r k, (outsAt0 m c (t.val - 1) hp).2.1 (ix2 r k) = xrow m c (rowOf t r) k ∧ (outsAt0 m c (t.val - 1) hp).2.2 (ix2 r k) = psum m c (rowOf t r) (t.val % 11) k)
    (r : Fin 512) (k : Fin 2048) :
    (outsAt0 m c t.val t.isLt).2.1 (ix2 r k) = xrow m c (rowOf t r) k ∧ (outsAt0 m c t.val t.isLt).2.2 (ix2 r k) = psum m c (rowOf t r) (t.val % 11 + 1) k := by
  have hb : 1 ≤ t.val % 11 ∧ t.val % 11 ≤ 9 := by omega
  have hc : ¬t.val % 11 = 10 := by omega
  refine ⟨(congrFun (xn_B m c t h0 hb hc) (ix2 r k)).trans (ih r k).1, ?_⟩
  refine (acc_B m c t h0 hb hc (ix2 r k)).trans ?_
  refine (congrArg₂ (fun a b : EReal => a + b) (ih r k).2
    ((chunk_at m c t _ k).trans (congrArg (fun x => part x (V m c main_v2) (V m c main_v3) (t.val % 11) k) (funext fun k => (ih r k).1)))).trans ?_
  exact (Finset.sum_range_succ _ (t.val % 11)).symm

/-- After every point but a row block's last, the scratch holds the normalised rows and the sum of the chunks so far. -/
theorem sweep (c : Dev nD) : ∀ (n : ℕ) (t : Fin cfg0.N), t.val = n → t.val % 11 ≤ 9 → ∀ (r : Fin 512) (k : Fin 2048),
    (outsAt0 m c t.val t.isLt).2.1 (ix2 r k) = xrow m c (rowOf t r) k ∧ (outsAt0 m c t.val t.isLt).2.2 (ix2 r k) = psum m c (rowOf t r) (t.val % 11 + 1) k := by
  intro n
  induction n with
  | zero => exact fun t ht h9 => first m c t (by omega)
  | succ n ih =>
    intro t ht h9
    by_cases h0 : t.val % 11 = 0
    · exact first m c t h0
    · have hp : t.val - 1 < cfg0.N := Nat.lt_of_le_of_lt (Nat.sub_le _ _) t.isLt
      refine middle m c t hp h0 h9 fun r k => ?_
      have hr : rowOf ⟨t.val - 1, hp⟩ r = rowOf t r := Fin.ext (by
        show 512 * ((t.val - 1) / 11) + r.val = 512 * (t.val / 11) + r.val
        omega)
      have hn : (t.val - 1) % 11 + 1 = t.val % 11 := by omega
      have h := ih ⟨t.val - 1, hp⟩ (by show t.val - 1 = n; omega) (by show (t.val - 1) % 11 ≤ 9; omega) r k
      rw [hr] at h
      exact ⟨h.1, h.2.trans (congrArg (fun a => psum m c (rowOf t r) a k) hn)⟩

/-- The output leaves its block at a row block's last point. -/
theorem flush6 : ∀ t : Fin cfg0.N, (cfg0.win 6).flush t = true → t.val % 11 = 10 :=
  (by decide +kernel : ∀ t : Fin grid0.N, _)

set_option maxHeartbeats 1000000 in
/-- The output array. -/
theorem out_array (c : Dev nD) :
    (dats m 0 c).arrAt 6 cfg0.N = ffnG (V m c main_v0) (V m c main_v1) (V m c main_v2) (V m c main_v3) (V m c main_v4) := by
  refine (dats m 0 c).arrAt_eq_of_covers 6 _ (by decide +kernel) fun t hf y => ?_
  have ht : t.val % 11 = 10 := flush6 t hf
  blk_simp
  rw [after0_6]
  have hp : t.val - 1 < cfg0.N := Nat.lt_of_le_of_lt (Nat.sub_le _ _) t.isLt
  have e0 : ((win0_6.blk t).view.emb y : S32768x2048.Idx) = ix2 (rowOf t (y 0)) (y 1) := by unfold rowOf; blk_ext [idx t]
  rw [e0]
  have hr : ∀ r, rowOf ⟨t.val - 1, hp⟩ r = rowOf t r := fun r => Fin.ext (by
    show 512 * ((t.val - 1) / 11) + r.val = 512 * (t.val / 11) + r.val
    omega)
  have hs := sweep m c (t.val - 1) ⟨t.val - 1, hp⟩ rfl (by show (t.val - 1) % 11 ≤ 9; omega) (y 0)
  have hn : (t.val - 1) % 11 + 1 = 10 := by omega
  refine (out_C m c t (by omega) (by omega) ht y).trans ?_
  refine congrArg₂ res ((congrArg (iblk m c 0 t) (eq_ix2 y)).trans (rd0 m c t (y 0) (y 1))) ?_
  refine congrArg₂ (fun w h => nrm w h (y 1)) (funext fun n => ?_) (funext fun k => rd5 m c t k)
  refine (congrArg₂ (fun a b : EReal => a + b) ((hs n).2.trans (congrArg₂ (fun q a => psum m c q a n) (hr (y 0)) hn))
    ((chunk_at m c t _ n).trans (congrArg₂ (fun x j => part x (V m c main_v2) (V m c main_v3) j n) (funext fun k => (hs k).1.trans (congrArg (fun q => xrow m c q k) (hr (y 0)))) ht))).trans ?_
  exact (Finset.sum_range_succ _ 10).symm

end Cert.FfnIdeal.FfnArr
-- ==== Proof.FfnEq.lean ====
module

public import proofs.«01_k».proof.Proof.FfnArr
public import proofs.«01_k».proof.Proof.Gen.FfnIdeal.Value
public import proofs.«01_k».proof.Proof.Gen.FfnReferenceIdeal.Run
public import proofs.«01_k».proof.Proof.Gen.FfnReferenceIdeal.Read
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem Idealize.ShloMosaic.StableHlo

/-! # The feed-forward call equal to its reference -/

namespace Cert.FfnIdeal.FfnEq

open Cert.FfnIdeal Cert.FfnIdeal.Gen Cert.Attn Cert.FfnIdeal.FfnBlock Cert.FfnIdeal.FfnArr

section Host

variable (V : Valuation τ sig (Elt Ideal))

theorem v0_at (b : Fin 8) (s : Fin 4096) (k : Fin 2048) :
    after hostOps0 V (Proc.devRef .tc main_v0) (ix2 (⟨4096 * b.val + s.val, by omega⟩ : Fin 32768) k) = V (Proc.devRef .tc main_arg0) (ix3 b s k) := by
  after_reads_at

theorem v1_at (k : Fin 2048) : after hostOps0 V (Proc.devRef .tc main_v1) (ix2 (0 : Fin 1) k) = V (Proc.devRef .tc main_arg1) (ix1 k) := by
  after_reads_at

theorem v2_at (k : Fin 2048) (f : Fin 11264) : after hostOps0 V (Proc.devRef .tc main_v2) (ix2 k f) = V (Proc.devRef .tc main_arg2) (ix2 k f) := by
  after_reads_at

theorem v3_at (f : Fin 5632) (n : Fin 2048) : after hostOps0 V (Proc.devRef .tc main_v3) (ix2 f n) = V (Proc.devRef .tc main_arg3) (ix2 f n) := by
  after_reads_at

theorem v4_at (k : Fin 2048) : after hostOps0 V (Proc.devRef .tc main_v4) (ix2 (0 : Fin 1) k) = V (Proc.devRef .tc main_arg4) (ix1 k) := by
  after_reads_at

end Host

/-- Eleven chunks of 512 hidden features are all of them. -/
theorem sum_chunks (F : Fin 5632 → EReal) : ∑ j ∈ Finset.range 11, ∑ f : Fin 512, F (at5632 j f) = ∑ f, F f := by
  rw [Finset.sum_range (fun j => ∑ f : Fin 512, F (at5632 j f)), ← Fintype.sum_prod_type' (fun (j : Fin 11) (f : Fin 512) => F (at5632 j f)),
    ← Equiv.sum_comp (finProdFinEquiv : Fin 11 × Fin 512 ≃ Fin 5632) F]
  refine Finset.sum_congr rfl fun p _ => congrArg F (Fin.ext ?_)
  show 512 * min p.1.val 10 + p.2.val = p.2.val + 512 * p.1.val
  have := p.1.isLt
  omega

/-- One row of the feed-forward branch before its second normalisation, over all hidden features. -/
def mlp (x : Fin 2048 → EReal) (W : Fin 2048 → Fin 11264 → EReal) (D : Fin 5632 → Fin 2048 → EReal) (n : Fin 2048) : EReal :=
  ∑ f, hid x (fun k => W k (gcol f)) (fun k => W k (ucol f)) * D f n

/-- One row of the result. -/
def frow (x g : Fin 2048 → EReal) (W : Fin 2048 → Fin 11264 → EReal) (D : Fin 5632 → Fin 2048 → EReal) (h : Fin 2048 → EReal) (n : Fin 2048) : EReal :=
  res (x n) (nrm (mlp (nrm x g) W D) h n)

theorem parts_eq (x : Fin 2048 → EReal) (W : Vec Ideal S2048x11264 .bf16) (D : Vec Ideal S5632x2048 .bf16) (n : Fin 2048) :
    ∑ j ∈ Finset.range 11, part x W D j n = mlp x (fun k f => W (ix2 k f)) (fun f n => D (ix2 f n)) n :=
  sum_chunks (fun f => hid x (fun k => W (ix2 k (gcol f))) (fun k => W (ix2 k (ucol f))) * D (ix2 f n))

theorem ffnG_at (X : Vec Ideal S32768x2048 .f32) (g : Vec Ideal S1x2048 .f32) (W : Vec Ideal S2048x11264 .bf16) (D : Vec Ideal S5632x2048 .bf16)
    (h : Vec Ideal S1x2048 .f32) (q : Fin 32768) (n : Fin 2048) :
    ffnG X g W D h (ix2 q n)
      = frow (fun k => X (ix2 q k)) (fun k => g (ix2 0 k)) (fun k f => W (ix2 k f)) (fun f n => D (ix2 f n)) (fun k => h (ix2 0 k)) n :=
  congrArg (fun w => res (X (ix2 q n)) (nrm w (fun k => h (ix2 0 k)) n)) (funext fun n => parts_eq _ W D n)

end Cert.FfnIdeal.FfnEq

namespace Cert.FfnReferenceIdeal.FfnRef

open Cert.FfnReferenceIdeal Cert.FfnReferenceIdeal.Gen Cert.FfnReferenceIdeal.Value Cert.FfnReferenceIdeal.Read Cert.Attn Cert.FfnIdeal.FfnBlock
  Cert.FfnIdeal.FfnArr Cert.FfnIdeal.FfnEq

variable (x0 : Vec Ideal S8x4096x2048 .f32) (x1 : Vec Ideal S2048 .f32) (x2 : Vec Ideal S2048x11264 .f32) (x3 : Vec Ideal S5632x2048 .f32)
  (x4 : Vec Ideal S2048 .f32)

/-- The normalised row of a token. -/
abbrev xr (b : Fin 8) (s : Fin 4096) : Fin 2048 → EReal := nrm (fun k => x0 (ix3 b s k)) (fun k => x1 (ix1 k))

theorem n_at (b : Fin 8) (s : Fin 4096) (k : Fin 2048) : val_main_v12 x0 x1 (ix3 b s k) = xr x0 x1 b s k := by
  unfold xr nrm rms
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem z_at (b : Fin 8) (s : Fin 4096) (f : Fin 11264) : val_main_v13 x0 x1 x2 (ix3 b s f) = ∑ k, xr x0 x1 b s k * x2 (ix2 k f) := by
  simp only [← n_at]
  pointwise [val_main_v13]

set_option maxHeartbeats 1000000 in
theorem h_at (b : Fin 8) (s : Fin 4096) (f : Fin 5632) :
    val_main_v17 x0 x1 x2 (ix3 b s f) = hid (xr x0 x1 b s) (fun k => x2 (ix2 k (gcol f))) (fun k => x2 (ix2 k (ucol f))) := by
  unfold hid act
  simp only [← z_at]
  pointwise [val_main_v17, val_main_v16, val_main_v15, val_main_v14, val_main_call0_v5, val_main_call0_v4, val_main_call0_v3, val_main_call0_v2, val_main_call0_v1, val_main_call0_v0, val_main_call0_cst, val_main_call0_cst_0]
  rw [zero_sub]
  rfl

theorem y_at (b : Fin 8) (s : Fin 4096) (n : Fin 2048) :
    val_main_v18 x0 x1 x2 x3 (ix3 b s n) = mlp (xr x0 x1 b s) (fun k f => x2 (ix2 k f)) (fun f n => x3 (ix2 f n)) n := by
  unfold mlp
  simp only [← h_at]
  pointwise [val_main_v18]

theorem out_at (b : Fin 8) (s : Fin 4096) (n : Fin 2048) :
    val_main_v35 x0 x1 x2 x3 x4 (ix2 (⟨4096 * b.val + s.val, by omega⟩ : Fin 32768) n)
      = frow (fun k => x0 (ix3 b s k)) (fun k => x1 (ix1 k)) (fun k f => x2 (ix2 k f)) (fun f n => x3 (ix2 f n)) (fun k => x4 (ix1 k)) n := by
  unfold frow res
  rw [← funext (y_at x0 x1 x2 x3 b s)]
  unfold nrm rms
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_cst_2, val_main_cst_3, val_main_cst_4, val_main_cst_5]

end Cert.FfnReferenceIdeal.FfnRef
-- ==== Proof.FfnClaims.lean ====
module

public import proofs.«01_k».proof.Defs
public import proofs.«01_k».proof.Proof.Gen.Ffn.Frame
public import proofs.«01_k».proof.Proof.FfnEq
public import Idealize.ShloMosaic.Adequacy
public import Idealize.ShloMosaic.Init

@[expose] public section

set_option maxRecDepth 16384

noncomputable section

open Idealize.ShloMosaic Idealize.ShloMosaic.TcCoe Idealize.SL.Sem Idealize.ShloMosaic.StableHlo

/-! # The feed-forward claims -/

namespace Cert.FfnClaims

open Cert.Attn

section

open Cert.FfnIdeal Cert.FfnIdeal.Gen Cert.FfnIdeal.FfnBlock Cert.FfnIdeal.FfnArr Cert.FfnIdeal.FfnEq

variable (m : (ℓ : Loc nD τ sig) → Buf (Elt Ideal) ℓ) (c : Dev nD)

/-- The kernel's result, from the program's arguments. -/
theorem kernel_at (b : Fin 8) (s : Fin 4096) (n : Fin 2048) :
    (dats m 0 c).arrAt 6 cfg0.N (ix2 (⟨4096 * b.val + s.val, by omega⟩ : Fin 32768) n)
      = frow (fun k => m ((c : Thread nD τ).loc main_arg0) (ix3 b s k)) (fun k => m ((c : Thread nD τ).loc main_arg1) (ix1 k))
          (fun k f => m ((c : Thread nD τ).loc main_arg2) (ix2 k f)) (fun f n => m ((c : Thread nD τ).loc main_arg3) (ix2 f n))
          (fun k => m ((c : Thread nD τ).loc main_arg4) (ix1 k)) n := by
  rw [out_array m c]
  refine (ffnG_at _ _ _ _ _ _ n).trans ?_
  have e0 : (fun k => V m c main_v0 (ix2 (⟨4096 * b.val + s.val, by omega⟩ : Fin 32768) k)) = fun k : Fin 2048 => m ((c : Thread nD τ).loc main_arg0) (ix3 b s k) :=
    funext fun k => v0_at _ b s k
  have e1 : (fun k => V m c main_v1 (ix2 0 k)) = fun k : Fin 2048 => m ((c : Thread nD τ).loc main_arg1) (ix1 k) := funext fun k => v1_at _ k
  have e2 : (fun k f => V m c main_v2 (ix2 k f)) = fun (k : Fin 2048) (f : Fin 11264) => m ((c : Thread nD τ).loc main_arg2) (ix2 k f) :=
    funext fun k => funext fun f => v2_at _ k f
  have e3 : (fun f n => V m c main_v3 (ix2 f n)) = fun (f : Fin 5632) (n : Fin 2048) => m ((c : Thread nD τ).loc main_arg3) (ix2 f n) :=
    funext fun f => funext fun n => v3_at _ f n
  have e4 : (fun k => V m c main_v4 (ix2 0 k)) = fun k : Fin 2048 => m ((c : Thread nD τ).loc main_arg4) (ix1 k) := funext fun k => v4_at _ k
  exact (congrArg (fun w => frow w _ _ _ _ n) e0).trans ((congrArg (fun w => frow _ w _ _ _ n) e1).trans ((congrArg (fun w => frow _ _ w _ _ n) e2).trans
    ((congrArg (fun w => frow _ _ _ w _ n) e3).trans (congrArg (fun w => frow _ _ _ _ w n) e4))))

/-- The two results are the same. -/
theorem same :
    Cert.FfnReferenceIdeal.Read.val_main_v35 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) = (dats m 0 c).arrAt 6 cfg0.N := by
  funext i
  obtain ⟨t, n, rfl⟩ : ∃ (t : Fin 32768) (n : Fin 2048), i = ix2 t n := ⟨_, _, eq_ix2 i⟩
  obtain ⟨b, s, rfl⟩ : ∃ (b : Fin 8) (s : Fin 4096), t = (⟨4096 * b.val + s.val, by omega⟩ : Fin 32768) :=
    ⟨⟨t.val / 4096, by omega⟩, ⟨t.val % 4096, by omega⟩, Fin.ext (by show t.val = 4096 * (t.val / 4096) + t.val % 4096; omega)⟩
  exact (Cert.FfnReferenceIdeal.FfnRef.out_at (m ((c : Thread nD τ).loc main_arg0)) (m ((c : Thread nD τ).loc main_arg1)) (m ((c : Thread nD τ).loc main_arg2))
    (m ((c : Thread nD τ).loc main_arg3)) (m ((c : Thread nD τ).loc main_arg4)) b s n).trans (kernel_at m c b s n).symm

end

theorem frame_p : Cert.quiescent_Ffn := fun m ρ _ => Cert.Ffn.Gen.frame m ρ
theorem frame_pi : Cert.quiescent_FfnIdeal := fun m ρ _ => Cert.FfnIdeal.Gen.frame m ρ
theorem frame_ri : Cert.quiescent_FfnReferenceIdeal := fun m ρ _ =>
  (θ_run Cert.FfnReferenceIdeal.defs _ _).mono (fun r h => ⟨fun c => (h c).2, Idealize.ShloMosaic.sem_eq_zero_of_no_sems (by decide) r.2⟩)
    (Cert.FfnReferenceIdeal.Value.run (F := Ideal) m ρ)

theorem preserves : Cert.preserves_Ffn_FfnIdeal := trivial

theorem algebraic : Cert.algebraic_FfnIdeal_FfnReferenceIdeal := by
  intro m ρ m' ρ' hp hagree
  refine ⟨_, Cert.FfnIdeal.Value.run_blocks m ρ, ?_⟩
  refine (θ_run Cert.FfnReferenceIdeal.defs _ _).mono (fun _ h c => ⟨(h c).1.trans ?_, (h c).2⟩) (Cert.FfnReferenceIdeal.Value.run (F := Ideal) m' ρ')
  refine (Cert.FfnReferenceIdeal.Read.val_main_v35_eq m' c).trans ?_
  obtain ⟨a0, a1, a2, a3, a4⟩ := hagree c
  rw [a0, a1, a2, a3, a4]
  exact same m c

end Cert.FfnClaims
-- ==== Proof.MixBlock.lean ====
module

public import proofs.«01_k».proof.Defs
public import proofs.«01_k».proof.Proof.Gen.MixIdeal.Skeleton
public import proofs.«01_k».proof.Proof.LayerMath
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

/-! # What one grid point of the mixer's output kernel computes -/

namespace Cert.MixIdeal.MixBlock

open Cert.MixIdeal Cert.MixIdeal.Gen Cert.Attn

/-- The sigmoid, as the kernel writes it. -/
def sg (z : EReal) : EReal := Ideal.div 1 (1 + Ideal.exp (0 - z))

/-- The mixed feature from the two gates and the two branches. -/
def mixd (ga a gc cv : EReal) : EReal := sg ga * a + sg gc * cv

/-- One mixed feature of a token: its normalised row against the gates' columns, its attention feature, and its convolved row
    against the convolution's output column. -/
def feat (u : Fin 2048 → EReal) (v : Fin 1024 → EReal) (a : EReal) (wa wc : Fin 2048 → EReal) (ba bc : EReal) (co : Fin 1024 → EReal) : EReal :=
  mixd (∑ k, u k * wa k + ba) a (∑ k, u k * wc k + bc) (∑ k, v k * co k)

/-- What 512 mixed features give one output feature. -/
def chunk (u : Fin 2048 → EReal) (v : Fin 1024 → EReal) (a : Fin 512 → EReal) (wa wc : Fin 2048 → Fin 512 → EReal) (ba bc : Fin 512 → EReal)
    (co : Fin 1024 → Fin 512 → EReal) (wo : Fin 512 → EReal) : EReal :=
  ∑ f, feat u v (a f) (fun k => wa k f) (fun k => wc k f) (ba f) (bc f) (fun k => co k f) * wo f

/-- The normalised row of 2048 features. -/
abbrev nrm (x g : Fin 2048 → EReal) : Fin 2048 → EReal := rms (Ideal.ofBits FTy.f32 1157627904#32) x g

/-- The residual sum. -/
def res (a b : EReal) : EReal := a + b

/-- The gated three-tap sum: the gate, the entry before, the entry, the entry after, and the three taps. -/
def tap (b l x r w0 w1 w2 : EReal) : EReal := b * (l * w0 + x * w1 + r * w2)

/-- The row before, around the end. -/
def prev (i : Fin 256) : Fin 256 := ⟨(i.val + 255) % 256, by omega⟩

/-- The row after, around the end. -/
def next (i : Fin 256) : Fin 256 := ⟨(i.val + 1) % 256, by omega⟩

set_option maxHeartbeats 1000000 in
/-- The first gate, lower half. -/
theorem pay16_at (u : FVec Ideal S256x2048 .bf16) (w : FVec Ideal S2048x512 .bf16) (b : FVec Ideal S1x512 .f32) (i : Fin 256) (f : Fin 512) :
    (k0_pay16 (F := Ideal) u w b : FVec Ideal S256x512 .f32) (ix2 i f) = sg (∑ k, u (ix2 i k) * w (ix2 k f) + b (ix2 0 f)) := by
  unfold sg
  pointwise [k0_pay16]

set_option maxHeartbeats 1000000 in
/-- The second gate, lower half. -/
theorem pay17_at (u : FVec Ideal S256x2048 .bf16) (w : FVec Ideal S2048x512 .bf16) (b : FVec Ideal S1x512 .f32) (i : Fin 256) (f : Fin 512) :
    (k0_pay17 (F := Ideal) u w b : FVec Ideal S256x512 .f32) (ix2 i f) = sg (∑ k, u (ix2 i k) * w (ix2 k f) + b (ix2 0 f)) := by
  unfold sg
  pointwise [k0_pay17]

set_option maxHeartbeats 1000000 in
/-- The first gate, both halves. -/
theorem pay19_at (u : FVec Ideal S512x2048 .bf16) (w : FVec Ideal S2048x512 .bf16) (b : FVec Ideal S1x512 .f32) (i : Fin 512) (f : Fin 512) :
    (k0_pay19 (F := Ideal) u w b : FVec Ideal S512x512 .f32) (ix2 i f) = sg (∑ k, u (ix2 i k) * w (ix2 k f) + b (ix2 0 f)) := by
  unfold sg
  pointwise [k0_pay19]

set_option maxHeartbeats 1000000 in
/-- The second gate, both halves. -/
theorem pay20_at (u : FVec Ideal S512x2048 .bf16) (w : FVec Ideal S2048x512 .bf16) (b : FVec Ideal S1x512 .f32) (i : Fin 512) (f : Fin 512) :
    (k0_pay20 (F := Ideal) u w b : FVec Ideal S512x512 .f32) (ix2 i f) = sg (∑ k, u (ix2 i k) * w (ix2 k f) + b (ix2 0 f)) := by
  unfold sg
  pointwise [k0_pay20]

set_option maxHeartbeats 1000000 in
/-- The first gate, upper half, last step. -/
theorem pay22_at (u : FVec Ideal S256x2048 .bf16) (w : FVec Ideal S2048x512 .bf16) (b : FVec Ideal S1x512 .f32) (i : Fin 256) (f : Fin 512) :
    (k0_pay22 (F := Ideal) u w b : FVec Ideal S256x512 .f32) (ix2 i f) = sg (∑ k, u (ix2 i k) * w (ix2 k f) + b (ix2 0 f)) := by
  unfold sg
  pointwise [k0_pay22]

set_option maxHeartbeats 1000000 in
/-- The second gate, upper half, last step. -/
theorem pay23_at (u : FVec Ideal S256x2048 .bf16) (w : FVec Ideal S2048x512 .bf16) (b : FVec Ideal S1x512 .f32) (i : Fin 256) (f : Fin 512) :
    (k0_pay23 (F := Ideal) u w b : FVec Ideal S256x512 .f32) (ix2 i f) = sg (∑ k, u (ix2 i k) * w (ix2 k f) + b (ix2 0 f)) := by
  unfold sg
  pointwise [k0_pay23]

set_option maxHeartbeats 1000000 in
/-- The convolution branch, lower half. -/
theorem pay18_at (v : FVec Ideal S256x1024 .bf16) (w : FVec Ideal S1024x512 .bf16) (i : Fin 256) (f : Fin 512) :
    (k0_pay18 (F := Ideal) v w : FVec Ideal S256x512 .f32) (ix2 i f) = ∑ k, v (ix2 i k) * w (ix2 k f) := by
  pointwise [k0_pay18]

set_option maxHeartbeats 1000000 in
/-- The convolution branch, both halves. -/
theorem pay21_at (v : FVec Ideal S512x1024 .bf16) (w : FVec Ideal S1024x512 .bf16) (i : Fin 512) (f : Fin 512) :
    (k0_pay21 (F := Ideal) v w : FVec Ideal S512x512 .f32) (ix2 i f) = ∑ k, v (ix2 i k) * w (ix2 k f) := by
  pointwise [k0_pay21]

set_option maxHeartbeats 1000000 in
/-- The convolution branch, upper half, last step. -/
theorem pay24_at (v : FVec Ideal S256x1024 .bf16) (w : FVec Ideal S1024x512 .bf16) (i : Fin 256) (f : Fin 512) :
    (k0_pay24 (F := Ideal) v w : FVec Ideal S256x512 .f32) (ix2 i f) = ∑ k, v (ix2 i k) * w (ix2 k f) := by
  pointwise [k0_pay24]

set_option maxHeartbeats 1000000 in
/-- The upper half's normalised rows. -/
theorem pay4_at (x : FVec Ideal S256x2048 .f32) (g : FVec Ideal S1x2048 .f32) (i : Fin 256) (j : Fin 2048) :
    (k0_pay4 (F := Ideal) x g : FVec Ideal S256x2048 .bf16) (ix2 i j) = nrm (fun k => x (ix2 i k)) (fun k => g (ix2 0 k)) j := by
  pointwise [k0_pay4]
  rfl

set_option maxHeartbeats 1000000 in
/-- The lower half's normalised rows. -/
theorem pay12_at (x : FVec Ideal S256x2048 .f32) (g : FVec Ideal S1x2048 .f32) (i : Fin 256) (j : Fin 2048) :
    (k0_pay12 (F := Ideal) x g : FVec Ideal S256x2048 .bf16) (ix2 i j) = nrm (fun k => x (ix2 i k)) (fun k => g (ix2 0 k)) j := by
  pointwise [k0_pay12]
  rfl

set_option maxHeartbeats 1000000 in
/-- The residual with the normalised sum added. -/
theorem pay3_at (w x : FVec Ideal S256x2048 .f32) (g : FVec Ideal S1x2048 .f32) (i : Fin 256) (j : Fin 2048) :
    (k0_pay3 (F := Ideal) w x g : FVec Ideal S256x2048 .f32) (ix2 i j) = x (ix2 i j) + nrm (fun k => w (ix2 i k)) (fun k => g (ix2 0 k)) j := by
  pointwise [k0_pay3]
  rfl

set_option maxHeartbeats 1000000 in
/-- The first sum, lower half. -/
theorem pay1_at (ga gc cv : FVec Ideal S256x512 .f32) (a : FVec Ideal S256x512 .bf16) (wo : FVec Ideal S512x2048 .bf16) (i : Fin 256) (j : Fin 2048) :
    (k0_pay1 (F := Ideal) ga gc cv a wo : FVec Ideal S256x2048 .f32) (ix2 i j)
      = ∑ f, (ga (ix2 i f) * a (ix2 i f) + gc (ix2 i f) * cv (ix2 i f)) * wo (ix2 f j) := by
  pointwise [k0_pay1]

set_option maxHeartbeats 1000000 in
/-- The accumulator's step. -/
theorem pay2_at (s : FVec Ideal S512x2048 .f32) (ga gc cv : FVec Ideal S512x512 .f32) (a : FVec Ideal S512x512 .bf16) (wo : FVec Ideal S512x2048 .bf16) (i : Fin 512) (j : Fin 2048) :
    (k0_pay2 (F := Ideal) s ga gc cv a wo : FVec Ideal S512x2048 .f32) (ix2 i j)
      = s (ix2 i j) + ∑ f, (ga (ix2 i f) * a (ix2 i f) + gc (ix2 i f) * cv (ix2 i f)) * wo (ix2 f j) := by
  pointwise [k0_pay2]

set_option maxHeartbeats 1000000 in
/-- The first sum, upper half. -/
theorem pay11_at (h : FVec Ideal S256x512 .bf16) (wo : FVec Ideal S512x2048 .bf16) (i : Fin 256) (j : Fin 2048) :
    (k0_pay11 (F := Ideal) h wo : FVec Ideal S256x2048 .f32) (ix2 i j) = ∑ f, h (ix2 i f) * wo (ix2 f j) := by
  pointwise [k0_pay11]

set_option maxHeartbeats 1000000 in
/-- The mixed features, upper half. -/
theorem pay10_at (u : FVec Ideal S256x2048 .bf16) (wa wc : FVec Ideal S2048x512 .bf16) (ba bc : FVec Ideal S1x512 .f32) (v : FVec Ideal S256x1024 .bf16)
    (co : FVec Ideal S1024x512 .bf16) (a : FVec Ideal S256x512 .bf16) (i : Fin 256) (f : Fin 512) :
    (k0_pay10 (F := Ideal) u (k0_pay9 wa) ba wc bc v co a : FVec Ideal S256x512 .bf16) (ix2 i f)
      = feat (fun k => u (ix2 i k)) (fun k => v (ix2 i k)) (a (ix2 i f)) (fun k => wa (ix2 k f)) (fun k => wc (ix2 k f)) (ba (ix2 0 f)) (bc (ix2 0 f))
          (fun k => co (ix2 k f)) := by
  unfold feat mixd sg
  pointwise [k0_pay10, k0_pay9]

set_option maxHeartbeats 1000000 in
/-- The last step's sum, lower half. -/
theorem pay28_at (s : FVec Ideal S256x2048 .f32) (u : FVec Ideal S256x2048 .bf16) (wa wc : FVec Ideal S2048x512 .bf16) (ba bc : FVec Ideal S1x512 .f32) (v : FVec Ideal S256x1024 .bf16)
    (co : FVec Ideal S1024x512 .bf16) (a : FVec Ideal S256x512 .bf16) (wo : FVec Ideal S512x2048 .bf16) (i : Fin 256) (j : Fin 2048) :
    (k0_pay28 (F := Ideal) s u (k0_pay26 u wa) (k0_pay27 ba) wc bc v co a wo : FVec Ideal S256x2048 .f32) (ix2 i j)
      = s (ix2 i j) + chunk (fun k => u (ix2 i k)) (fun k => v (ix2 i k)) (fun f => a (ix2 i f)) (fun k f => wa (ix2 k f)) (fun k f => wc (ix2 k f))
          (fun f => ba (ix2 0 f)) (fun f => bc (ix2 0 f)) (fun k f => co (ix2 k f)) (fun f => wo (ix2 f j)) := by
  unfold chunk feat mixd sg
  pointwise [k0_pay28, k0_pay26, k0_pay27]

set_option maxHeartbeats 1000000 in
/-- The upper half's result. -/
theorem pay25_at (s : FVec Ideal S256x2048 .f32) (ga gc cv : FVec Ideal S256x512 .f32) (a : FVec Ideal S256x512 .bf16) (wo : FVec Ideal S512x2048 .bf16)
    (x : FVec Ideal S256x2048 .f32) (g : FVec Ideal S1x2048 .f32) (i : Fin 256) (j : Fin 2048) :
    (k0_pay25 (F := Ideal) s ga gc cv a wo x g : FVec Ideal S256x2048 .f32) (ix2 i j)
      = x (ix2 i j) + nrm (fun n => s (ix2 i n) + ∑ f, (ga (ix2 i f) * a (ix2 i f) + gc (ix2 i f) * cv (ix2 i f)) * wo (ix2 f n)) (fun k => g (ix2 0 k)) j := by
  have e : (k0_pay25 (F := Ideal) s ga gc cv a wo x g : FVec Ideal S256x2048 .f32) = k0_pay3 (addf s (k0_pay1 ga gc cv a wo)) x g := by
    unfold k0_pay25 k0_pay3 k0_pay1
    simp only [shapeCast_self]
  rw [e, pay3_at]
  refine congrArg (fun w => x (ix2 i j) + nrm w (fun k => g (ix2 0 k)) j) (funext fun n => ?_)
  exact congrArg (fun z : EReal => s (ix2 i n) + z) (pay1_at ga gc cv a wo i n)

/-- A choice by a bit. -/
theorem sel_at {α : Type} (q : BitVec 1) (a b : α) : Scalar.select q a b = if q = 1#1 then a else b := by
  rfl

theorem row_first : ∀ i : Fin 256, (IntOp.cmpi CmpIPredicate.eq (BitVec.ofNat 32 i.val) 0#32 = 1#1) ↔ i.val = 0 := by decide +kernel

theorem row_last : ∀ i : Fin 256, (IntOp.cmpi CmpIPredicate.eq (BitVec.ofNat 32 i.val) 255#32 = 1#1) ↔ i.val = 255 := by decide +kernel

set_option maxHeartbeats 1000000 in
/-- The upper half's convolved rows: the row before its first is the block before's last, or zero at the start of a sequence. -/
theorem pay8_at (x : FVec Ideal S256x1024 .bf16) (q : BitVec 1) (l r : FVec Ideal S1x1024 .bf16) (w0 w1 w2 : FVec Ideal S1x1024 .f32) (b : FVec Ideal S256x1024 .bf16)
    (i : Fin 256) (c : Fin 1024) :
    (k0_pay8 (F := Ideal) (k0_pay5 x) q (k0_pay6 l) (k0_pay7 (F := Ideal)) r w0 w1 w2 b : FVec Ideal S256x1024 .bf16) (ix2 i c)
      = tap (b (ix2 i c)) (if i.val = 0 then (if q = 1#1 then 0 else l (ix2 0 c)) else x (ix2 (prev i) c)) (x (ix2 i c))
          (if i.val = 255 then r (ix2 0 c) else x (ix2 (next i) c)) (w0 (ix2 0 c)) (w1 (ix2 0 c)) (w2 (ix2 0 c)) := by
  unfold tap
  pointwise [k0_pay8, k0_pay5, k0_pay6, k0_pay7]
  simp only [sel_at, row_first, row_last]
  rfl

set_option maxHeartbeats 1000000 in
/-- The lower half's convolved rows: the row after its last is the next block's first, or zero at the end of a sequence. -/
theorem pay14_at (x : FVec Ideal S256x1024 .bf16) (q : BitVec 1) (n n' : BitVec 32) (l r : FVec Ideal S1x1024 .bf16) (w0 w1 w2 : FVec Ideal S1x1024 .f32) (b : FVec Ideal S256x1024 .bf16)
    (i : Fin 256) (c : Fin 1024) :
    (k0_pay15 (F := Ideal) (k0_pay14 (k0_pay13 x) n' q n l r w0 w1 w2 b) : FVec Ideal S256x1024 .bf16) (ix2 i c)
      = tap (b (ix2 i c)) (if i.val = 0 then l (ix2 0 c) else x (ix2 (prev i) c)) (x (ix2 i c))
          (if i.val = 255 then (if Scalar.cmpi .eq (if q = 1#1 then n else n') 7#32 = 1#1 then 0 else r (ix2 0 c)) else x (ix2 (next i) c))
          (w0 (ix2 0 c)) (w1 (ix2 0 c)) (w2 (ix2 0 c)) := by
  unfold tap
  pointwise [k0_pay15, k0_pay14, k0_pay13]
  simp only [sel_at, row_first, row_last]
  rfl

/-- What 512 mixed features give one output feature, read from the point's blocks. -/
def bchunk {R : ℕ} (wa wc : FVec Ideal S2048x512 .bf16) (ba bc : FVec Ideal S1x512 .f32) (co : FVec Ideal S1024x512 .bf16) (wo : FVec Ideal S512x2048 .bf16)
    (a : (⟨2, ![R, 512]⟩ : Shape).Idx → EReal) (u : Fin 2048 → EReal) (v : Fin 1024 → EReal) (i : Fin R) (j : Fin 2048) : EReal :=
  chunk u v (fun f => a (ix2 i f)) (fun k f => wa (ix2 k f)) (fun k f => wc (ix2 k f))
    (fun f => ba (ix2 0 f)) (fun f => bc (ix2 0 f)) (fun k f => co (ix2 k f)) (fun f => wo (ix2 f j))

section Sums

variable (wa wc : FVec Ideal S2048x512 .bf16) (ba bc : FVec Ideal S1x512 .f32) (co : FVec Ideal S1024x512 .bf16) (wo : FVec Ideal S512x2048 .bf16)

/-- The first sum of the lower half. -/
theorem sum_low (u : FVec Ideal S256x2048 .bf16) (v : FVec Ideal S256x1024 .bf16) (a : FVec Ideal S256x512 .bf16) (i : Fin 256) (j : Fin 2048) :
    (k0_pay1 (F := Ideal) (k0_pay16 u wa ba) (k0_pay17 u wc bc) (k0_pay18 v co) a wo : FVec Ideal S256x2048 .f32) (ix2 i j)
      = bchunk wa wc ba bc co wo a (fun k => u (ix2 i k)) (fun k => v (ix2 i k)) i j := by
  rw [pay1_at]
  simp only [pay16_at, pay17_at, pay18_at]
  rfl

/-- The first sum of the upper half. -/
theorem sum_up (u : FVec Ideal S256x2048 .bf16) (v : FVec Ideal S256x1024 .bf16) (a : FVec Ideal S256x512 .bf16) (i : Fin 256) (j : Fin 2048) :
    (k0_pay11 (F := Ideal) (k0_pay10 u (k0_pay9 wa) ba wc bc v co a) wo : FVec Ideal S256x2048 .f32) (ix2 i j)
      = bchunk wa wc ba bc co wo a (fun k => u (ix2 i k)) (fun k => v (ix2 i k)) i j := by
  rw [pay11_at]
  simp only [pay10_at]
  rfl

/-- The step of both halves. -/
theorem sum_mid (s : FVec Ideal S512x2048 .f32) (u : FVec Ideal S512x2048 .bf16) (v : FVec Ideal S512x1024 .bf16) (a : FVec Ideal S512x512 .bf16) (i : Fin 512) (j : Fin 2048) :
    (k0_pay2 (F := Ideal) s (k0_pay19 u wa ba) (k0_pay20 u wc bc) (k0_pay21 v co) a wo : FVec Ideal S512x2048 .f32) (ix2 i j)
      = s (ix2 i j) + bchunk wa wc ba bc co wo a (fun k => u (ix2 i k)) (fun k => v (ix2 i k)) i j := by
  rw [pay2_at]
  simp only [pay19_at, pay20_at, pay21_at]
  rfl

/-- The lower half's result. -/
theorem res_low (s x : FVec Ideal S256x2048 .f32) (g : FVec Ideal S1x2048 .f32) (u : FVec Ideal S256x2048 .bf16) (v : FVec Ideal S256x1024 .bf16) (a : FVec Ideal S256x512 .bf16) (i : Fin 256) (j : Fin 2048) :
    (k0_pay3 (F := Ideal) (k0_pay28 s u (k0_pay26 u wa) (k0_pay27 ba) wc bc v co a wo) x g : FVec Ideal S256x2048 .f32) (ix2 i j)
      = x (ix2 i j) + nrm (fun n => s (ix2 i n) + bchunk wa wc ba bc co wo a (fun k => u (ix2 i k)) (fun k => v (ix2 i k)) i n) (fun k => g (ix2 0 k)) j := by
  rw [pay3_at]
  simp only [pay28_at]
  rfl

/-- The upper half's result. -/
theorem res_up (s x : FVec Ideal S256x2048 .f32) (g : FVec Ideal S1x2048 .f32) (u : FVec Ideal S256x2048 .bf16) (v : FVec Ideal S256x1024 .bf16) (a : FVec Ideal S256x512 .bf16) (i : Fin 256) (j : Fin 2048) :
    (k0_pay25 (F := Ideal) s (k0_pay22 u wa ba) (k0_pay23 u wc bc) (k0_pay24 v co) a wo x g : FVec Ideal S256x2048 .f32) (ix2 i j)
      = x (ix2 i j) + nrm (fun n => s (ix2 i n) + bchunk wa wc ba bc co wo a (fun k => u (ix2 i k)) (fun k => v (ix2 i k)) i n) (fun k => g (ix2 0 k)) j := by
  rw [pay25_at]
  simp only [pay22_at, pay23_at, pay24_at]
  rfl

end Sums

/-- The row before in the block. -/
def up (r : Fin 512) : Fin 512 := ⟨r.val - 1, by omega⟩

/-- The row after in the block. -/
def dn (r : Fin 512) : Fin 512 := ⟨min (r.val + 1) 511, by omega⟩

/-- The convolved rows of a block: the gate, the block, the block before's rows, the block after's rows, the taps, and the block's
    number in its sequence. -/
def cvb (b x : FVec Ideal S512x1024 .bf16) (l r : FVec Ideal S8x1024 .bf16) (w : FVec Ideal S3x1024 .f32) (s : ℕ) (i : Fin 512) (c : Fin 1024) : EReal :=
  tap (b (ix2 i c)) (if i.val = 0 then (if s = 0 then 0 else l (ix2 7 c)) else x (ix2 (up i) c)) (x (ix2 i c))
    (if i.val = 511 then (if s = 7 then 0 else r (ix2 0 c)) else x (ix2 (dn i) c)) (w (ix2 0 c)) (w (ix2 1 c)) (w (ix2 2 c))

/-- The block's number in its sequence, as a word. -/
abbrev srem (n : ℕ) : BitVec 32 := Scalar.remsi (BitVec.ofNat 32 n) 8#32

/-- Whether that word is negative. -/
abbrev sneg (n : ℕ) : BitVec 1 := Scalar.andi (Scalar.xori (Scalar.cmpi .slt (srem n) 0#32) 0#1) (Scalar.cmpi .ne (srem n) 0#32)

/-- The test for a sequence's first block. -/
theorem first_word : ∀ n : Fin 64, Scalar.cmpi .eq (Scalar.select (sneg n.val) (Scalar.addi (srem n.val) 8#32) (srem n.val)) 0#32 = 1#1 ↔ n.val % 8 = 0 := by
  decide +kernel

/-- The test for a sequence's last block. -/
theorem last_word : ∀ n : Fin 64, Scalar.cmpi .eq (if sneg n.val = 1#1 then Scalar.addi (srem n.val) 8#32 else srem n.val) 7#32 = 1#1 ↔ n.val % 8 = 7 := by
  decide +kernel

end Cert.MixIdeal.MixBlock
-- ==== Proof.MixPoint.lean ====
module

public import proofs.«01_k».proof.Proof.Gen.MixIdeal.Frame
public import proofs.«01_k».proof.Proof.MixBlock

@[expose] public section

set_option maxRecDepth 16384

noncomputable section

open Idealize.ShloMosaic Idealize.ShloMosaic.TcCoe Idealize.SL.Sem
open Idealize.ShloMosaic.Pipeline (Dat)

/-! # What a grid point leaves in its scratch and its output -/

namespace Cert.MixIdeal.MixPoint

open Cert.MixIdeal Cert.MixIdeal.Gen Cert.Attn Cert.MixIdeal.MixBlock

variable (m : (ℓ : Loc nD τ sig) → Buf (Elt Ideal) ℓ)

/-- A half's rows, read from the whole block. -/
theorem ld_rows {e : EltTy} {C : ℕ} (X : (⟨2, ![512, C]⟩ : Shape).Idx → Elt Ideal e) (o : ℕ) (inb : ∀ a, (![o, 0] : Fin 2 → ℕ) a + (![256, C] : Fin 2 → ℕ) a ≤ (⟨2, ![512, C]⟩ : Shape).size a)
    (i : Fin 256) (k : Fin C) (q : Fin 512) (hq : q.val = o + i.val) :
    View.ld X (Rect.unit (s := ⟨2, ![512, C]⟩) ![o, 0] ![256, C] inb) (ix2 i k) = X (ix2 q k) := by
  refine congrArg X (funext fun a => Fin.ext ?_)
  match a with
  | ⟨0, _⟩ => show o + 1 * i.val = q.val; omega
  | ⟨1, _⟩ => show 0 + 1 * k.val = k.val; omega

/-- One row, read from a block. -/
theorem ld_row {e : EltTy} {R C : ℕ} (X : (⟨2, ![R, C]⟩ : Shape).Idx → Elt Ideal e) (o : ℕ) (inb : ∀ a, (![o, 0] : Fin 2 → ℕ) a + (![1, C] : Fin 2 → ℕ) a ≤ (⟨2, ![R, C]⟩ : Shape).size a)
    (k : Fin C) (q : Fin R) (hq : q.val = o) :
    View.ld X (Rect.unit (s := ⟨2, ![R, C]⟩) ![o, 0] ![1, C] inb) (ix2 (0 : Fin 1) k) = X (ix2 q k) := by
  refine congrArg X (funext fun a => Fin.ext ?_)
  match a with
  | ⟨0, _⟩ => show o + 1 * 0 = q.val; omega
  | ⟨1, _⟩ => show 0 + 1 * k.val = k.val; omega

/-- Two half sums agree when their rows do. -/
theorem bchunk_row {R R' : ℕ} (wa wc : FVec Ideal S2048x512 .bf16) (ba bc : FVec Ideal S1x512 .f32) (co : FVec Ideal S1024x512 .bf16) (wo : FVec Ideal S512x2048 .bf16)
    (a : (⟨2, ![R, 512]⟩ : Shape).Idx → EReal) (a' : (⟨2, ![R', 512]⟩ : Shape).Idx → EReal) (u u' : Fin 2048 → EReal) (v v' : Fin 1024 → EReal) (i : Fin R) (i' : Fin R') (j : Fin 2048)
    (ea : ∀ f, a (ix2 i f) = a' (ix2 i' f)) (eu : ∀ k, u k = u' k) (ev : ∀ k, v k = v' k) :
    bchunk wa wc ba bc co wo a u v i j = bchunk wa wc ba bc co wo a' u' v' i' j := by
  obtain rfl : u = u' := funext eu
  obtain rfl : v = v' := funext ev
  unfold bchunk
  rw [show (fun f => a (ix2 i f)) = fun f => a' (ix2 i' f) from funext ea]

/-- The upper half's convolved rows, from the whole blocks. -/
theorem cv_up (x b : Vec Ideal S512x1024 .bf16) (l r : Vec Ideal S8x1024 .bf16) (w : Vec Ideal S3x1024 .f32) (q : BitVec 1) (s : ℕ) (hq : q = 1#1 ↔ s = 0)
    (i : Fin 256) (c : Fin 1024) (p : Fin 512) (hp : p.val = i.val) :
    (k0_pay8 (F := Ideal) (k0_pay5 (View.ld (Val := Elt Ideal) (e' := EltTy.bf16) x (Rect.unit (s := S512x1024) ![0, 0] ![256, 1024] inb_S512x1024_S256x1024_0_0))) q
        (k0_pay6 (View.ld (Val := Elt Ideal) (e' := EltTy.bf16) l (Rect.unit (s := S8x1024) ![7, 0] ![1, 1024] inb_S8x1024_S1x1024_7_0))) (k0_pay7 (F := Ideal))
        (View.ld (Val := Elt Ideal) (e' := EltTy.bf16) x (Rect.unit (s := S512x1024) ![256, 0] ![1, 1024] inb_S512x1024_S1x1024_256_0))
        (View.ld (Val := Elt Ideal) (e' := EltTy.f32) w (Rect.unit (s := S3x1024) ![0, 0] ![1, 1024] inb_S3x1024_S1x1024_0_0)) (View.ld (Val := Elt Ideal) (e' := EltTy.f32) w (Rect.unit (s := S3x1024) ![1, 0] ![1, 1024] inb_S3x1024_S1x1024_1_0))
        (View.ld (Val := Elt Ideal) (e' := EltTy.f32) w (Rect.unit (s := S3x1024) ![2, 0] ![1, 1024] inb_S3x1024_S1x1024_2_0))
        (View.ld (Val := Elt Ideal) (e' := EltTy.bf16) b (Rect.unit (s := S512x1024) ![0, 0] ![256, 1024] inb_S512x1024_S256x1024_0_0)) : FVec Ideal S256x1024 .bf16) (ix2 i c)
      = cvb b x l r w s p c := by
  refine (pay8_at _ q _ _ _ _ _ _ i c).trans ?_
  unfold cvb
  rw [ld_rows b 0 _ i c p (by omega), ld_rows x 0 _ i c p (by omega), ld_row w 0 _ c 0 rfl, ld_row w 1 _ c 1 rfl, ld_row w 2 _ c 2 rfl,
    ld_row l 7 _ c 7 rfl]
  have hl : (if i.val = 0 then (if q = 1#1 then 0 else l (ix2 7 c)) else View.ld (Val := Elt Ideal) (e' := EltTy.bf16) x (Rect.unit (s := S512x1024) ![0, 0] ![256, 1024] inb_S512x1024_S256x1024_0_0) (ix2 (prev i) c))
      = if p.val = 0 then (if s = 0 then 0 else l (ix2 7 c)) else x (ix2 (up p) c) := by
    by_cases h : i.val = 0
    · rw [if_pos h, if_pos (hp.trans h)]
      simp only [hq]
    · rw [if_neg h, if_neg (fun e => h (hp.symm.trans e))]
      exact ld_rows x 0 _ (prev i) c (up p) (by show p.val - 1 = 0 + (i.val + 255) % 256; omega)
  have hr : (if i.val = 255 then View.ld (Val := Elt Ideal) (e' := EltTy.bf16) x (Rect.unit (s := S512x1024) ![256, 0] ![1, 1024] inb_S512x1024_S1x1024_256_0) (ix2 0 c) else View.ld (Val := Elt Ideal) (e' := EltTy.bf16) x (Rect.unit (s := S512x1024) ![0, 0] ![256, 1024] inb_S512x1024_S256x1024_0_0) (ix2 (next i) c))
      = if p.val = 511 then (if s = 7 then 0 else r (ix2 0 c)) else x (ix2 (dn p) c) := by
    rw [if_neg (show ¬p.val = 511 by omega)]
    by_cases h : i.val = 255
    · rw [if_pos h]
      exact ld_row x 256 _ c (dn p) (by show min (p.val + 1) 511 = 256; omega)
    · rw [if_neg h]
      exact ld_rows x 0 _ (next i) c (dn p) (by show min (p.val + 1) 511 = 0 + (i.val + 1) % 256; omega)
  exact congrArg₂ (fun a b' => tap (b (ix2 p c)) a (x (ix2 p c)) b' (w (ix2 0 c)) (w (ix2 1 c)) (w (ix2 2 c))) hl hr

/-- The lower half's convolved rows, from the whole blocks. -/
theorem cv_low (x b : Vec Ideal S512x1024 .bf16) (l r : Vec Ideal S8x1024 .bf16) (w : Vec Ideal S3x1024 .f32) (q : BitVec 1) (n n' : BitVec 32) (s : ℕ)
    (hq : Scalar.cmpi .eq (if q = 1#1 then n else n') 7#32 = 1#1 ↔ s = 7)
    (i : Fin 256) (c : Fin 1024) (p : Fin 512) (hp : p.val = 256 + i.val) :
    (k0_pay15 (F := Ideal) (k0_pay14 (k0_pay13 (View.ld (Val := Elt Ideal) (e' := EltTy.bf16) x (Rect.unit (s := S512x1024) ![256, 0] ![256, 1024] inb_S512x1024_S256x1024_256_0))) n' q n
        (View.ld (Val := Elt Ideal) (e' := EltTy.bf16) x (Rect.unit (s := S512x1024) ![255, 0] ![1, 1024] inb_S512x1024_S1x1024_255_0))
        (View.ld (Val := Elt Ideal) (e' := EltTy.bf16) r (Rect.unit (s := S8x1024) ![0, 0] ![1, 1024] inb_S8x1024_S1x1024_0_0))
        (View.ld (Val := Elt Ideal) (e' := EltTy.f32) w (Rect.unit (s := S3x1024) ![0, 0] ![1, 1024] inb_S3x1024_S1x1024_0_0)) (View.ld (Val := Elt Ideal) (e' := EltTy.f32) w (Rect.unit (s := S3x1024) ![1, 0] ![1, 1024] inb_S3x1024_S1x1024_1_0))
        (View.ld (Val := Elt Ideal) (e' := EltTy.f32) w (Rect.unit (s := S3x1024) ![2, 0] ![1, 1024] inb_S3x1024_S1x1024_2_0))
        (View.ld (Val := Elt Ideal) (e' := EltTy.bf16) b (Rect.unit (s := S512x1024) ![256, 0] ![256, 1024] inb_S512x1024_S256x1024_256_0))) : FVec Ideal S256x1024 .bf16) (ix2 i c)
      = cvb b x l r w s p c := by
  refine (pay14_at _ q n n' _ _ _ _ _ _ i c).trans ?_
  unfold cvb
  rw [ld_rows b 256 _ i c p hp, ld_rows x 256 _ i c p hp, ld_row w 0 _ c 0 rfl, ld_row w 1 _ c 1 rfl, ld_row w 2 _ c 2 rfl,
    ld_row r 0 _ c 0 rfl]
  have hl : (if i.val = 0 then View.ld (Val := Elt Ideal) (e' := EltTy.bf16) x (Rect.unit (s := S512x1024) ![255, 0] ![1, 1024] inb_S512x1024_S1x1024_255_0) (ix2 0 c) else View.ld (Val := Elt Ideal) (e' := EltTy.bf16) x (Rect.unit (s := S512x1024) ![256, 0] ![256, 1024] inb_S512x1024_S256x1024_256_0) (ix2 (prev i) c))
      = if p.val = 0 then (if s = 0 then 0 else l (ix2 7 c)) else x (ix2 (up p) c) := by
    rw [if_neg (show ¬p.val = 0 by omega)]
    by_cases h : i.val = 0
    · rw [if_pos h]
      exact ld_row x 255 _ c (up p) (by show p.val - 1 = 255; omega)
    · rw [if_neg h]
      exact ld_rows x 256 _ (prev i) c (up p) (by show p.val - 1 = 256 + (i.val + 255) % 256; omega)
  have hr : (if i.val = 255 then (if Scalar.cmpi .eq (if q = 1#1 then n else n') 7#32 = 1#1 then 0 else r (ix2 0 c)) else View.ld (Val := Elt Ideal) (e' := EltTy.bf16) x (Rect.unit (s := S512x1024) ![256, 0] ![256, 1024] inb_S512x1024_S256x1024_256_0) (ix2 (next i) c))
      = if p.val = 511 then (if s = 7 then 0 else r (ix2 0 c)) else x (ix2 (dn p) c) := by
    by_cases h : i.val = 255
    · rw [if_pos h, if_pos (show p.val = 511 by omega)]
      simp only [hq]
    · rw [if_neg h, if_neg (show ¬p.val = 511 by omega)]
      exact ld_rows x 256 _ (next i) c (dn p) (by show min (p.val + 1) 511 = 256 + (i.val + 1) % 256; omega)
  exact congrArg₂ (fun a b' => tap (b (ix2 p c)) a (x (ix2 p c)) b' (w (ix2 0 c)) (w (ix2 1 c)) (w (ix2 2 c))) hl hr

/-- The lower half's normalised rows. -/
theorem nrm_low (x : Vec Ideal S512x2048 .f32) (g : Vec Ideal S1x2048 .f32) (i : Fin 256) (j : Fin 2048) (p : Fin 512) (hp : p.val = 256 + i.val) :
    (k0_pay12 (F := Ideal) (View.ld (Val := Elt Ideal) (e' := EltTy.f32) x (Rect.unit (s := S512x2048) ![256, 0] ![256, 2048] inb_S512x2048_S256x2048_256_0)) g : FVec Ideal S256x2048 .bf16) (ix2 i j)
      = nrm (fun k => x (ix2 p k)) (fun k => g (ix2 0 k)) j :=
  (pay12_at _ _ i j).trans (congrArg (fun f => nrm f (fun k => g (ix2 0 k)) j) (funext fun k => ld_rows x 256 _ i k p hp))

/-- The upper half's normalised rows. -/
theorem nrm_up (x : Vec Ideal S512x2048 .f32) (g : Vec Ideal S1x2048 .f32) (i : Fin 256) (j : Fin 2048) (p : Fin 512) (hp : p.val = i.val) :
    (k0_pay4 (F := Ideal) (View.ld (Val := Elt Ideal) (e' := EltTy.f32) x (Rect.unit (s := S512x2048) ![0, 0] ![256, 2048] inb_S512x2048_S256x2048_0_0)) g : FVec Ideal S256x2048 .bf16) (ix2 i j)
      = nrm (fun k => x (ix2 p k)) (fun k => g (ix2 0 k)) j :=
  (pay4_at _ _ i j).trans (congrArg (fun f => nrm f (fun k => g (ix2 0 k)) j) (funext fun k => ld_rows x 0 _ i k p (by omega)))

set_option maxHeartbeats 400000 in
/-- The first chunk's point stores the normalised rows. -/
theorem u_A (c : Dev nD) (t : Fin cfg0.N) (ha : t.val % 4 = 0) (hb : ¬(1 ≤ t.val % 4 ∧ t.val % 4 ≤ 2)) (hc : ¬t.val % 4 = 3) (y : S512x2048.Idx) :
    (outsAt0 m c t.val t.isLt).2.1 y
      = nrm (fun k => iblk m c 0 t (ix2 (y 0) k)) (fun k => iblk m c 6 t (ix2 0 k)) (y 1) := by
  rw [outsAt0_A m c t ha hb hc]
  dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  frame_out
  canon_tiles x h using (View.cover_of_tiledBy _ ![256, 2048] (by sl_kernel_rfl) y)
  all_goals obtain ⟨i, j, rfl⟩ : ∃ i j, x = ix2 i j := ⟨_, _, eq_ix2 x⟩
  · have e1 : y 1 = j := Fin.ext h1
    rw [e1]
    exact nrm_low x0 x6 i j (y 0) h0
  · have e1 : y 1 = j := Fin.ext h1
    rw [e1]
    exact nrm_up x0 x6 i j (y 0) h0

set_option maxHeartbeats 400000 in
/-- The first chunk's point stores the convolved rows. -/
theorem cv_A (c : Dev nD) (t : Fin cfg0.N) (ha : t.val % 4 = 0) (hb : ¬(1 ≤ t.val % 4 ∧ t.val % 4 ≤ 2)) (hc : ¬t.val % 4 = 3) (y : S512x1024.Idx) :
    (outsAt0 m c t.val t.isLt).2.2.1 y
      = cvb (iblk m c 2 t) (iblk m c 3 t) (iblk m c 4 t) (iblk m c 5 t) (iblk m c 11 t) ((grid0.coords t 0).val % 8) (y 0) (y 1) := by
  rw [outsAt0_A m c t ha hb hc]
  dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  frame_out
  canon_tiles x h using (View.cover_of_tiledBy _ ![256, 1024] (by sl_kernel_rfl) y)
  all_goals obtain ⟨i, j, rfl⟩ : ∃ i j, x = ix2 i j := ⟨_, _, eq_ix2 x⟩
  · have e1 : y 1 = j := Fin.ext h1
    rw [e1]
    exact cv_low x3 x2 x4 x5 x11 _ _ _ _ (last_word (grid0.coords t 0)) i j (y 0) h0
  · have e1 : y 1 = j := Fin.ext h1
    rw [e1]
    exact cv_up x3 x2 x4 x5 x11 _ _ (first_word (grid0.coords t 0)) i j (y 0) h0

set_option maxHeartbeats 400000 in
/-- The first chunk's point stores the first sum. -/
theorem acc_A (c : Dev nD) (t : Fin cfg0.N) (ha : t.val % 4 = 0) (hb : ¬(1 ≤ t.val % 4 ∧ t.val % 4 ≤ 2)) (hc : ¬t.val % 4 = 3) (y : S512x2048.Idx) :
    (outsAt0 m c t.val t.isLt).2.2.2 y
      = bchunk (iblk m c 7 t) (iblk m c 8 t) (iblk m c 9 t) (iblk m c 10 t) (iblk m c 12 t) (iblk m c 13 t) (iblk m c 1 t)
          (nrm (fun k => iblk m c 0 t (ix2 (y 0) k)) (fun k => iblk m c 6 t (ix2 0 k)))
          (cvb (iblk m c 2 t) (iblk m c 3 t) (iblk m c 4 t) (iblk m c 5 t) (iblk m c 11 t) ((grid0.coords t 0).val % 8) (y 0)) (y 0) (y 1) := by
  rw [outsAt0_A m c t ha hb hc]
  dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  frame_out
  canon_tiles x h using (View.cover_of_tiledBy _ ![256, 2048] (by sl_kernel_rfl) y)
  all_goals obtain ⟨i, j, rfl⟩ : ∃ i j, x = ix2 i j := ⟨_, _, eq_ix2 x⟩
  · have e1 : y 1 = j := Fin.ext h1
    rw [View.readCov_cons_toLoadRect, View.readCov_cons_toLoadRect]
    rw [e1]
    refine (sum_low x7 x8 x9 x10 x12 x13 _ _ _ i j).trans (bchunk_row _ _ _ _ _ _ _ _ _ _ _ _ _ _ _ (fun f => ld_rows x1 256 _ i f (y 0) h0) (fun k => ?_) (fun k => ?_))
    · exact (nrm_low x0 x6 i k (y 0) h0)
    · exact (cv_low x3 x2 x4 x5 x11 _ _ _ _ (last_word (grid0.coords t 0)) i k (y 0) h0)
  · have e1 : y 1 = j := Fin.ext h1
    rw [View.readCov_cons_toLoadRect, View.readCov_cons_toLoadRect]
    rw [e1]
    refine (sum_up x7 x8 x9 x10 x12 x13 _ _ _ i j).trans (bchunk_row _ _ _ _ _ _ _ _ _ _ _ _ _ _ _ (fun f => ld_rows x1 0 _ i f (y 0) (h0.trans (Nat.zero_add _).symm)) (fun k => ?_) (fun k => ?_))
    · exact (nrm_up x0 x6 i k (y 0) h0)
    · exact (cv_up x3 x2 x4 x5 x11 _ _ (first_word (grid0.coords t 0)) i k (y 0) h0)

/-- A middle chunk's point leaves the normalised rows. -/
theorem u_B (c : Dev nD) (t : Fin cfg0.N) (ha : ¬t.val % 4 = 0) (hb : 1 ≤ t.val % 4 ∧ t.val % 4 ≤ 2) (hc : ¬t.val % 4 = 3) : (outsAt0 m c t.val t.isLt).2.1 = (outsAt0 m c (t.val - 1) (Nat.lt_of_le_of_lt (Nat.sub_le _ _) t.isLt)).2.1 := by
  rw [outsAt0_B m c t ha hb hc]
  rfl

/-- A middle chunk's point leaves the convolved rows. -/
theorem cv_B (c : Dev nD) (t : Fin cfg0.N) (ha : ¬t.val % 4 = 0) (hb : 1 ≤ t.val % 4 ∧ t.val % 4 ≤ 2) (hc : ¬t.val % 4 = 3) : (outsAt0 m c t.val t.isLt).2.2.1 = (outsAt0 m c (t.val - 1) (Nat.lt_of_le_of_lt (Nat.sub_le _ _) t.isLt)).2.2.1 := by
  rw [outsAt0_B m c t ha hb hc]
  rfl

set_option maxHeartbeats 400000 in
/-- A middle chunk's point adds its sum to the accumulator. -/
theorem acc_B (c : Dev nD) (t : Fin cfg0.N) (ha : ¬t.val % 4 = 0) (hb : 1 ≤ t.val % 4 ∧ t.val % 4 ≤ 2) (hc : ¬t.val % 4 = 3) (y : S512x2048.Idx) :
    (outsAt0 m c t.val t.isLt).2.2.2 y
      = (outsAt0 m c (t.val - 1) (Nat.lt_of_le_of_lt (Nat.sub_le _ _) t.isLt)).2.2.2 y
        + bchunk (iblk m c 7 t) (iblk m c 8 t) (iblk m c 9 t) (iblk m c 10 t) (iblk m c 12 t) (iblk m c 13 t) (iblk m c 1 t)
          (fun k => (outsAt0 m c (t.val - 1) (Nat.lt_of_le_of_lt (Nat.sub_le _ _) t.isLt)).2.1 (ix2 (y 0) k))
          (fun k => (outsAt0 m c (t.val - 1) (Nat.lt_of_le_of_lt (Nat.sub_le _ _) t.isLt)).2.2.1 (ix2 (y 0) k)) (y 0) (y 1) := by
  rw [outsAt0_B m c t ha hb hc]
  dsimp only
  generalize outsAt0 m c (t.val - 1) (Nat.lt_of_le_of_lt (Nat.sub_le _ _) t.isLt) = o
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  frame_out
  simp only [read_unread_whole]
  obtain ⟨i, j, rfl⟩ : ∃ i j, y = ix2 i j := ⟨_, _, eq_ix2 y⟩
  exact sum_mid x7 x8 x9 x10 x12 x13 o.2.2.2 o.2.1 o.2.2.1 x1 i j

set_option maxHeartbeats 400000 in
/-- The last chunk's point stores the result. -/
theorem out_C (c : Dev nD) (t : Fin cfg0.N) (ha : ¬t.val % 4 = 0) (hb : ¬(1 ≤ t.val % 4 ∧ t.val % 4 ≤ 2)) (hc : t.val % 4 = 3) (y : S512x2048.Idx) :
    (outsAt0 m c t.val t.isLt).1 y
      = res (iblk m c 0 t y) (nrm (fun n => (outsAt0 m c (t.val - 1) (Nat.lt_of_le_of_lt (Nat.sub_le _ _) t.isLt)).2.2.2 (ix2 (y 0) n)
        + bchunk (iblk m c 7 t) (iblk m c 8 t) (iblk m c 9 t) (iblk m c 10 t) (iblk m c 12 t) (iblk m c 13 t) (iblk m c 1 t)
          (fun k => (outsAt0 m c (t.val - 1) (Nat.lt_of_le_of_lt (Nat.sub_le _ _) t.isLt)).2.1 (ix2 (y 0) k))
          (fun k => (outsAt0 m c (t.val - 1) (Nat.lt_of_le_of_lt (Nat.sub_le _ _) t.isLt)).2.2.1 (ix2 (y 0) k)) (y 0) n)
        (fun k => iblk m c 14 t (ix2 0 k)) (y 1)) := by
  rw [outsAt0_C m c t ha hb hc]
  dsimp only
  generalize outsAt0 m c (t.val - 1) (Nat.lt_of_le_of_lt (Nat.sub_le _ _) t.isLt) = o
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  frame_out
  simp only [read_unread_whole]
  canon_tiles x h using (View.cover_of_tiledBy _ ![256, 2048] (by sl_kernel_rfl) y)
  all_goals obtain ⟨i, j, rfl⟩ : ∃ i j, x = ix2 i j := ⟨_, _, eq_ix2 x⟩
  · have e1 : y 1 = j := Fin.ext h1
    refine (res_low x7 x8 x9 x10 x12 x13 _ _ x14 _ _ _ i j).trans ?_
    have hx : View.ld x0 (Rect.unit ![256, 0] ![256, 2048] inb_S512x2048_S256x2048_256_0) (ix2 i j) = x0 y :=
      (ld_rows x0 256 _ i j (y 0) h0).trans (congrArg x0 ((congrArg (ix2 (y 0)) e1.symm).trans (eq_ix2 y).symm))
    rw [e1]
    refine congrArg₂ (fun a b : EReal => a + b) hx (congrArg (fun w => nrm w (fun k => x14 (ix2 0 k)) j) (funext fun n => ?_))
    exact congrArg₂ (fun a b : EReal => a + b) (ld_rows o.2.2.2 256 _ i n (y 0) h0)
      (bchunk_row _ _ _ _ _ _ _ _ _ _ _ _ _ _ _ (fun f => ld_rows x1 256 _ i f (y 0) h0)
        (fun k => ld_rows o.2.1 256 _ i k (y 0) h0) (fun k => ld_rows o.2.2.1 256 _ i k (y 0) h0))
  · have e1 : y 1 = j := Fin.ext h1
    refine (res_up x7 x8 x9 x10 x12 x13 _ _ x14 _ _ _ i j).trans ?_
    have hx : View.ld x0 (Rect.unit ![0, 0] ![256, 2048] inb_S512x2048_S256x2048_0_0) (ix2 i j) = x0 y :=
      (ld_rows x0 0 _ i j (y 0) (h0.trans (Nat.zero_add _).symm)).trans (congrArg x0 ((congrArg (ix2 (y 0)) e1.symm).trans (eq_ix2 y).symm))
    rw [e1]
    refine congrArg₂ (fun a b : EReal => a + b) hx (congrArg (fun w => nrm w (fun k => x14 (ix2 0 k)) j) (funext fun n => ?_))
    exact congrArg₂ (fun a b : EReal => a + b) (ld_rows o.2.2.2 0 _ i n (y 0) (h0.trans (Nat.zero_add _).symm))
      (bchunk_row _ _ _ _ _ _ _ _ _ _ _ _ _ _ _ (fun f => ld_rows x1 0 _ i f (y 0) (h0.trans (Nat.zero_add _).symm))
        (fun k => ld_rows o.2.1 0 _ i k (y 0) (h0.trans (Nat.zero_add _).symm)) (fun k => ld_rows o.2.2.1 0 _ i k (y 0) (h0.trans (Nat.zero_add _).symm)))

end Cert.MixIdeal.MixPoint
-- ==== Proof.MixArr.lean ====
module

public import proofs.«01_k».proof.Proof.MixPoint

@[expose] public section

set_option maxRecDepth 16384

noncomputable section

open Idealize.ShloMosaic Idealize.ShloMosaic.TcCoe Idealize.SL.Sem
open Idealize.ShloMosaic.Pipeline (Dat)

/-! # The mixer's output kernel's output as a whole array -/

namespace Cert.MixIdeal.MixArr

open Cert.MixIdeal Cert.MixIdeal.Gen Cert.Attn Cert.MixIdeal.MixBlock Cert.MixIdeal.MixPoint

variable (m : (ℓ : Loc nD τ sig) → Buf (Elt Ideal) ℓ)

/-- The index maps of the rows: a point's row block is its quotient by four, its chunk the remainder; the neighbours' rows lie in
    the blocks of eight rows before and after. -/
theorem idx : ∀ t : Fin cfg0.N, win0_0.index t = ![t.val / 4, 0] ∧ win0_1.index t = ![t.val / 4, t.val % 4] ∧ win0_2.index t = ![t.val / 4, 0]
    ∧ win0_3.index t = ![t.val / 4, 0] ∧ win0_4.index t = ![64 * (t.val / 4) - 1, 0] ∧ win0_5.index t = ![min (64 * (t.val / 4) + 64) 4095, 0]
    ∧ win0_15.index t = ![t.val / 4, 0] :=
  (by decide +kernel : ∀ t : Fin grid0.N, _)

/-- The index maps of the weights. -/
theorem wdx : ∀ t : Fin cfg0.N, win0_6.index t = ![0, 0] ∧ win0_7.index t = ![0, t.val % 4] ∧ win0_8.index t = ![0, t.val % 4 + 4]
    ∧ win0_9.index t = ![0, t.val % 4] ∧ win0_10.index t = ![0, t.val % 4 + 4] ∧ win0_11.index t = ![0, 0] ∧ win0_12.index t = ![0, t.val % 4]
    ∧ win0_13.index t = ![t.val % 4, 0] ∧ win0_14.index t = ![0, 0] :=
  (by decide +kernel : ∀ t : Fin grid0.N, _)

/-- The point's first coordinate. -/
theorem crd : ∀ t : Fin cfg0.N, (grid0.coords t 0).val = t.val / 4 :=
  (by decide +kernel : ∀ t : Fin grid0.N, _)

/-- Feature `f` of chunk `j`. -/
def at2048 (j : ℕ) (f : Fin 512) : Fin 2048 := ⟨512 * min j 3 + f.val, by omega⟩

/-- The first gate's column of a feature. -/
def acol (f : Fin 2048) : Fin 4096 := ⟨f.val, by omega⟩

/-- The second gate's column of a feature. -/
def ccol (f : Fin 2048) : Fin 4096 := ⟨2048 + f.val, by omega⟩

/-- The token before. -/
def bef (q : Fin 32768) : Fin 32768 := ⟨q.val - 1, by omega⟩

/-- The token after. -/
def aft (q : Fin 32768) : Fin 32768 := ⟨min (q.val + 1) 32767, by omega⟩

/-- The convolved row of a token: the neighbours count only within its sequence. -/
def crow (B P : Vec Ideal S32768x1024 .bf16) (w : Vec Ideal S3x1024 .f32) (q : Fin 32768) (c : Fin 1024) : EReal :=
  tap (B (ix2 q c)) (if q.val % 4096 = 0 then 0 else P (ix2 (bef q) c)) (P (ix2 q c)) (if q.val % 4096 = 4095 then 0 else P (ix2 (aft q) c))
    (w (ix2 0 c)) (w (ix2 1 c)) (w (ix2 2 c))

/-- One chunk's part of one output feature of a token. -/
def part (u : Fin 2048 → EReal) (v : Fin 1024 → EReal) (A : Vec Ideal S32768x2048 .bf16) (W : Vec Ideal S2048x4096 .bf16) (b : Vec Ideal S1x4096 .f32)
    (C : Vec Ideal S1024x2048 .bf16) (O : Vec Ideal S2048x2048 .bf16) (q : Fin 32768) (j : ℕ) (n : Fin 2048) : EReal :=
  chunk u v (fun f => A (ix2 q (at2048 j f))) (fun k f => W (ix2 k (acol (at2048 j f)))) (fun k f => W (ix2 k (ccol (at2048 j f))))
    (fun f => b (ix2 0 (acol (at2048 j f)))) (fun f => b (ix2 0 (ccol (at2048 j f)))) (fun k f => C (ix2 k (at2048 j f))) (fun f => O (ix2 (at2048 j f) n))

/-- The output array from the eleven arrays the kernel reads. -/
def mixG (H : Vec Ideal S32768x2048 .f32) (A : Vec Ideal S32768x2048 .bf16) (B P : Vec Ideal S32768x1024 .bf16) (g : Vec Ideal S1x2048 .f32)
    (W : Vec Ideal S2048x4096 .bf16) (b : Vec Ideal S1x4096 .f32) (w : Vec Ideal S3x1024 .f32) (C : Vec Ideal S1024x2048 .bf16) (O : Vec Ideal S2048x2048 .bf16)
    (h : Vec Ideal S1x2048 .f32) : Vec Ideal S32768x2048 .f32 := fun i =>
  res (H i) (nrm (fun n => ∑ j ∈ Finset.range 4, part (nrm (fun k => H (ix2 (i 0) k)) (fun k => g (ix2 0 k))) (crow B P w (i 0)) A W b C O (i 0) j n)
    (fun k => h (ix2 0 k)) (i 1))

/-- Row `r` of the point's row block. -/
def rowOf (t : Fin cfg0.N) (r : Fin 512) : Fin 32768 :=
  ⟨512 * (t.val / 4) + r.val, by have : t.val < 256 := t.isLt; omega⟩

set_option maxHeartbeats 1000000 in
theorem rd0 (c : Dev nD) (t : Fin cfg0.N) (r : Fin 512) (k : Fin 2048) : iblk m c 0 t (ix2 r k) = V m c main_v0 (ix2 (rowOf t r) k) :=
  congrArg (V m c main_v0) (by unfold rowOf; blk_ext [idx t])

set_option maxHeartbeats 1000000 in
theorem rd1 (c : Dev nD) (t : Fin cfg0.N) (r : Fin 512) (f : Fin 512) : iblk m c 1 t (ix2 r f) = V m c main_v1 (ix2 (rowOf t r) (at2048 (t.val % 4) f)) := by
  have hm : min (t.val % 4) 3 = t.val % 4 := by omega
  exact congrArg (V m c main_v1) (by unfold rowOf at2048; simp only [hm]; blk_ext [idx t])

set_option maxHeartbeats 1000000 in
theorem rd2 (c : Dev nD) (t : Fin cfg0.N) (r : Fin 512) (k : Fin 1024) : iblk m c 2 t (ix2 r k) = V m c main_v2 (ix2 (rowOf t r) k) :=
  congrArg (V m c main_v2) (by unfold rowOf; blk_ext [idx t])

set_option maxHeartbeats 1000000 in
theorem rd3 (c : Dev nD) (t : Fin cfg0.N) (r : Fin 512) (k : Fin 1024) : iblk m c 3 t (ix2 r k) = V m c main_v3 (ix2 (rowOf t r) k) :=
  congrArg (V m c main_v3) (by unfold rowOf; blk_ext [idx t])

set_option maxHeartbeats 1000000 in
theorem rd4 (c : Dev nD) (t : Fin cfg0.N) (ht : ¬t.val / 4 = 0) (r : Fin 512) (hr : r.val = 0) (k : Fin 1024) :
    iblk m c 4 t (ix2 7 k) = V m c main_v3 (ix2 (bef (rowOf t r)) k) := by
  have e : 8 * (64 * (t.val / 4) - 1) + 7 = 512 * (t.val / 4) + r.val - 1 := by omega
  exact congrArg (V m c main_v3) (by unfold bef rowOf; simp only [← e]; blk_ext [idx t])

set_option maxHeartbeats 1000000 in
theorem rd5 (c : Dev nD) (t : Fin cfg0.N) (ht : ¬t.val / 4 = 63) (r : Fin 512) (hr : r.val = 511) (k : Fin 1024) :
    iblk m c 5 t (ix2 0 k) = V m c main_v3 (ix2 (aft (rowOf t r)) k) := by
  have : t.val < 256 := t.isLt
  have e : 8 * min (64 * (t.val / 4) + 64) 4095 = min (512 * (t.val / 4) + r.val + 1) 32767 := by omega
  exact congrArg (V m c main_v3) (by unfold aft rowOf; simp only [← e]; blk_ext [idx t])

set_option maxHeartbeats 1000000 in
theorem rd6 (c : Dev nD) (t : Fin cfg0.N) (k : Fin 2048) : iblk m c 6 t (ix2 0 k) = V m c main_v4 (ix2 0 k) :=
  congrArg (V m c main_v4) (by blk_ext [wdx t])

set_option maxHeartbeats 1000000 in
theorem rd7 (c : Dev nD) (t : Fin cfg0.N) (k : Fin 2048) (f : Fin 512) : iblk m c 7 t (ix2 k f) = V m c main_v6 (ix2 k (acol (at2048 (t.val % 4) f))) := by
  have hm : min (t.val % 4) 3 = t.val % 4 := by omega
  exact congrArg (V m c main_v6) (by unfold acol at2048; simp only [hm]; blk_ext [wdx t])

set_option maxHeartbeats 1000000 in
theorem rd8 (c : Dev nD) (t : Fin cfg0.N) (k : Fin 2048) (f : Fin 512) : iblk m c 8 t (ix2 k f) = V m c main_v6 (ix2 k (ccol (at2048 (t.val % 4) f))) := by
  have hm : min (t.val % 4) 3 = t.val % 4 := by omega
  exact congrArg (V m c main_v6) (by unfold ccol at2048; simp only [hm]; blk_ext [wdx t])

set_option maxHeartbeats 1000000 in
theorem rd9 (c : Dev nD) (t : Fin cfg0.N) (f : Fin 512) : iblk m c 9 t (ix2 0 f) = V m c main_v7 (ix2 0 (acol (at2048 (t.val % 4) f))) := by
  have hm : min (t.val % 4) 3 = t.val % 4 := by omega
  exact congrArg (V m c main_v7) (by unfold acol at2048; simp only [hm]; blk_ext [wdx t])

set_option maxHeartbeats 1000000 in
theorem rd10 (c : Dev nD) (t : Fin cfg0.N) (f : Fin 512) : iblk m c 10 t (ix2 0 f) = V m c main_v7 (ix2 0 (ccol (at2048 (t.val % 4) f))) := by
  have hm : min (t.val % 4) 3 = t.val % 4 := by omega
  exact congrArg (V m c main_v7) (by unfold ccol at2048; simp only [hm]; blk_ext [wdx t])

set_option maxHeartbeats 1000000 in
theorem rd11 (c : Dev nD) (t : Fin cfg0.N) (a : Fin 3) (k : Fin 1024) : iblk m c 11 t (ix2 a k) = V m c main_arg7 (ix2 a k) :=
  congrArg (V m c main_arg7) (by blk_ext [wdx t])

set_option maxHeartbeats 1000000 in
theorem rd12 (c : Dev nD) (t : Fin cfg0.N) (k : Fin 1024) (f : Fin 512) : iblk m c 12 t (ix2 k f) = V m c main_v8 (ix2 k (at2048 (t.val % 4) f)) := by
  have hm : min (t.val % 4) 3 = t.val % 4 := by omega
  exact congrArg (V m c main_v8) (by unfold at2048; simp only [hm]; blk_ext [wdx t])

set_option maxHeartbeats 1000000 in
theorem rd13 (c : Dev nD) (t : Fin cfg0.N) (f : Fin 512) (n : Fin 2048) : iblk m c 13 t (ix2 f n) = V m c main_v9 (ix2 (at2048 (t.val % 4) f) n) := by
  have hm : min (t.val % 4) 3 = t.val % 4 := by omega
  exact congrArg (V m c main_v9) (by unfold at2048; simp only [hm]; blk_ext [wdx t])

set_option maxHeartbeats 1000000 in
theorem rd14 (c : Dev nD) (t : Fin cfg0.N) (k : Fin 2048) : iblk m c 14 t (ix2 0 k) = V m c main_v10 (ix2 0 k) :=
  congrArg (V m c main_v10) (by blk_ext [wdx t])

/-- Two chunks agree when what they read agrees. -/
theorem chunk_congr {u : Fin 2048 → EReal} {v : Fin 1024 → EReal} {a a' : Fin 512 → EReal} {wa wa' wc wc' : Fin 2048 → Fin 512 → EReal} {ba ba' bc bc' : Fin 512 → EReal}
    {co co' : Fin 1024 → Fin 512 → EReal} {wo wo' : Fin 512 → EReal} (e1 : ∀ f, a f = a' f) (e2 : ∀ k f, wa k f = wa' k f) (e3 : ∀ k f, wc k f = wc' k f)
    (e4 : ∀ f, ba f = ba' f) (e5 : ∀ f, bc f = bc' f) (e6 : ∀ k f, co k f = co' k f) (e7 : ∀ f, wo f = wo' f) :
    chunk u v a wa wc ba bc co wo = chunk u v a' wa' wc' ba' bc' co' wo' := by
  obtain rfl : a = a' := funext e1
  obtain rfl : wa = wa' := funext fun k => funext (e2 k)
  obtain rfl : wc = wc' := funext fun k => funext (e3 k)
  obtain rfl : ba = ba' := funext e4
  obtain rfl : bc = bc' := funext e5
  obtain rfl : co = co' := funext fun k => funext (e6 k)
  obtain rfl : wo = wo' := funext e7
  rfl

/-- One chunk's part, from the arrays of a run. -/
abbrev vpart (c : Dev nD) (u : Fin 2048 → EReal) (v : Fin 1024 → EReal) (q : Fin 32768) (j : ℕ) (n : Fin 2048) : EReal :=
  part u v (V m c main_v1) (V m c main_v6) (V m c main_v7) (V m c main_v8) (V m c main_v9) q j n

/-- The point's chunk, read from the arrays. -/
theorem chunk_at (c : Dev nD) (t : Fin cfg0.N) (u : Fin 2048 → EReal) (v : Fin 1024 → EReal) (r : Fin 512) (n : Fin 2048) :
    bchunk (iblk m c 7 t) (iblk m c 8 t) (iblk m c 9 t) (iblk m c 10 t) (iblk m c 12 t) (iblk m c 13 t) (iblk m c 1 t) u v r n
      = vpart m c u v (rowOf t r) (t.val % 4) n :=
  chunk_congr (fun f => rd1 m c t r f) (fun k f => rd7 m c t k f) (fun k f => rd8 m c t k f) (fun f => rd9 m c t f) (fun f => rd10 m c t f)
    (fun k f => rd12 m c t k f) (fun f => rd13 m c t f n)

/-- The normalised row of a token. -/
abbrev xrow (c : Dev nD) (q : Fin 32768) : Fin 2048 → EReal :=
  nrm (fun k => V m c main_v0 (ix2 q k)) (fun k => V m c main_v4 (ix2 0 k))

theorem xrow_at (c : Dev nD) (t : Fin cfg0.N) (r : Fin 512) :
    nrm (fun k => iblk m c 0 t (ix2 r k)) (fun k => iblk m c 6 t (ix2 0 k)) = xrow m c (rowOf t r) :=
  congrArg₂ nrm (funext fun k => rd0 m c t r k) (funext fun k => rd6 m c t k)

/-- The convolved row of a token, from the arrays of a run. -/
abbrev vrow (c : Dev nD) (q : Fin 32768) : Fin 1024 → EReal :=
  crow (V m c main_v2) (V m c main_v3) (V m c main_arg7) q

theorem tap_congr {b b' l l' x x' r r' w0 w0' w1 w1' w2 w2' : EReal} (eb : b = b') (el : l = l') (ex : x = x') (er : r = r') (e0 : w0 = w0') (e1 : w1 = w1')
    (e2 : w2 = w2') : tap b l x r w0 w1 w2 = tap b' l' x' r' w0' w1' w2' := by
  subst eb el ex er e0 e1 e2
  rfl

theorem vrow_at (c : Dev nD) (t : Fin cfg0.N) (r : Fin 512) (k : Fin 1024) :
    cvb (iblk m c 2 t) (iblk m c 3 t) (iblk m c 4 t) (iblk m c 5 t) (iblk m c 11 t) ((grid0.coords t 0).val % 8) r k = vrow m c (rowOf t r) k := by
  have ht : t.val < 256 := t.isLt
  have hq : (rowOf t r).val = 512 * (t.val / 4) + r.val := rfl
  rw [crd t]
  refine tap_congr (rd2 m c t r k) ?_ (rd3 m c t r k) ?_ (rd11 m c t 0 k) (rd11 m c t 1 k) (rd11 m c t 2 k)
  · by_cases h : r.val = 0
    · rw [if_pos h]
      by_cases hs : t.val / 4 % 8 = 0
      · rw [if_pos hs, if_pos (show (rowOf t r).val % 4096 = 0 by omega)]
      · rw [if_neg hs, if_neg (show ¬(rowOf t r).val % 4096 = 0 by omega)]
        exact rd4 m c t (by omega) r h k
    · rw [if_neg h, if_neg (show ¬(rowOf t r).val % 4096 = 0 by omega)]
      refine (rd3 m c t (up r) k).trans (congrArg (fun q => V m c main_v3 (ix2 q k)) (Fin.ext ?_))
      show 512 * (t.val / 4) + (r.val - 1) = 512 * (t.val / 4) + r.val - 1
      omega
  · by_cases h : r.val = 511
    · rw [if_pos h]
      by_cases hs : t.val / 4 % 8 = 7
      · rw [if_pos hs, if_pos (show (rowOf t r).val % 4096 = 4095 by omega)]
      · rw [if_neg hs, if_neg (show ¬(rowOf t r).val % 4096 = 4095 by omega)]
        exact rd5 m c t (by omega) r h k
    · rw [if_neg h, if_neg (show ¬(rowOf t r).val % 4096 = 4095 by omega)]
      refine (rd3 m c t (dn r) k).trans (congrArg (fun q => V m c main_v3 (ix2 q k)) (Fin.ext ?_))
      show 512 * (t.val / 4) + min (r.val + 1) 511 = min (512 * (t.val / 4) + r.val + 1) 32767
      omega

/-- The sum of the first chunks of a row. -/
abbrev psum (c : Dev nD) (q : Fin 32768) (n : ℕ) (k : Fin 2048) : EReal :=
  ∑ j ∈ Finset.range n, vpart m c (xrow m c q) (vrow m c q) q j k

/-- What the scratch holds when `a` chunks of its rows are summed. -/
def Holds (c : Dev nD) (n : ℕ) (hn : n < cfg0.N) (q : Fin 512 → Fin 32768) (a : ℕ) : Prop :=
  ∀ r : Fin 512, (∀ k : Fin 2048, (outsAt0 m c n hn).2.1 (ix2 r k) = xrow m c (q r) k) ∧ (∀ k : Fin 1024, (outsAt0 m c n hn).2.2.1 (ix2 r k) = vrow m c (q r) k)
    ∧ ∀ k : Fin 2048, (outsAt0 m c n hn).2.2.2 (ix2 r k) = psum m c (q r) a k

theorem first (c : Dev nD) (t : Fin cfg0.N) (h0 : t.val % 4 = 0) : Holds m c t.val t.isLt (rowOf t) (t.val % 4 + 1) := by
  have hb : ¬(1 ≤ t.val % 4 ∧ t.val % 4 ≤ 2) := by omega
  have hc : ¬t.val % 4 = 3 := by omega
  refine fun r => ⟨fun k => (u_A m c t h0 hb hc (ix2 r k)).trans (congrFun (xrow_at m c t r) k),
    fun k => (cv_A m c t h0 hb hc (ix2 r k)).trans (vrow_at m c t r k), fun k => ?_⟩
  refine (acc_A m c t h0 hb hc (ix2 r k)).trans ((chunk_at m c t _ _ r k).trans ?_)
  refine (congrArg₂ (fun u v => vpart m c u v (rowOf t r) (t.val % 4) k) (xrow_at m c t r) (funext fun k => vrow_at m c t r k)).trans ?_
  rw [h0]
  exact (Finset.sum_range_one (fun j => vpart m c (xrow m c (rowOf t r)) (vrow m c (rowOf t r)) (rowOf t r) j k)).symm

theorem middle (c : Dev nD) (t : Fin cfg0.N) (hp : t.val - 1 < cfg0.N) (h0 : ¬t.val % 4 = 0) (h2 : t.val % 4 ≤ 2)
    (ih : Holds m c (t.val - 1) hp (rowOf t) (t.val % 4)) : Holds m c t.val t.isLt (rowOf t) (t.val % 4 + 1) := by
  have hb : 1 ≤ t.val % 4 ∧ t.val % 4 ≤ 2 := by omega
  have hc : ¬t.val % 4 = 3 := by omega
  refine fun r => ⟨fun k => (congrFun (u_B m c t h0 hb hc) (ix2 r k)).trans ((ih r).1 k),
    fun k => (congrFun (cv_B m c t h0 hb hc) (ix2 r k)).trans ((ih r).2.1 k), fun k => ?_⟩
  refine (acc_B m c t h0 hb hc (ix2 r k)).trans ?_
  refine (congrArg₂ (fun a b : EReal => a + b) ((ih r).2.2 k)
    ((chunk_at m c t _ _ r k).trans (congrArg₂ (fun u v => vpart m c u v (rowOf t r) (t.val % 4) k) (funext (ih r).1) (funext (ih r).2.1)))).trans ?_
  exact (Finset.sum_range_succ _ (t.val % 4)).symm

/-- After every point but a row block's last, the scratch holds the two rows and the sum of the chunks so far. -/
theorem sweep (c : Dev nD) : ∀ (n : ℕ) (t : Fin cfg0.N), t.val = n → t.val % 4 ≤ 2 → Holds m c t.val t.isLt (rowOf t) (t.val % 4 + 1) := by
  intro n
  induction n with
  | zero => exact fun t ht h2 => first m c t (by omega)
  | succ n ih =>
    intro t ht h2
    by_cases h0 : t.val % 4 = 0
    · exact first m c t h0
    · have hp : t.val - 1 < cfg0.N := Nat.lt_of_le_of_lt (Nat.sub_le _ _) t.isLt
      refine middle m c t hp h0 h2 ?_
      have hr : rowOf ⟨t.val - 1, hp⟩ = rowOf t := funext fun r => Fin.ext (by
        show 512 * ((t.val - 1) / 4) + r.val = 512 * (t.val / 4) + r.val
        omega)
      have hn : (t.val - 1) % 4 + 1 = t.val % 4 := by omega
      have h := ih ⟨t.val - 1, hp⟩ (by show t.val - 1 = n; omega) (by show (t.val - 1) % 4 ≤ 2; omega)
      rw [hr] at h
      exact hn ▸ h

/-- The output leaves its block at a row block's last point. -/
theorem flush15 : ∀ t : Fin cfg0.N, (cfg0.win 15).flush t = true → t.val % 4 = 3 :=
  (by decide +kernel : ∀ t : Fin grid0.N, _)

set_option maxHeartbeats 1000000 in
/-- The output array. -/
theorem out_array (c : Dev nD) :
    (dats m 0 c).arrAt 15 cfg0.N = mixG (V m c main_v0) (V m c main_v1) (V m c main_v2) (V m c main_v3) (V m c main_v4) (V m c main_v6) (V m c main_v7)
      (V m c main_arg7) (V m c main_v8) (V m c main_v9) (V m c main_v10) := by
  refine (dats m 0 c).arrAt_eq_of_covers 15 _ (by decide +kernel) fun t hf y => ?_
  have ht : t.val % 4 = 3 := flush15 t hf
  blk_simp
  rw [after0_15]
  have hp : t.val - 1 < cfg0.N := Nat.lt_of_le_of_lt (Nat.sub_le _ _) t.isLt
  have e0 : ((win0_15.blk t).view.emb y : S32768x2048.Idx) = ix2 (rowOf t (y 0)) (y 1) := by unfold rowOf; blk_ext [idx t]
  rw [e0]
  have hr : rowOf ⟨t.val - 1, hp⟩ = rowOf t := funext fun r => Fin.ext (by
    show 512 * ((t.val - 1) / 4) + r.val = 512 * (t.val / 4) + r.val
    omega)
  have hs := sweep m c (t.val - 1) ⟨t.val - 1, hp⟩ rfl (by show (t.val - 1) % 4 ≤ 2; omega) (y 0)
  have hn : (t.val - 1) % 4 + 1 = 3 := by omega
  rw [hr] at hs
  refine (out_C m c t (by omega) (by omega) ht y).trans ?_
  refine congrArg₂ res ((congrArg (iblk m c 0 t) (eq_ix2 y)).trans (rd0 m c t (y 0) (y 1))) ?_
  refine congrArg₂ (fun w h => nrm w h (y 1)) (funext fun n => ?_) (funext fun k => rd14 m c t k)
  refine (congrArg₂ (fun a b : EReal => a + b) ((hs.2.2 n).trans (congrArg (fun a => psum m c (rowOf t (y 0)) a n) hn))
    ((chunk_at m c t _ _ (y 0) n).trans ((congrArg₂ (fun u v => vpart m c u v (rowOf t (y 0)) (t.val % 4) n) (funext hs.1) (funext hs.2.1)).trans
      (congrArg (fun j => vpart m c (xrow m c (rowOf t (y 0))) (vrow m c (rowOf t (y 0))) (rowOf t (y 0)) j n) ht)))).trans ?_
  exact (Finset.sum_range_succ _ 3).symm

end Cert.MixIdeal.MixArr
-- ==== Proof.MixEq.lean ====
module

public import proofs.«01_k».proof.Proof.MixArr
public import proofs.«01_k».proof.Proof.Gen.MixReferenceIdeal.Run
public import proofs.«01_k».proof.Proof.Gen.MixReferenceIdeal.Read
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem Idealize.ShloMosaic.StableHlo

/-! # The mixer's output call equal to its reference -/

namespace Cert.MixIdeal.MixEq

open Cert.MixIdeal Cert.MixIdeal.Gen Cert.Attn Cert.MixIdeal.MixBlock Cert.MixIdeal.MixArr

/-- A gate's column in the whole input projection. -/
def off (f : Fin 4096) : Fin 8512 := ⟨4416 + f.val, by omega⟩

section Host

variable (V : Valuation τ sig (Elt Ideal))

theorem v0_at (b : Fin 8) (s : Fin 4096) (k : Fin 2048) :
    after hostOps0 V (Proc.devRef .tc main_v0) (ix2 (⟨4096 * b.val + s.val, by omega⟩ : Fin 32768) k) = V (Proc.devRef .tc main_arg0) (ix3 b s k) := by
  after_reads_at

theorem v1_at (b : Fin 8) (s : Fin 4096) (k : Fin 2048) :
    after hostOps0 V (Proc.devRef .tc main_v1) (ix2 (⟨4096 * b.val + s.val, by omega⟩ : Fin 32768) k) = V (Proc.devRef .tc main_arg1) (ix3 b s k) := by
  after_reads_at

theorem v2_at (b : Fin 8) (s : Fin 4096) (k : Fin 1024) :
    after hostOps0 V (Proc.devRef .tc main_v2) (ix2 (⟨4096 * b.val + s.val, by omega⟩ : Fin 32768) k) = V (Proc.devRef .tc main_arg2) (ix3 b s k) := by
  after_reads_at

theorem v3_at (b : Fin 8) (s : Fin 4096) (k : Fin 1024) :
    after hostOps0 V (Proc.devRef .tc main_v3) (ix2 (⟨4096 * b.val + s.val, by omega⟩ : Fin 32768) k) = V (Proc.devRef .tc main_arg3) (ix3 b s k) := by
  after_reads_at

theorem v4_at (k : Fin 2048) : after hostOps0 V (Proc.devRef .tc main_v4) (ix2 (0 : Fin 1) k) = V (Proc.devRef .tc main_arg4) (ix1 k) := by
  after_reads_at

theorem v6_at (k : Fin 2048) (f : Fin 4096) : after hostOps0 V (Proc.devRef .tc main_v6) (ix2 k f) = V (Proc.devRef .tc main_arg5) (ix2 k (off f)) := by
  unfold off
  after_reads_at

theorem v7_at (f : Fin 4096) : after hostOps0 V (Proc.devRef .tc main_v7) (ix2 (0 : Fin 1) f) = V (Proc.devRef .tc main_arg6) (ix1 f) := by
  after_reads_at

theorem v8_at (k : Fin 1024) (n : Fin 2048) : after hostOps0 V (Proc.devRef .tc main_v8) (ix2 k n) = V (Proc.devRef .tc main_arg8) (ix2 k n) := by
  after_reads_at

theorem v9_at (k : Fin 2048) (n : Fin 2048) : after hostOps0 V (Proc.devRef .tc main_v9) (ix2 k n) = V (Proc.devRef .tc main_arg9) (ix2 k n) := by
  after_reads_at

theorem v10_at (k : Fin 2048) : after hostOps0 V (Proc.devRef .tc main_v10) (ix2 (0 : Fin 1) k) = V (Proc.devRef .tc main_arg10) (ix1 k) := by
  after_reads_at

end Host

/-- Four chunks of 512 features are all of them. -/
theorem sum_chunks (F : Fin 2048 → EReal) : ∑ j ∈ Finset.range 4, ∑ f : Fin 512, F (at2048 j f) = ∑ f, F f := by
  rw [Finset.sum_range (fun j => ∑ f : Fin 512, F (at2048 j f)), ← Fintype.sum_prod_type' (fun (j : Fin 4) (f : Fin 512) => F (at2048 j f)),
    ← Equiv.sum_comp (finProdFinEquiv : Fin 4 × Fin 512 ≃ Fin 2048) F]
  refine Finset.sum_congr rfl fun p _ => congrArg F (Fin.ext ?_)
  show 512 * min p.1.val 3 + p.2.val = p.2.val + 512 * p.1.val
  have := p.1.isLt
  omega

/-- One mixed feature of a token, over the gates' two column ranges. -/
def mfeat (u : Fin 2048 → EReal) (v : Fin 1024 → EReal) (a : Fin 2048 → EReal) (W : Fin 2048 → Fin 4096 → EReal) (b : Fin 4096 → EReal) (C : Fin 1024 → Fin 2048 → EReal)
    (f : Fin 2048) : EReal :=
  feat u v (a f) (fun k => W k (acol f)) (fun k => W k (ccol f)) (b (acol f)) (b (ccol f)) (fun k => C k f)

/-- One row of the mixer before its second normalisation, over all features. -/
def mix (u : Fin 2048 → EReal) (v : Fin 1024 → EReal) (a : Fin 2048 → EReal) (W : Fin 2048 → Fin 4096 → EReal) (b : Fin 4096 → EReal) (C : Fin 1024 → Fin 2048 → EReal)
    (O : Fin 2048 → Fin 2048 → EReal) (n : Fin 2048) : EReal :=
  ∑ f, mfeat u v a W b C f * O f n

/-- One row of the result. -/
def mrow (h g : Fin 2048 → EReal) (v : Fin 1024 → EReal) (a : Fin 2048 → EReal) (W : Fin 2048 → Fin 4096 → EReal) (b : Fin 4096 → EReal) (C : Fin 1024 → Fin 2048 → EReal)
    (O : Fin 2048 → Fin 2048 → EReal) (p : Fin 2048 → EReal) (n : Fin 2048) : EReal :=
  res (h n) (nrm (mix (nrm h g) v a W b C O) p n)

theorem mrow_congr {h h' g g' : Fin 2048 → EReal} {v v' : Fin 1024 → EReal} {a a' : Fin 2048 → EReal} {W W' : Fin 2048 → Fin 4096 → EReal} {b b' : Fin 4096 → EReal}
    {C C' : Fin 1024 → Fin 2048 → EReal} {O O' : Fin 2048 → Fin 2048 → EReal} {p p' : Fin 2048 → EReal} (eh : h = h') (eg : g = g') (ev : v = v') (ea : a = a') (eW : W = W')
    (eb : b = b') (eC : C = C') (eO : O = O') (ep : p = p') (n : Fin 2048) : mrow h g v a W b C O p n = mrow h' g' v' a' W' b' C' O' p' n := by
  subst eh eg ev ea eW eb eC eO ep
  rfl

theorem mixG_at (H : Vec Ideal S32768x2048 .f32) (A : Vec Ideal S32768x2048 .bf16) (B P : Vec Ideal S32768x1024 .bf16) (g : Vec Ideal S1x2048 .f32)
    (W : Vec Ideal S2048x4096 .bf16) (b : Vec Ideal S1x4096 .f32) (w : Vec Ideal S3x1024 .f32) (C : Vec Ideal S1024x2048 .bf16) (O : Vec Ideal S2048x2048 .bf16)
    (p : Vec Ideal S1x2048 .f32) (q : Fin 32768) (n : Fin 2048) :
    mixG H A B P g W b w C O p (ix2 q n)
      = mrow (fun k => H (ix2 q k)) (fun k => g (ix2 0 k)) (crow B P w q) (fun k => A (ix2 q k)) (fun k f => W (ix2 k f)) (fun f => b (ix2 0 f)) (fun k f => C (ix2 k f))
          (fun f n => O (ix2 f n)) (fun k => p (ix2 0 k)) n :=
  congrArg (fun z => res (H (ix2 q n)) (nrm z (fun k => p (ix2 0 k)) n)) (funext fun n =>
    sum_chunks (fun f => mfeat (nrm (fun k => H (ix2 q k)) (fun k => g (ix2 0 k))) (crow B P w q) (fun k => A (ix2 q k)) (fun k f => W (ix2 k f)) (fun f => b (ix2 0 f))
      (fun k f => C (ix2 k f)) f * O (ix2 f n)))

/-- The position before. -/
def befs (s : Fin 4096) : Fin 4096 := ⟨s.val - 1, by omega⟩

/-- The position after. -/
def afts (s : Fin 4096) : Fin 4096 := ⟨min (s.val + 1) 4095, by omega⟩

/-- The convolved row of a sequence's position. -/
def srow (B P : Vec Ideal S8x4096x1024 .bf16) (w : Vec Ideal S3x1024 .f32) (b : Fin 8) (s : Fin 4096) (c : Fin 1024) : EReal :=
  tap (B (ix3 b s c)) (if s.val = 0 then 0 else P (ix3 b (befs s) c)) (P (ix3 b s c)) (if s.val = 4095 then 0 else P (ix3 b (afts s) c))
    (w (ix2 0 c)) (w (ix2 1 c)) (w (ix2 2 c))

/-- The tokens' convolved rows are the sequences'. -/
theorem crow_eq (B P : Vec Ideal S32768x1024 .bf16) (B' P' : Vec Ideal S8x4096x1024 .bf16) (w w' : Vec Ideal S3x1024 .f32)
    (eB : ∀ (b : Fin 8) (s : Fin 4096) (c : Fin 1024), B (ix2 (⟨4096 * b.val + s.val, by omega⟩ : Fin 32768) c) = B' (ix3 b s c))
    (eP : ∀ (b : Fin 8) (s : Fin 4096) (c : Fin 1024), P (ix2 (⟨4096 * b.val + s.val, by omega⟩ : Fin 32768) c) = P' (ix3 b s c)) (ew : w = w') (b : Fin 8) (s : Fin 4096) (c : Fin 1024) :
    crow B P w (⟨4096 * b.val + s.val, by omega⟩ : Fin 32768) c = srow B' P' w' b s c := by
  subst ew
  refine tap_congr (eB b s c) ?_ (eP b s c) ?_ rfl rfl rfl
  · by_cases h : s.val = 0
    · rw [if_pos h, if_pos (show (4096 * b.val + s.val) % 4096 = 0 by omega)]
    · rw [if_neg h, if_neg (show ¬(4096 * b.val + s.val) % 4096 = 0 by omega), ← eP]
      refine congrArg (fun q => P (ix2 q c)) (Fin.ext ?_)
      show 4096 * b.val + s.val - 1 = 4096 * b.val + (s.val - 1)
      omega
  · by_cases h : s.val = 4095
    · rw [if_pos h, if_pos (show (4096 * b.val + s.val) % 4096 = 4095 by omega)]
    · rw [if_neg h, if_neg (show ¬(4096 * b.val + s.val) % 4096 = 4095 by omega), ← eP]
      refine congrArg (fun q => P (ix2 q c)) (Fin.ext ?_)
      show min (4096 * b.val + s.val + 1) 32767 = 4096 * b.val + min (s.val + 1) 4095
      omega

end Cert.MixIdeal.MixEq

namespace Cert.MixReferenceIdeal.MixRef

open Cert.MixReferenceIdeal Cert.MixReferenceIdeal.Gen Cert.MixReferenceIdeal.Value Cert.MixReferenceIdeal.Read Cert.Attn Cert.MixIdeal.MixBlock
  Cert.MixIdeal.MixArr Cert.MixIdeal.MixEq

variable (x0 : Vec Ideal S8x4096x2048 .f32) (x1 : Vec Ideal S8x4096x2048 .bf16) (x2 x3 : Vec Ideal S8x4096x1024 .bf16) (x4 : Vec Ideal S2048 .f32)
  (x5 : Vec Ideal S2048x8512 .f32) (x6 : Vec Ideal S4096 .f32) (x7 : Vec Ideal S3x1024 .f32) (x8 : Vec Ideal S1024x2048 .f32) (x9 : Vec Ideal S2048x2048 .f32)
  (x10 : Vec Ideal S2048 .f32)

/-- The normalised row of a token. -/
abbrev xr (b : Fin 8) (s : Fin 4096) : Fin 2048 → EReal := nrm (fun k => x0 (ix3 b s k)) (fun k => x4 (ix1 k))

theorem n_at (b : Fin 8) (s : Fin 4096) (k : Fin 2048) : val_main_v15 x0 x4 (ix3 b s k) = xr x0 x4 b s k := by
  unfold xr nrm rms
  pointwise [val_main_v15, val_main_v14, val_main_v13, val_main_v12, val_main_v11, val_main_v10, val_main_v9, val_main_v8, val_main_v7, val_main_v6, val_main_v5, val_main_v4, val_main_v3, val_main_cst, val_main_cst_0, val_main_cst_1]

theorem z_at (b : Fin 8) (s : Fin 4096) (f : Fin 8512) : val_main_v16 x0 x4 x5 (ix3 b s f) = ∑ k, xr x0 x4 b s k * x5 (ix2 k f) := by
  simp only [← n_at]
  pointwise [val_main_v16]

set_option maxHeartbeats 1000000 in
/-- A gate. -/
theorem g_at (b : Fin 8) (s : Fin 4096) (f : Fin 4096) :
    val_main_v26 x0 x4 x5 x6 (ix3 b s f) = sg (∑ k, xr x0 x4 b s k * x5 (ix2 k (off f)) + x6 (ix1 f)) := by
  unfold sg off
  simp only [← z_at]
  pointwise [val_main_v26, val_main_v25, val_main_v24, val_main_v23, val_main_v22, val_main_v21, val_main_v20, val_main_v19, val_main_v18, val_main_v17, val_main_cst_2, val_main_cst_3]
  rw [zero_sub]

/-- The padded sequence inside. -/
theorem pad_in (b : Fin 8) (t : Fin 4098) (s : Fin 4096) (h : t.val = 1 + s.val) (c : Fin 1024) : val_main_v29 (F := Ideal) x3 (ix3 b t c) = x3 (ix3 b s c) := by
  unfold val_main_v29
  refine (pad_apply_of_inside _ _ _ (val_main_v2 (F := Ideal) x3) _ _ _ (ix3 b t c) (ix3 b s c) fun a => ?_).trans rfl
  match a with
  | ⟨0, _⟩ => show b.val = 0 + b.val * (0 + 1); omega
  | ⟨1, _⟩ => show t.val = 1 + s.val * (0 + 1); omega
  | ⟨2, _⟩ => show c.val = 0 + c.val * (0 + 1); omega

/-- The padded sequence's two ends. -/
theorem pad_out (b : Fin 8) (t : Fin 4098) (h : t.val = 0 ∨ t.val = 4097) (c : Fin 1024) : val_main_v29 (F := Ideal) x3 (ix3 b t c) = (0 : EReal) := by
  unfold val_main_v29
  refine (pad_apply_of_not_inside _ _ _ (val_main_v2 (F := Ideal) x3) _ _ _ (ix3 b t c) (1 : Fin 3) ?_).trans ?_
  · show ¬(1 ≤ t.val ∧ (t.val - 1) % (0 + 1) = 0 ∧ (t.val - 1) / (0 + 1) < 4096)
    omega
  · pointwise [val_main_call0_v0, val_main_c]
    show (((0#32 : BitVec 32).toInt : ℝ) : EReal) = 0
    simp

theorem l_at (b : Fin 8) (s : Fin 4096) (c : Fin 1024) : val_main_v30 (F := Ideal) x3 (ix3 b s c) = (if s.val = 0 then 0 else x3 (ix3 b (befs s) c) : EReal) := by
  refine (val_main_v30_apply (F := Ideal) x3 (ix3 b s c)).trans ?_
  have e : idx_main_v30 (ix3 b s c) = ix3 b (⟨s.val, by omega⟩ : Fin 4098) c := eq_ix3 _
  rw [e]
  by_cases h : s.val = 0
  · rw [if_pos h]
    exact pad_out x3 b _ (Or.inl h) c
  · rw [if_neg h]
    exact pad_in x3 b _ (befs s) (by show s.val = 1 + (s.val - 1); omega) c

theorem m_at (b : Fin 8) (s : Fin 4096) (c : Fin 1024) : val_main_v36 (F := Ideal) x3 (ix3 b s c) = x3 (ix3 b s c) := by
  refine (val_main_v36_apply (F := Ideal) x3 (ix3 b s c)).trans ?_
  have e : idx_main_v36 (ix3 b s c) = ix3 b (⟨1 + s.val, by omega⟩ : Fin 4098) c := eq_ix3 _
  rw [e]
  exact pad_in x3 b _ s rfl c

theorem r_at (b : Fin 8) (s : Fin 4096) (c : Fin 1024) : val_main_v43 (F := Ideal) x3 (ix3 b s c) = (if s.val = 4095 then 0 else x3 (ix3 b (afts s) c) : EReal) := by
  refine (val_main_v43_apply (F := Ideal) x3 (ix3 b s c)).trans ?_
  have e : idx_main_v43 (ix3 b s c) = ix3 b (⟨2 + s.val, by omega⟩ : Fin 4098) c := eq_ix3 _
  rw [e]
  by_cases h : s.val = 4095
  · rw [if_pos h]
    exact pad_out x3 b _ (Or.inr (by show 2 + s.val = 4097; omega)) c
  · rw [if_neg h]
    exact pad_in x3 b _ (afts s) (by show 2 + s.val = 1 + min (s.val + 1) 4095; omega) c

/-- The convolved row. -/
theorem c_at (b : Fin 8) (s : Fin 4096) (c : Fin 1024) : val_main_v50 x2 x3 x7 (ix3 b s c) = srow x2 x3 x7 b s c := by
  unfold srow tap
  rw [← l_at, ← r_at, ← m_at x3 b s c]
  pointwise [val_main_v50, val_main_v49, val_main_v48, val_main_v47, val_main_v46, val_main_v45, val_main_v44, val_main_v42, val_main_v41, val_main_v40, val_main_v39, val_main_v38, val_main_v37, val_main_v35, val_main_v34, val_main_v33, val_main_v32, val_main_v31, val_main_v1]

theorem o_at (b : Fin 8) (s : Fin 4096) (f : Fin 2048) : val_main_v51 x2 x3 x7 x8 (ix3 b s f) = ∑ k, srow x2 x3 x7 b s k * x8 (ix2 k f) := by
  simp only [← c_at]
  pointwise [val_main_v51]

set_option maxHeartbeats 1000000 in
/-- A mixed feature. -/
theorem f_at (b : Fin 8) (s : Fin 4096) (f : Fin 2048) :
    val_main_v54 x0 x1 x2 x3 x4 x5 x6 x7 x8 (ix3 b s f)
      = mfeat (xr x0 x4 b s) (srow x2 x3 x7 b s) (fun k => x1 (ix3 b s k)) (fun k f => x5 (ix2 k (off f))) (fun f => x6 (ix1 f)) (fun k f => x8 (ix2 k f)) f := by
  unfold mfeat feat mixd
  rw [← g_at x0 x4 x5 x6 b s (acol f), ← g_at x0 x4 x5 x6 b s (ccol f), ← o_at]
  unfold acol ccol
  pointwise [val_main_v54, val_main_v53, val_main_v52, val_main_v28, val_main_v27, val_main_v0]

theorem y_at (b : Fin 8) (s : Fin 4096) (n : Fin 2048) :
    val_main_v55 x0 x1 x2 x3 x4 x5 x6 x7 x8 x9 (ix3 b s n)
      = mix (xr x0 x4 b s) (srow x2 x3 x7 b s) (fun k => x1 (ix3 b s k)) (fun k f => x5 (ix2 k (off f))) (fun f => x6 (ix1 f)) (fun k f => x8 (ix2 k f))
          (fun f n => x9 (ix2 f n)) n := by
  unfold mix
  simp only [← f_at]
  pointwise [val_main_v55]

set_option maxHeartbeats 1000000 in
theorem out_at (b : Fin 8) (s : Fin 4096) (n : Fin 2048) :
    val_main_v70 x0 x1 x2 x3 x4 x5 x6 x7 x8 x9 x10 (ix2 (⟨4096 * b.val + s.val, by omega⟩ : Fin 32768) n)
      = mrow (fun k => x0 (ix3 b s k)) (fun k => x4 (ix1 k)) (srow x2 x3 x7 b s) (fun k => x1 (ix3 b s k)) (fun k f => x5 (ix2 k (off f))) (fun f => x6 (ix1 f))
          (fun k f => x8 (ix2 k f)) (fun f n => x9 (ix2 f n)) (fun k => x10 (ix1 k)) n := by
  unfold mrow res
  rw [← funext (y_at x0 x1 x2 x3 x4 x5 x6 x7 x8 x9 b s)]
  unfold nrm rms
  pointwise [val_main_v70, val_main_v69, val_main_v68, val_main_v67, val_main_v66, val_main_v65, val_main_v64, val_main_v63, val_main_v62, val_main_v61, val_main_v60, val_main_v59, val_main_v58, val_main_v57, val_main_v56, val_main_cst_4, val_main_cst_5, val_main_cst_6]

end Cert.MixReferenceIdeal.MixRef
-- ==== Proof.MixClaims.lean ====
module

public import proofs.«01_k».proof.Defs
public import proofs.«01_k».proof.Proof.Gen.Mix.Frame
public import proofs.«01_k».proof.Proof.MixEq
public import Idealize.ShloMosaic.Adequacy
public import Idealize.ShloMosaic.Init

@[expose] public section

set_option maxRecDepth 16384

noncomputable section

open Idealize.ShloMosaic Idealize.ShloMosaic.TcCoe Idealize.SL.Sem Idealize.ShloMosaic.StableHlo

/-! # The claims of the mixer's output call -/

namespace Cert.MixClaims

open Cert.Attn

section

open Cert.MixIdeal Cert.MixIdeal.Gen Cert.MixIdeal.MixBlock Cert.MixIdeal.MixArr Cert.MixIdeal.MixEq

variable (m : (ℓ : Loc nD τ sig) → Buf (Elt Ideal) ℓ) (c : Dev nD)

/-- The kernel's result, from the program's arguments. -/
theorem kernel_at (b : Fin 8) (s : Fin 4096) (n : Fin 2048) :
    (dats m 0 c).arrAt 15 cfg0.N (ix2 (⟨4096 * b.val + s.val, by omega⟩ : Fin 32768) n)
      = mrow (fun k => m ((c : Thread nD τ).loc main_arg0) (ix3 b s k)) (fun k => m ((c : Thread nD τ).loc main_arg4) (ix1 k))
          (srow (m ((c : Thread nD τ).loc main_arg2)) (m ((c : Thread nD τ).loc main_arg3)) (m ((c : Thread nD τ).loc main_arg7)) b s)
          (fun k => m ((c : Thread nD τ).loc main_arg1) (ix3 b s k)) (fun k f => m ((c : Thread nD τ).loc main_arg5) (ix2 k (off f))) (fun f => m ((c : Thread nD τ).loc main_arg6) (ix1 f))
          (fun k f => m ((c : Thread nD τ).loc main_arg8) (ix2 k f)) (fun f n => m ((c : Thread nD τ).loc main_arg9) (ix2 f n)) (fun k => m ((c : Thread nD τ).loc main_arg10) (ix1 k)) n := by
  rw [out_array m c]
  refine (mixG_at _ _ _ _ _ _ _ _ _ _ _ _ n).trans ?_
  have e0 : (fun k => V m c main_v0 (ix2 (⟨4096 * b.val + s.val, by omega⟩ : Fin 32768) k)) = fun k : Fin 2048 => m ((c : Thread nD τ).loc main_arg0) (ix3 b s k) :=
    funext fun k => v0_at _ b s k
  have e1 : (fun k => V m c main_v1 (ix2 (⟨4096 * b.val + s.val, by omega⟩ : Fin 32768) k)) = fun k : Fin 2048 => m ((c : Thread nD τ).loc main_arg1) (ix3 b s k) :=
    funext fun k => v1_at _ b s k
  have e2 : crow (V m c main_v2) (V m c main_v3) (V m c main_arg7) (⟨4096 * b.val + s.val, by omega⟩ : Fin 32768) = srow (m ((c : Thread nD τ).loc main_arg2)) (m ((c : Thread nD τ).loc main_arg3)) (m ((c : Thread nD τ).loc main_arg7)) b s :=
    funext fun k => crow_eq (V m c main_v2) (V m c main_v3) (m ((c : Thread nD τ).loc main_arg2)) (m ((c : Thread nD τ).loc main_arg3)) (V m c main_arg7) (m ((c : Thread nD τ).loc main_arg7)) (fun b s k => v2_at _ b s k) (fun b s k => v3_at _ b s k) (V_main_arg7 m c) b s k
  have e4 : (fun k => V m c main_v4 (ix2 0 k)) = fun k : Fin 2048 => m ((c : Thread nD τ).loc main_arg4) (ix1 k) := funext fun k => v4_at _ k
  have e6 : (fun k f => V m c main_v6 (ix2 k f)) = fun (k : Fin 2048) (f : Fin 4096) => m ((c : Thread nD τ).loc main_arg5) (ix2 k (off f)) :=
    funext fun k => funext fun f => v6_at _ k f
  have e7 : (fun f => V m c main_v7 (ix2 0 f)) = fun f : Fin 4096 => m ((c : Thread nD τ).loc main_arg6) (ix1 f) := funext fun f => v7_at _ f
  have e8 : (fun k f => V m c main_v8 (ix2 k f)) = fun (k : Fin 1024) (f : Fin 2048) => m ((c : Thread nD τ).loc main_arg8) (ix2 k f) :=
    funext fun k => funext fun f => v8_at _ k f
  have e9 : (fun f n => V m c main_v9 (ix2 f n)) = fun (f : Fin 2048) (n : Fin 2048) => m ((c : Thread nD τ).loc main_arg9) (ix2 f n) :=
    funext fun f => funext fun n => v9_at _ f n
  have e10 : (fun k => V m c main_v10 (ix2 0 k)) = fun k : Fin 2048 => m ((c : Thread nD τ).loc main_arg10) (ix1 k) := funext fun k => v10_at _ k
  exact mrow_congr e0 e4 e2 e1 e6 e7 e8 e9 e10 n

/-- The two results are the same. -/
theorem same :
    Cert.MixReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) = (dats m 0 c).arrAt 15 cfg0.N := by
  funext i
  obtain ⟨t, n, rfl⟩ : ∃ (t : Fin 32768) (n : Fin 2048), i = ix2 t n := ⟨_, _, eq_ix2 i⟩
  obtain ⟨b, s, rfl⟩ : ∃ (b : Fin 8) (s : Fin 4096), t = (⟨4096 * b.val + s.val, by omega⟩ : Fin 32768) :=
    ⟨⟨t.val / 4096, by omega⟩, ⟨t.val % 4096, by omega⟩, Fin.ext (by show t.val = 4096 * (t.val / 4096) + t.val % 4096; omega)⟩
  exact (Cert.MixReferenceIdeal.MixRef.out_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b s n).trans (kernel_at m c b s n).symm

variable (ρ : Dev nD → PrngReg)

/-- Every run leaves the swept array as the result and the arguments as they were. -/
theorem run : θ_run (defs (F := Ideal)) (onTc (τ := τ) (main (F := Ideal))) ⟨m, fun _ => 0, ρ⟩ fun r => ∀ c : Dev nD,
      r.2.mem ((c : Thread nD τ).loc main_v11) = (dats m 0 c).arrAt 15 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c =>
    have kept (a : Ref sig .tc) (ha : a ∈ Pipeline.restRefs sig spec0) (e : V m c a = m ((c : Thread nD τ).loc a)) : r.2.mem ((c : Thread nD τ).loc a) = m ((c : Thread nD τ).loc a) :=
      ((h c).2 a ha).trans e
    ⟨(h c).1 15,
      kept main_arg0 (Pipeline.mem_restRefs_of main_arg0 (by decide) (by decide)) (V_main_arg0 m c),
      kept main_arg1 (Pipeline.mem_restRefs_of main_arg1 (by decide) (by decide)) (V_main_arg1 m c),
      kept main_arg2 (Pipeline.mem_restRefs_of main_arg2 (by decide) (by decide)) (V_main_arg2 m c),
      kept main_arg3 (Pipeline.mem_restRefs_of main_arg3 (by decide) (by decide)) (V_main_arg3 m c),
      kept main_arg4 (Pipeline.mem_restRefs_of main_arg4 (by decide) (by decide)) (V_main_arg4 m c),
      kept main_arg5 (Pipeline.mem_restRefs_of main_arg5 (by decide) (by decide)) (V_main_arg5 m c),
      kept main_arg6 (Pipeline.mem_restRefs_of main_arg6 (by decide) (by decide)) (V_main_arg6 m c),
      ((h c).1 11).trans (((dats m 0 c).arrAt_in 11 rfl _).trans ((A_eq m c 11).trans (V_main_arg7 m c))),
      kept main_arg8 (Pipeline.mem_restRefs_of main_arg8 (by decide) (by decide)) (V_main_arg8 m c),
      kept main_arg9 (Pipeline.mem_restRefs_of main_arg9 (by decide) (by decide)) (V_main_arg9 m c),
      kept main_arg10 (Pipeline.mem_restRefs_of main_arg10 (by decide) (by decide)) (V_main_arg10 m c)⟩) (run_main m ρ)

end

theorem frame_p : Cert.quiescent_Mix := fun m ρ _ => Cert.Mix.Gen.frame m ρ
theorem frame_pi : Cert.quiescent_MixIdeal := fun m ρ _ => Cert.MixIdeal.Gen.frame m ρ
theorem frame_ri : Cert.quiescent_MixReferenceIdeal := fun m ρ _ =>
  (θ_run Cert.MixReferenceIdeal.defs _ _).mono (fun r h => ⟨fun c => (h c).2, Idealize.ShloMosaic.sem_eq_zero_of_no_sems (by decide) r.2⟩)
    (Cert.MixReferenceIdeal.Value.run (F := Ideal) m ρ)

theorem preserves : Cert.preserves_Mix_MixIdeal := trivial

theorem algebraic : Cert.algebraic_MixIdeal_MixReferenceIdeal := by
  intro m ρ m' ρ' hp hagree
  refine ⟨_, run m ρ, ?_⟩
  refine (θ_run Cert.MixReferenceIdeal.defs _ _).mono (fun _ h c => ⟨(h c).1.trans ?_, (h c).2⟩) (Cert.MixReferenceIdeal.Value.run (F := Ideal) m' ρ')
  refine (Cert.MixReferenceIdeal.Read.val_main_v70_eq m' c).trans ?_
  obtain ⟨a0, a1, a2, a3, a4, a5, a6, a7, a8, a9, a10⟩ := hagree c
  rw [a0, a1, a2, a3, a4, a5, a6, a7, a8, a9, a10]
  exact same m c

end Cert.MixClaims
-- ==== Proof.PromptPoint.lean ====
module

public import proofs.«01_k».proof.Proof.FfnEq
public import proofs.«01_k».proof.Proof.Gen.PromptIdeal.Value

@[expose] public section

set_option maxRecDepth 16384

noncomputable section

open Idealize.ShloMosaic Idealize.ShloMosaic.TcCoe Idealize.SL.Sem
open Idealize.ShloMosaic.Pipeline (Dat)

/-! # What a grid point leaves in its scratch and its output, at the prompt's shape -/

namespace Cert.PromptIdeal.PromptPoint

open Cert.PromptIdeal Cert.PromptIdeal.Gen Cert.Attn Cert.FfnIdeal.FfnBlock
open Cert.FfnIdeal.FfnPoint (ld_rows)

variable (m : (ℓ : Loc nD τ sig) → Buf (Elt Ideal) ℓ)

set_option maxHeartbeats 400000 in
/-- The first chunk's point stores the normalised rows. -/
theorem xn_A (c : Dev nD) (t : Fin cfg0.N) (ha : t.val % 11 = 0) (hb : ¬(1 ≤ t.val % 11 ∧ t.val % 11 ≤ 9)) (hc : ¬t.val % 11 = 10) (y : S512x2048.Idx) :
    (outsAt0 m c t.val t.isLt).2.1 y
      = nrm (fun k => iblk m c 0 t (ix2 (y 0) k)) (fun k => iblk m c 1 t (ix2 0 k)) (y 1) := by
  rw [outsAt0_A m c t ha hb hc]
  dsimp only
  generalize iblk m c 0 t = x0
  generalize iblk m c 1 t = x1
  generalize iblk m c 2 t = x2
  generalize iblk m c 3 t = x3
  generalize iblk m c 4 t = x4
  generalize iblk m c 5 t = x5
  frame_out
  canon_tiles x h using (View.cover_of_tiledBy _ ![256, 2048] (by sl_kernel_rfl) y)
  · have e1 : y 1 = (x 1 : Fin 2048) := Fin.ext h1
    have r0 : ∀ k : Fin 2048, View.ld x0 (Rect.unit ![256, 0] ![256, 2048] inb_S512x2048_S256x2048_256_0) (ix2 (x 0 : Fin 256) k) = x0 (ix2 (y 0) k) := fun k =>
      ld_rows x0 256 _ _ _ _ h0
    refine (pay10_at (View.ld x0 (Rect.unit ![256, 0] ![256, 2048] inb_S512x2048_S256x2048_256_0)) x1 x).trans ?_
    rw [e1]
    exact congrArg (fun f => nrm f _ _) (funext r0)
  · have e1 : y 1 = (x 1 : Fin 2048) := Fin.ext h1
    have r0 : ∀ k : Fin 2048, View.ld x0 (Rect.unit ![0, 0] ![256, 2048] inb_S512x2048_S256x2048_0_0) (ix2 (x 0 : Fin 256) k) = x0 (ix2 (y 0) k) := fun k =>
      ld_rows x0 0 _ _ _ _ (h0.trans (Nat.zero_add _).symm)
    refine (pay5_at (View.ld x0 (Rect.unit ![0, 0] ![256, 2048] inb_S512x2048_S256x2048_0_0)) x1 x).trans ?_
    rw [e1]
    exact congrArg (fun f => nrm f _ _) (funext r0)

set_option maxHeartbeats 400000 in
/-- The first chunk's point stores the first sum. -/
theorem acc_A (c : Dev nD) (t : Fin cfg0.N) (ha : t.val % 11 = 0) (hb : ¬(1 ≤ t.val % 11 ∧ t.val % 11 ≤ 9)) (hc : ¬t.val % 11 = 10) (y : S512x2048.Idx) :
    (outsAt0 m c t.val t.isLt).2.2 y
      = chunk (nrm (fun k => iblk m c 0 t (ix2 (y 0) k)) (fun k => iblk m c 1 t (ix2 0 k))) (fun k f => iblk m c 2 t (ix2 k f))
          (fun k f => iblk m c 3 t (ix2 k f)) (fun f => iblk m c 4 t (ix2 f (y 1))) := by
  rw [outsAt0_A m c t ha hb hc]
  dsimp only
  generalize iblk m c 0 t = x0
  generalize iblk m c 1 t = x1
  generalize iblk m c 2 t = x2
  generalize iblk m c 3 t = x3
  generalize iblk m c 4 t = x4
  generalize iblk m c 5 t = x5
  frame_out
  canon_tiles x h using (View.cover_of_tiledBy _ ![256, 2048] (by sl_kernel_rfl) y)
  · have e1 : y 1 = (x 1 : Fin 2048) := Fin.ext h1
    have r0 : ∀ k : Fin 2048, View.ld x0 (Rect.unit ![256, 0] ![256, 2048] inb_S512x2048_S256x2048_256_0) (ix2 (x 0 : Fin 256) k) = x0 (ix2 (y 0) k) := fun k =>
      ld_rows x0 256 _ _ _ _ h0
    refine (pay1_at _ _ _ x).trans ?_
    rw [e1]
    refine Finset.sum_congr rfl fun f _ => ?_
    refine congrArg (· * x4 (ix2 f (x 1))) ?_
    refine (congrArg₂ (fun a b : EReal => a * b) (pay12_at _ _ _ (ix2 (x 0) f)) (pay11_at _ _ _ (ix2 (x 0) f))).trans ?_
    exact congrArg (fun r => hid (nrm r _) (fun k => x2 (ix2 k f)) (fun k => x3 (ix2 k f))) (funext r0)
  · have e1 : y 1 = (x 1 : Fin 2048) := Fin.ext h1
    have r0 : ∀ k : Fin 2048, View.ld x0 (Rect.unit ![0, 0] ![256, 2048] inb_S512x2048_S256x2048_0_0) (ix2 (x 0 : Fin 256) k) = x0 (ix2 (y 0) k) := fun k =>
      ld_rows x0 0 _ _ _ _ (h0.trans (Nat.zero_add _).symm)
    refine (pay8_at _ _ x).trans ?_
    rw [e1]
    refine Finset.sum_congr rfl fun f _ => ?_
    refine congrArg (· * x4 (ix2 f (x 1))) ?_
    refine (pay6_at _ _ _ _ (ix2 (x 0) f)).trans ?_
    exact congrArg (fun r => hid (nrm r _) (fun k => x2 (ix2 k f)) (fun k => x3 (ix2 k f))) (funext r0)

/-- A middle chunk's point leaves the normalised rows. -/
theorem xn_B (c : Dev nD) (t : Fin cfg0.N) (ha : ¬t.val % 11 = 0) (hb : 1 ≤ t.val % 11 ∧ t.val % 11 ≤ 9) (hc : ¬t.val % 11 = 10) : (outsAt0 m c t.val t.isLt).2.1 = (outsAt0 m c (t.val - 1) (Nat.lt_of_le_of_lt (Nat.sub_le _ _) t.isLt)).2.1 := by
  rw [outsAt0_B m c t ha hb hc]
  rfl

set_option maxHeartbeats 400000 in
/-- A middle chunk's point adds its sum to the accumulator. -/
theorem acc_B (c : Dev nD) (t : Fin cfg0.N) (ha : ¬t.val % 11 = 0) (hb : 1 ≤ t.val % 11 ∧ t.val % 11 ≤ 9) (hc : ¬t.val % 11 = 10) (y : S512x2048.Idx) :
    (outsAt0 m c t.val t.isLt).2.2 y
      = (outsAt0 m c (t.val - 1) (Nat.lt_of_le_of_lt (Nat.sub_le _ _) t.isLt)).2.2 y
        + chunk (fun k => (outsAt0 m c (t.val - 1) (Nat.lt_of_le_of_lt (Nat.sub_le _ _) t.isLt)).2.1 (ix2 (y 0) k)) (fun k f => iblk m c 2 t (ix2 k f))
          (fun k f => iblk m c 3 t (ix2 k f)) (fun f => iblk m c 4 t (ix2 f (y 1))) := by
  rw [outsAt0_B m c t ha hb hc]
  dsimp only
  generalize outsAt0 m c (t.val - 1) (Nat.lt_of_le_of_lt (Nat.sub_le _ _) t.isLt) = o
  generalize iblk m c 0 t = x0
  generalize iblk m c 1 t = x1
  generalize iblk m c 2 t = x2
  generalize iblk m c 3 t = x3
  generalize iblk m c 4 t = x4
  generalize iblk m c 5 t = x5
  frame_out
  simp only [read_unread_whole]
  exact pay2_at _ _ _ _ _ y

set_option maxHeartbeats 400000 in
/-- The last chunk's point stores the result. -/
theorem out_C (c : Dev nD) (t : Fin cfg0.N) (ha : ¬t.val % 11 = 0) (hb : ¬(1 ≤ t.val % 11 ∧ t.val % 11 ≤ 9)) (hc : t.val % 11 = 10) (y : S512x2048.Idx) :
    (outsAt0 m c t.val t.isLt).1 y
      = res (iblk m c 0 t y) (nrm (fun n => (outsAt0 m c (t.val - 1) (Nat.lt_of_le_of_lt (Nat.sub_le _ _) t.isLt)).2.2 (ix2 (y 0) n)
        + chunk (fun k => (outsAt0 m c (t.val - 1) (Nat.lt_of_le_of_lt (Nat.sub_le _ _) t.isLt)).2.1 (ix2 (y 0) k)) (fun k f => iblk m c 2 t (ix2 k f))
          (fun k f => iblk m c 3 t (ix2 k f)) (fun f => iblk m c 4 t (ix2 f n))) (fun k => iblk m c 5 t (ix2 0 k)) (y 1)) := by
  rw [outsAt0_C m c t ha hb hc]
  dsimp only
  generalize outsAt0 m c (t.val - 1) (Nat.lt_of_le_of_lt (Nat.sub_le _ _) t.isLt) = o
  generalize iblk m c 0 t = x0
  generalize iblk m c 1 t = x1
  generalize iblk m c 2 t = x2
  generalize iblk m c 3 t = x3
  generalize iblk m c 4 t = x4
  generalize iblk m c 5 t = x5
  frame_out
  simp only [read_unread_whole]
  canon_tiles x h using (View.cover_of_tiledBy _ ![256, 2048] (by sl_kernel_rfl) y)
  · have e1 : y 1 = (x 1 : Fin 2048) := Fin.ext h1
    have r0 : ∀ k : Fin 2048, View.ld x0 (Rect.unit ![256, 0] ![256, 2048] inb_S512x2048_S256x2048_256_0) (ix2 (x 0 : Fin 256) k) = x0 (ix2 (y 0) k) := fun k =>
      ld_rows x0 256 _ _ _ _ h0
    have hx : View.ld x0 (Rect.unit ![256, 0] ![256, 2048] inb_S512x2048_S256x2048_256_0) x = x0 y :=
      (congrArg (View.ld x0 (Rect.unit ![256, 0] ![256, 2048] inb_S512x2048_S256x2048_256_0)) (eq_ix2 x)).trans ((r0 (x 1)).trans (congrArg x0 ((congrArg (ix2 (y 0)) e1.symm).trans (eq_ix2 y).symm)))
    have hs : ∀ n : Fin 2048, (k0_pay17 (F := Ideal) (View.ld o.2.2 (Rect.unit ![256, 0] ![256, 2048] inb_S512x2048_S256x2048_256_0)) (View.ld o.2.1 (Rect.unit ![256, 0] ![256, 2048] inb_S512x2048_S256x2048_256_0)) x2 x3 x4 : FVec Ideal S256x2048 .f32) (ix2 (x 0 : Fin 256) n)
        = o.2.2 (ix2 (y 0) n) + chunk (fun k => o.2.1 (ix2 (y 0) k)) (fun k f => x2 (ix2 k f)) (fun k f => x3 (ix2 k f)) (fun f => x4 (ix2 f n)) := fun n =>
      (pay17_at (View.ld o.2.2 (Rect.unit ![256, 0] ![256, 2048] inb_S512x2048_S256x2048_256_0)) (View.ld o.2.1 (Rect.unit ![256, 0] ![256, 2048] inb_S512x2048_S256x2048_256_0)) x2 x3 x4 (ix2 (x 0) n)).trans
        (congrArg₂ (fun a b : EReal => a + b) (ld_rows o.2.2 256 _ (x 0) n (y 0) h0)
          (congrArg (fun r => chunk r (fun k f => x2 (ix2 k f)) (fun k f => x3 (ix2 k f)) (fun f => x4 (ix2 f n)))
            (funext fun k => ld_rows o.2.1 256 _ (x 0) k (y 0) h0)))
    refine (lower_at (View.ld x0 (Rect.unit ![256, 0] ![256, 2048] inb_S512x2048_S256x2048_256_0)) x5 (View.ld o.2.2 (Rect.unit ![256, 0] ![256, 2048] inb_S512x2048_S256x2048_256_0)) (View.ld o.2.1 (Rect.unit ![256, 0] ![256, 2048] inb_S512x2048_S256x2048_256_0)) x2 x3 x4 x).trans ?_
    rw [e1]
    exact congrArg₂ res hx (congrArg (fun w => nrm w (fun k => x5 (ix2 0 k)) (x 1)) (funext hs))
  · have e1 : y 1 = (x 1 : Fin 2048) := Fin.ext h1
    have r0 : ∀ k : Fin 2048, View.ld x0 (Rect.unit ![0, 0] ![256, 2048] inb_S512x2048_S256x2048_0_0) (ix2 (x 0 : Fin 256) k) = x0 (ix2 (y 0) k) := fun k =>
      ld_rows x0 0 _ _ _ _ (h0.trans (Nat.zero_add _).symm)
    have hx : View.ld x0 (Rect.unit ![0, 0] ![256, 2048] inb_S512x2048_S256x2048_0_0) x = x0 y :=
      (congrArg (View.ld x0 (Rect.unit ![0, 0] ![256, 2048] inb_S512x2048_S256x2048_0_0)) (eq_ix2 x)).trans ((r0 (x 1)).trans (congrArg x0 ((congrArg (ix2 (y 0)) e1.symm).trans (eq_ix2 y).symm)))
    have hs : ∀ n : Fin 2048, (k0_pay17 (F := Ideal) (View.ld o.2.2 (Rect.unit ![0, 0] ![256, 2048] inb_S512x2048_S256x2048_0_0)) (View.ld o.2.1 (Rect.unit ![0, 0] ![256, 2048] inb_S512x2048_S256x2048_0_0)) x2 x3 x4 : FVec Ideal S256x2048 .f32) (ix2 (x 0 : Fin 256) n)
        = o.2.2 (ix2 (y 0) n) + chunk (fun k => o.2.1 (ix2 (y 0) k)) (fun k f => x2 (ix2 k f)) (fun k f => x3 (ix2 k f)) (fun f => x4 (ix2 f n)) := fun n =>
      (pay17_at (View.ld o.2.2 (Rect.unit ![0, 0] ![256, 2048] inb_S512x2048_S256x2048_0_0)) (View.ld o.2.1 (Rect.unit ![0, 0] ![256, 2048] inb_S512x2048_S256x2048_0_0)) x2 x3 x4 (ix2 (x 0) n)).trans
        (congrArg₂ (fun a b : EReal => a + b) (ld_rows o.2.2 0 _ (x 0) n (y 0) (h0.trans (Nat.zero_add _).symm))
          (congrArg (fun r => chunk r (fun k f => x2 (ix2 k f)) (fun k f => x3 (ix2 k f)) (fun f => x4 (ix2 f n)))
            (funext fun k => ld_rows o.2.1 0 _ (x 0) k (y 0) (h0.trans (Nat.zero_add _).symm))))
    refine (upper_at (View.ld x0 (Rect.unit ![0, 0] ![256, 2048] inb_S512x2048_S256x2048_0_0)) x5 (View.ld o.2.2 (Rect.unit ![0, 0] ![256, 2048] inb_S512x2048_S256x2048_0_0)) (View.ld o.2.1 (Rect.unit ![0, 0] ![256, 2048] inb_S512x2048_S256x2048_0_0)) x2 x3 x4 x).trans ?_
    rw [e1]
    exact congrArg₂ res hx (congrArg (fun w => nrm w (fun k => x5 (ix2 0 k)) (x 1)) (funext hs))

end Cert.PromptIdeal.PromptPoint
-- ==== Proof.PromptArr.lean ====
module

public import proofs.«01_k».proof.Proof.PromptPoint

@[expose] public section

set_option maxRecDepth 16384

noncomputable section

open Idealize.ShloMosaic Idealize.ShloMosaic.TcCoe Idealize.SL.Sem
open Idealize.ShloMosaic.Pipeline (Dat)

/-! # The feed-forward kernel's output as a whole array, at the prompt's shape -/

namespace Cert.PromptIdeal.PromptArr

open Cert.PromptIdeal Cert.PromptIdeal.Gen Cert.Attn Cert.FfnIdeal.FfnBlock Cert.PromptIdeal.PromptPoint
open Cert.FfnIdeal.FfnArr (at5632 gcol ucol part)

variable (m : (ℓ : Loc nD τ sig) → Buf (Elt Ideal) ℓ)

/-- The index maps: a point's row block is its quotient by eleven, its chunk the remainder. -/
theorem idx : ∀ t : Fin cfg0.N, win0_0.index t = ![t.val / 11, 0] ∧ win0_1.index t = ![0, 0] ∧ win0_2.index t = ![0, t.val % 11]
    ∧ win0_3.index t = ![0, t.val % 11 + 11] ∧ win0_4.index t = ![t.val % 11, 0] ∧ win0_5.index t = ![0, 0] ∧ win0_6.index t = ![t.val / 11, 0] :=
  (by decide +kernel : ∀ t : Fin grid0.N, _)

/-- The output array from the five arrays the kernel reads. -/
def promptG (X : Vec Ideal S16384x2048 .f32) (g : Vec Ideal S1x2048 .f32) (W : Vec Ideal S2048x11264 .bf16) (D : Vec Ideal S5632x2048 .bf16)
    (h : Vec Ideal S1x2048 .f32) : Vec Ideal S16384x2048 .f32 := fun i =>
  res (X i) (nrm (fun n => ∑ j ∈ Finset.range 11, part (nrm (fun k => X (ix2 (i 0) k)) (fun k => g (ix2 0 k))) W D j n) (fun k => h (ix2 0 k)) (i 1))

/-- Row `r` of the point's row block. -/
def rowOf (t : Fin cfg0.N) (r : Fin 512) : Fin 16384 :=
  ⟨512 * (t.val / 11) + r.val, by have : t.val < 352 := t.isLt; omega⟩

set_option maxHeartbeats 1000000 in
theorem rd0 (c : Dev nD) (t : Fin cfg0.N) (r : Fin 512) (k : Fin 2048) :
    iblk m c 0 t (ix2 r k) = V m c main_v0 (ix2 (rowOf t r) k) :=
  congrArg (V m c main_v0) (by unfold rowOf; blk_ext [idx t])

set_option maxHeartbeats 1000000 in
theorem rd1 (c : Dev nD) (t : Fin cfg0.N) (k : Fin 2048) : iblk m c 1 t (ix2 0 k) = V m c main_v1 (ix2 0 k) :=
  congrArg (V m c main_v1) (by blk_ext [idx t])

set_option maxHeartbeats 1000000 in
theorem rd5 (c : Dev nD) (t : Fin cfg0.N) (k : Fin 2048) : iblk m c 5 t (ix2 0 k) = V m c main_v4 (ix2 0 k) :=
  congrArg (V m c main_v4) (by blk_ext [idx t])

set_option maxHeartbeats 1000000 in
theorem rd2 (c : Dev nD) (t : Fin cfg0.N) (k : Fin 2048) (f : Fin 512) :
    iblk m c 2 t (ix2 k f) = V m c main_v2 (ix2 k (gcol (at5632 (t.val % 11) f))) := by
  have hm : min (t.val % 11) 10 = t.val % 11 := by omega
  exact congrArg (V m c main_v2) (by unfold gcol at5632; simp only [hm]; blk_ext [idx t])

set_option maxHeartbeats 1000000 in
theorem rd3 (c : Dev nD) (t : Fin cfg0.N) (k : Fin 2048) (f : Fin 512) :
    iblk m c 3 t (ix2 k f) = V m c main_v2 (ix2 k (ucol (at5632 (t.val % 11) f))) := by
  have hm : min (t.val % 11) 10 = t.val % 11 := by omega
  exact congrArg (V m c main_v2) (by unfold ucol at5632; simp only [hm]; blk_ext [idx t])

set_option maxHeartbeats 1000000 in
theorem rd4 (c : Dev nD) (t : Fin cfg0.N) (f : Fin 512) (n : Fin 2048) :
    iblk m c 4 t (ix2 f n) = V m c main_v3 (ix2 (at5632 (t.val % 11) f) n) := by
  have hm : min (t.val % 11) 10 = t.val % 11 := by omega
  exact congrArg (V m c main_v3) (by unfold at5632; simp only [hm]; blk_ext [idx t])

/-- The point's chunk, read from the arrays. -/
theorem chunk_at (c : Dev nD) (t : Fin cfg0.N) (x : Fin 2048 → EReal) (n : Fin 2048) :
    chunk x (fun k f => iblk m c 2 t (ix2 k f)) (fun k f => iblk m c 3 t (ix2 k f)) (fun f => iblk m c 4 t (ix2 f n))
      = part x (V m c main_v2) (V m c main_v3) (t.val % 11) n := by
  have e2 : (fun k f => iblk m c 2 t (ix2 k f)) = fun (k : Fin 2048) (f : Fin 512) => V m c main_v2 (ix2 k (gcol (at5632 (t.val % 11) f))) :=
    funext fun k => funext fun f => rd2 m c t k f
  have e3 : (fun k f => iblk m c 3 t (ix2 k f)) = fun (k : Fin 2048) (f : Fin 512) => V m c main_v2 (ix2 k (ucol (at5632 (t.val % 11) f))) :=
    funext fun k => funext fun f => rd3 m c t k f
  have e4 : (fun f => iblk m c 4 t (ix2 f n)) = fun (f : Fin 512) => V m c main_v3 (ix2 (at5632 (t.val % 11) f) n) :=
    funext fun f => rd4 m c t f n
  unfold part
  exact (congrArg (fun w => chunk x w _ _) e2).trans ((congrArg (fun w => chunk x _ w _) e3).trans (congrArg (fun w => chunk x _ _ w) e4))

/-- The normalised row the point works on. -/
abbrev xrow (c : Dev nD) (q : Fin 16384) : Fin 2048 → EReal :=
  nrm (fun k => V m c main_v0 (ix2 q k)) (fun k => V m c main_v1 (ix2 0 k))

theorem xrow_at (c : Dev nD) (t : Fin cfg0.N) (r : Fin 512) :
    nrm (fun k => iblk m c 0 t (ix2 r k)) (fun k => iblk m c 1 t (ix2 0 k)) = xrow m c (rowOf t r) :=
  congrArg₂ nrm (funext fun k => rd0 m c t r k) (funext fun k => rd1 m c t k)

/-- The sum of the first chunks of a row. -/
abbrev psum (c : Dev nD) (q : Fin 16384) (n : ℕ) (k : Fin 2048) : EReal :=
  ∑ j ∈ Finset.range n, part (xrow m c q) (V m c main_v2) (V m c main_v3) j k

theorem first (c : Dev nD) (t : Fin cfg0.N) (h0 : t.val % 11 = 0) (r : Fin 512) (k : Fin 2048) :
    (outsAt0 m c t.val t.isLt).2.1 (ix2 r k) = xrow m c (rowOf t r) k ∧ (outsAt0 m c t.val t.isLt).2.2 (ix2 r k) = psum m c (rowOf t r) (t.val % 11 + 1) k := by
  have hb : ¬(1 ≤ t.val % 11 ∧ t.val % 11 ≤ 9) := by omega
  have hc : ¬t.val % 11 = 10 := by omega
  refine ⟨(xn_A m c t h0 hb hc (ix2 r k)).trans (congrFun (xrow_at m c t r) k), ?_⟩
  refine (acc_A m c t h0 hb hc (ix2 r k)).trans ((chunk_at m c t _ k).trans ?_)
  refine (congrArg (fun x => part x (V m c main_v2) (V m c main_v3) (t.val % 11) k) (xrow_at m c t r)).trans ?_
  rw [h0]
  exact (Finset.sum_range_one (fun j => part (xrow m c (rowOf t r)) (V m c main_v2) (V m c main_v3) j k)).symm

theorem middle (c : Dev nD) (t : Fin cfg0.N) (hp : t.val - 1 < cfg0.N) (h0 : ¬t.val % 11 = 0) (h9 : t.val % 11 ≤ 9)
    (ih : ∀ r k, (outsAt0 m c (t.val - 1) hp).2.1 (ix2 r k) = xrow m c (rowOf t r) k ∧ (outsAt0 m c (t.val - 1) hp).2.2 (ix2 r k) = psum m c (rowOf t r) (t.val % 11) k)
    (r : Fin 512) (k : Fin 2048) :
    (outsAt0 m c t.val t.isLt).2.1 (ix2 r k) = xrow m c (rowOf t r) k ∧ (outsAt0 m c t.val t.isLt).2.2 (ix2 r k) = psum m c (rowOf t r) (t.val % 11 + 1) k := by
  have hb : 1 ≤ t.val % 11 ∧ t.val % 11 ≤ 9 := by omega
  have hc : ¬t.val % 11 = 10 := by omega
  refine ⟨(congrFun (xn_B m c t h0 hb hc) (ix2 r k)).trans (ih r k).1, ?_⟩
  refine (acc_B m c t h0 hb hc (ix2 r k)).trans ?_
  refine (congrArg₂ (fun a b : EReal => a + b) (ih r k).2
    ((chunk_at m c t _ k).trans (congrArg (fun x => part x (V m c main_v2) (V m c main_v3) (t.val % 11) k) (funext fun k => (ih r k).1)))).trans ?_
  exact (Finset.sum_range_succ _ (t.val % 11)).symm

/-- After every point but a row block's last, the scratch holds the normalised rows and the sum of the chunks so far. -/
theorem sweep (c : Dev nD) : ∀ (n : ℕ) (t : Fin cfg0.N), t.val = n → t.val % 11 ≤ 9 → ∀ (r : Fin 512) (k : Fin 2048),
    (outsAt0 m c t.val t.isLt).2.1 (ix2 r k) = xrow m c (rowOf t r) k ∧ (outsAt0 m c t.val t.isLt).2.2 (ix2 r k) = psum m c (rowOf t r) (t.val % 11 + 1) k := by
  intro n
  induction n with
  | zero => exact fun t ht h9 => first m c t (by omega)
  | succ n ih =>
    intro t ht h9
    by_cases h0 : t.val % 11 = 0
    · exact first m c t h0
    · have hp : t.val - 1 < cfg0.N := Nat.lt_of_le_of_lt (Nat.sub_le _ _) t.isLt
      refine middle m c t hp h0 h9 fun r k => ?_
      have hr : rowOf ⟨t.val - 1, hp⟩ r = rowOf t r := Fin.ext (by
        show 512 * ((t.val - 1) / 11) + r.val = 512 * (t.val / 11) + r.val
        omega)
      have hn : (t.val - 1) % 11 + 1 = t.val % 11 := by omega
      have h := ih ⟨t.val - 1, hp⟩ (by show t.val - 1 = n; omega) (by show (t.val - 1) % 11 ≤ 9; omega) r k
      rw [hr] at h
      exact ⟨h.1, h.2.trans (congrArg (fun a => psum m c (rowOf t r) a k) hn)⟩

/-- The output leaves its block at a row block's last point. -/
theorem flush6 : ∀ t : Fin cfg0.N, (cfg0.win 6).flush t = true → t.val % 11 = 10 :=
  (by decide +kernel : ∀ t : Fin grid0.N, _)

set_option maxHeartbeats 1000000 in
/-- The output array. -/
theorem out_array (c : Dev nD) :
    (dats m 0 c).arrAt 6 cfg0.N = promptG (V m c main_v0) (V m c main_v1) (V m c main_v2) (V m c main_v3) (V m c main_v4) := by
  refine (dats m 0 c).arrAt_eq_of_covers 6 _ (by decide +kernel) fun t hf y => ?_
  have ht : t.val % 11 = 10 := flush6 t hf
  blk_simp
  rw [after0_6]
  have hp : t.val - 1 < cfg0.N := Nat.lt_of_le_of_lt (Nat.sub_le _ _) t.isLt
  have e0 : ((win0_6.blk t).view.emb y : S16384x2048.Idx) = ix2 (rowOf t (y 0)) (y 1) := by unfold rowOf; blk_ext [idx t]
  rw [e0]
  have hr : ∀ r, rowOf ⟨t.val - 1, hp⟩ r = rowOf t r := fun r => Fin.ext (by
    show 512 * ((t.val - 1) / 11) + r.val = 512 * (t.val / 11) + r.val
    omega)
  have hs := sweep m c (t.val - 1) ⟨t.val - 1, hp⟩ rfl (by show (t.val - 1) % 11 ≤ 9; omega) (y 0)
  have hn : (t.val - 1) % 11 + 1 = 10 := by omega
  refine (out_C m c t (by omega) (by omega) ht y).trans ?_
  refine congrArg₂ res ((congrArg (iblk m c 0 t) (eq_ix2 y)).trans (rd0 m c t (y 0) (y 1))) ?_
  refine congrArg₂ (fun w h => nrm w h (y 1)) (funext fun n => ?_) (funext fun k => rd5 m c t k)
  refine (congrArg₂ (fun a b : EReal => a + b) ((hs n).2.trans (congrArg₂ (fun q a => psum m c q a n) (hr (y 0)) hn))
    ((chunk_at m c t _ n).trans (congrArg₂ (fun x j => part x (V m c main_v2) (V m c main_v3) j n) (funext fun k => (hs k).1.trans (congrArg (fun q => xrow m c q k) (hr (y 0)))) ht))).trans ?_
  exact (Finset.sum_range_succ _ 10).symm

end Cert.PromptIdeal.PromptArr
-- ==== Proof.PromptEq.lean ====
module

public import proofs.«01_k».proof.Proof.PromptArr
public import proofs.«01_k».proof.Proof.Gen.PromptReferenceIdeal.Run
public import proofs.«01_k».proof.Proof.Gen.PromptReferenceIdeal.Read
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem Idealize.ShloMosaic.StableHlo

/-! # The feed-forward call equal to its reference, at the prompt's shape -/

namespace Cert.PromptIdeal.PromptEq

open Cert.PromptIdeal Cert.PromptIdeal.Gen Cert.Attn Cert.FfnIdeal.FfnBlock Cert.PromptIdeal.PromptArr
open Cert.FfnIdeal.FfnArr (gcol ucol)
open Cert.FfnIdeal.FfnEq (frow parts_eq)

section Host

variable (V : Valuation τ sig (Elt Ideal))

theorem v0_at (s : Fin 16384) (k : Fin 2048) :
    after hostOps0 V (Proc.devRef .tc main_v0) (ix2 s k) = V (Proc.devRef .tc main_arg0) (ix3 0 s k) := by
  after_reads_at

theorem v1_at (k : Fin 2048) : after hostOps0 V (Proc.devRef .tc main_v1) (ix2 (0 : Fin 1) k) = V (Proc.devRef .tc main_arg1) (ix1 k) := by
  after_reads_at

theorem v2_at (k : Fin 2048) (f : Fin 11264) : after hostOps0 V (Proc.devRef .tc main_v2) (ix2 k f) = V (Proc.devRef .tc main_arg2) (ix2 k f) := by
  after_reads_at

theorem v3_at (f : Fin 5632) (n : Fin 2048) : after hostOps0 V (Proc.devRef .tc main_v3) (ix2 f n) = V (Proc.devRef .tc main_arg3) (ix2 f n) := by
  after_reads_at

theorem v4_at (k : Fin 2048) : after hostOps0 V (Proc.devRef .tc main_v4) (ix2 (0 : Fin 1) k) = V (Proc.devRef .tc main_arg4) (ix1 k) := by
  after_reads_at

end Host

theorem promptG_at (X : Vec Ideal S16384x2048 .f32) (g : Vec Ideal S1x2048 .f32) (W : Vec Ideal S2048x11264 .bf16) (D : Vec Ideal S5632x2048 .bf16)
    (h : Vec Ideal S1x2048 .f32) (q : Fin 16384) (n : Fin 2048) :
    promptG X g W D h (ix2 q n)
      = frow (fun k => X (ix2 q k)) (fun k => g (ix2 0 k)) (fun k f => W (ix2 k f)) (fun f n => D (ix2 f n)) (fun k => h (ix2 0 k)) n :=
  congrArg (fun w => res (X (ix2 q n)) (nrm w (fun k => h (ix2 0 k)) n)) (funext fun n => parts_eq _ W D n)

end Cert.PromptIdeal.PromptEq

namespace Cert.PromptReferenceIdeal.PromptRef

open Cert.PromptReferenceIdeal Cert.PromptReferenceIdeal.Gen Cert.PromptReferenceIdeal.Value Cert.PromptReferenceIdeal.Read Cert.Attn Cert.FfnIdeal.FfnBlock
open Cert.FfnIdeal.FfnArr (gcol ucol)
open Cert.FfnIdeal.FfnEq (mlp frow)

variable (x0 : Vec Ideal S1x16384x2048 .f32) (x1 : Vec Ideal S2048 .f32) (x2 : Vec Ideal S2048x11264 .f32) (x3 : Vec Ideal S5632x2048 .f32)
  (x4 : Vec Ideal S2048 .f32)

/-- The normalised row of a token. -/
abbrev xr (s : Fin 16384) : Fin 2048 → EReal := nrm (fun k => x0 (ix3 0 s k)) (fun k => x1 (ix1 k))

theorem n_at (s : Fin 16384) (k : Fin 2048) : val_main_v12 x0 x1 (ix3 0 s k) = xr x0 x1 s k := by
  unfold xr nrm rms
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem z_at (s : Fin 16384) (f : Fin 11264) : val_main_v13 x0 x1 x2 (ix3 0 s f) = ∑ k, xr x0 x1 s k * x2 (ix2 k f) := by
  simp only [← n_at]
  pointwise [val_main_v13]

set_option maxHeartbeats 1000000 in
theorem h_at (s : Fin 16384) (f : Fin 5632) :
    val_main_v17 x0 x1 x2 (ix3 0 s f) = hid (xr x0 x1 s) (fun k => x2 (ix2 k (gcol f))) (fun k => x2 (ix2 k (ucol f))) := by
  unfold hid act
  simp only [← z_at]
  pointwise [val_main_v17, val_main_v16, val_main_v15, val_main_v14, val_main_call0_v5, val_main_call0_v4, val_main_call0_v3, val_main_call0_v2, val_main_call0_v1, val_main_call0_v0, val_main_call0_cst, val_main_call0_cst_0]
  rw [zero_sub]
  rfl

theorem y_at (s : Fin 16384) (n : Fin 2048) :
    val_main_v18 x0 x1 x2 x3 (ix3 0 s n) = mlp (xr x0 x1 s) (fun k f => x2 (ix2 k f)) (fun f n => x3 (ix2 f n)) n := by
  unfold mlp
  simp only [← h_at]
  pointwise [val_main_v18]

theorem out_at (s : Fin 16384) (n : Fin 2048) :
    val_main_v35 x0 x1 x2 x3 x4 (ix2 s n)
      = frow (fun k => x0 (ix3 0 s k)) (fun k => x1 (ix1 k)) (fun k f => x2 (ix2 k f)) (fun f n => x3 (ix2 f n)) (fun k => x4 (ix1 k)) n := by
  unfold frow res
  rw [← funext (y_at x0 x1 x2 x3 s)]
  unfold nrm rms
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_cst_2, val_main_cst_3, val_main_cst_4, val_main_cst_5]

end Cert.PromptReferenceIdeal.PromptRef
-- ==== Proof.PromptClaims.lean ====
module

public import proofs.«01_k».proof.Defs
public import proofs.«01_k».proof.Proof.Gen.Prompt.Frame
public import proofs.«01_k».proof.Proof.PromptEq
public import Idealize.ShloMosaic.Adequacy
public import Idealize.ShloMosaic.Init

@[expose] public section

set_option maxRecDepth 16384

noncomputable section

open Idealize.ShloMosaic Idealize.ShloMosaic.TcCoe Idealize.SL.Sem Idealize.ShloMosaic.StableHlo

/-! # The feed-forward claims at the prompt's shape -/

namespace Cert.PromptClaims

open Cert.Attn

section

open Cert.PromptIdeal Cert.PromptIdeal.Gen Cert.PromptIdeal.PromptArr Cert.PromptIdeal.PromptEq
open Cert.FfnIdeal.FfnEq (frow)

variable (m : (ℓ : Loc nD τ sig) → Buf (Elt Ideal) ℓ) (c : Dev nD)

/-- The kernel's result, from the program's arguments. -/
theorem kernel_at (s : Fin 16384) (n : Fin 2048) :
    (dats m 0 c).arrAt 6 cfg0.N (ix2 s n)
      = frow (fun k => m ((c : Thread nD τ).loc main_arg0) (ix3 0 s k)) (fun k => m ((c : Thread nD τ).loc main_arg1) (ix1 k))
          (fun k f => m ((c : Thread nD τ).loc main_arg2) (ix2 k f)) (fun f n => m ((c : Thread nD τ).loc main_arg3) (ix2 f n))
          (fun k => m ((c : Thread nD τ).loc main_arg4) (ix1 k)) n := by
  rw [out_array m c]
  refine (promptG_at _ _ _ _ _ _ n).trans ?_
  have e0 : (fun k => V m c main_v0 (ix2 s k)) = fun k : Fin 2048 => m ((c : Thread nD τ).loc main_arg0) (ix3 0 s k) :=
    funext fun k => v0_at _ s k
  have e1 : (fun k => V m c main_v1 (ix2 0 k)) = fun k : Fin 2048 => m ((c : Thread nD τ).loc main_arg1) (ix1 k) := funext fun k => v1_at _ k
  have e2 : (fun k f => V m c main_v2 (ix2 k f)) = fun (k : Fin 2048) (f : Fin 11264) => m ((c : Thread nD τ).loc main_arg2) (ix2 k f) :=
    funext fun k => funext fun f => v2_at _ k f
  have e3 : (fun f n => V m c main_v3 (ix2 f n)) = fun (f : Fin 5632) (n : Fin 2048) => m ((c : Thread nD τ).loc main_arg3) (ix2 f n) :=
    funext fun f => funext fun n => v3_at _ f n
  have e4 : (fun k => V m c main_v4 (ix2 0 k)) = fun k : Fin 2048 => m ((c : Thread nD τ).loc main_arg4) (ix1 k) := funext fun k => v4_at _ k
  exact (congrArg (fun w => frow w _ _ _ _ n) e0).trans ((congrArg (fun w => frow _ w _ _ _ n) e1).trans ((congrArg (fun w => frow _ _ w _ _ n) e2).trans
    ((congrArg (fun w => frow _ _ _ w _ n) e3).trans (congrArg (fun w => frow _ _ _ _ w n) e4))))

/-- The two results are the same. -/
theorem same :
    Cert.PromptReferenceIdeal.Read.val_main_v35 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) = (dats m 0 c).arrAt 6 cfg0.N := by
  funext i
  obtain ⟨s, n, rfl⟩ : ∃ (s : Fin 16384) (n : Fin 2048), i = ix2 s n := ⟨_, _, eq_ix2 i⟩
  exact (Cert.PromptReferenceIdeal.PromptRef.out_at (m ((c : Thread nD τ).loc main_arg0)) (m ((c : Thread nD τ).loc main_arg1)) (m ((c : Thread nD τ).loc main_arg2))
    (m ((c : Thread nD τ).loc main_arg3)) (m ((c : Thread nD τ).loc main_arg4)) s n).trans (kernel_at m c s n).symm

end

theorem frame_p : Cert.quiescent_Prompt := fun m ρ _ => Cert.Prompt.Gen.frame m ρ
theorem frame_pi : Cert.quiescent_PromptIdeal := fun m ρ _ => Cert.PromptIdeal.Gen.frame m ρ
theorem frame_ri : Cert.quiescent_PromptReferenceIdeal := fun m ρ _ =>
  (θ_run Cert.PromptReferenceIdeal.defs _ _).mono (fun r h => ⟨fun c => (h c).2, Idealize.ShloMosaic.sem_eq_zero_of_no_sems (by decide) r.2⟩)
    (Cert.PromptReferenceIdeal.Value.run (F := Ideal) m ρ)

theorem preserves : Cert.preserves_Prompt_PromptIdeal := trivial

theorem algebraic : Cert.algebraic_PromptIdeal_PromptReferenceIdeal := by
  intro m ρ m' ρ' hp hagree
  refine ⟨_, Cert.PromptIdeal.Value.run_blocks m ρ, ?_⟩
  refine (θ_run Cert.PromptReferenceIdeal.defs _ _).mono (fun _ h c => ⟨(h c).1.trans ?_, (h c).2⟩) (Cert.PromptReferenceIdeal.Value.run (F := Ideal) m' ρ')
  refine (Cert.PromptReferenceIdeal.Read.val_main_v35_eq m' c).trans ?_
  obtain ⟨a0, a1, a2, a3, a4⟩ := hagree c
  rw [a0, a1, a2, a3, a4]
  exact same m c

end Cert.PromptClaims
-- ==== Proof.lean ====
module

public import proofs.«01_k».proof.Defs
public import proofs.«01_k».proof.Proof.Claims
public import proofs.«01_k».proof.Proof.FfnClaims
public import proofs.«01_k».proof.Proof.MixClaims
public import proofs.«01_k».proof.Proof.PromptClaims

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Ffn.Gen.facts, Cert.FfnIdeal.Gen.facts,
    Cert.FfnReferenceIdeal.Gen.facts, Cert.Mix.Gen.facts, Cert.MixIdeal.Gen.facts, Cert.MixReferenceIdeal.Gen.facts,
    Cert.Prompt.Gen.facts, Cert.PromptIdeal.Gen.facts, Cert.PromptReferenceIdeal.Gen.facts, Cert.Claims.preFacts,
    Cert.Claims.frame_p, Cert.Claims.frame_pi, fun m ρ _ => Cert.Claims.frame_pi m ρ trivial, Cert.Claims.frame_ri,
    fun m ρ _ => Cert.Claims.frame_ri m ρ trivial, Cert.FfnClaims.frame_p, Cert.FfnClaims.frame_pi, Cert.FfnClaims.frame_ri,
    Cert.MixClaims.frame_p, Cert.MixClaims.frame_pi, Cert.MixClaims.frame_ri, Cert.PromptClaims.frame_p,
    Cert.PromptClaims.frame_pi, Cert.PromptClaims.frame_ri, Cert.Claims.preserves,
    Cert.Claims.algebraic (hPre := Cert.Claims.preFacts), Cert.FfnClaims.preserves, Cert.FfnClaims.algebraic,
    Cert.MixClaims.preserves, Cert.MixClaims.algebraic, Cert.PromptClaims.preserves,
    Cert.PromptClaims.algebraic⟩

end Cert.Proof

end
